-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S3x512x4096 : Shape := ⟨3, ![3, 512, 4096]⟩
abbrev S256x4096 : Shape := ⟨2, ![256, 4096]⟩
abbrev S4096x128 : Shape := ⟨2, ![4096, 128]⟩
abbrev S2x1x128 : Shape := ⟨3, ![2, 1, 128]⟩
abbrev S8x1x128 : Shape := ⟨3, ![8, 1, 128]⟩
abbrev S4 : Shape := ⟨1, ![4]⟩
abbrev S14 : Shape := ⟨1, ![14]⟩
abbrev S8 : Shape := ⟨1, ![8]⟩
abbrev S_ : Shape := ⟨0, ![]⟩
abbrev S1 : Shape := ⟨1, ![1]⟩
abbrev S1x512x4096 : Shape := ⟨3, ![1, 512, 4096]⟩
abbrev S1024x128 : Shape := ⟨2, ![1024, 128]⟩
abbrev S512x1024 : Shape := ⟨2, ![512, 1024]⟩
abbrev S1x512x1024 : Shape := ⟨3, ![1, 512, 1024]⟩
abbrev S1x1x1 : Shape := ⟨3, ![1, 1, 1]⟩
abbrev S1x256x4096 : Shape := ⟨3, ![1, 256, 4096]⟩
abbrev S1x128 : Shape := ⟨2, ![1, 128]⟩
abbrev S1x1x128 : Shape := ⟨3, ![1, 1, 128]⟩
abbrev S1x8x1x128 : Shape := ⟨4, ![1, 8, 1, 128]⟩
abbrev S1x1x1x1 : Shape := ⟨4, ![1, 1, 1, 1]⟩
abbrev S256x1024 : Shape := ⟨2, ![256, 1024]⟩
abbrev S1x256x1024 : Shape := ⟨3, ![1, 256, 1024]⟩

abbrev nBuf : Space → Nat
  | .hbm => 3
  | .vmem => 11
  | .smem => 0
  | _ => 0

abbrev bufTy : (tb : Table) → Fin (tcTables nBuf tb) → BufTy
  | .hbm, ⟨0, _⟩ => ⟨S512x4096, .bf16⟩
  | .hbm, ⟨1, _⟩ => ⟨S4096x1024, .f32⟩
  | .hbm, ⟨2, _⟩ => ⟨S4096x1024, .f32⟩
  | .local _ .vmem, ⟨0, _⟩ => ⟨S512x4096, .bf16⟩
  | .local _ .vmem, ⟨1, _⟩ => ⟨S4096x1024, .f32⟩
  | .local _ .vmem, ⟨2, _⟩ => ⟨S3x512x4096, .bf16⟩
  | .local _ .vmem, ⟨3, _⟩ => ⟨S3x512x4096, .bf16⟩
  | .local _ .vmem, ⟨4, _⟩ => ⟨S256x4096, .bf16⟩
  | .local _ .vmem, ⟨5, _⟩ => ⟨S256x4096, .bf16⟩
  | .local _ .vmem, ⟨6, _⟩ => ⟨S4096x1024, .bf16⟩
  | .local _ .vmem, ⟨7, _⟩ => ⟨S4096x128, .f32⟩
  | .local _ .vmem, ⟨8, _⟩ => ⟨S2x1x128, .f32⟩
  | .local _ .vmem, ⟨9, _⟩ => ⟨S8x1x128, .f32⟩
  | .local _ .vmem, ⟨10, _⟩ => ⟨S8x1x128, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => false
  | ⟨1, _⟩ => true
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  (ofTc nBuf bufTy 2 49 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_13 : BitVec 32 := 1#32
  let v13 : BitVec 32 := Scalar.muli v7 c1_i32_13
  let v14 : BitVec 32 := Scalar.addi c0_i32_14 v13
  v14.toNat
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_20 : BitVec 32 := 1#32
  let v21 : BitVec 32 := Scalar.muli v5 c1_i32_20
  let v22 : BitVec 32 := Scalar.addi c0_i32_21 v21
  v22.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_168 : BitVec 32 := 512#32
  let v207 : BitVec 32 := Scalar.muli v2 c512_i32_168
  let v212 : Index := Scalar.indexCast v207
  let c0_172 : Index := 0#32
  ![v212.toNat, 0]
def k0_dev5 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_186 : BitVec 32 := 1#32
  let v225 : BitVec 32 := Scalar.muli v7 c1_i32_186
  let v226 : BitVec 32 := Scalar.addi c0_i32_187 v225
  v226.toNat
def k0_dev6 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_203 : BitVec 32 := 1#32
  let v241 : BitVec 32 := Scalar.muli v5 c1_i32_203
  let v242 : BitVec 32 := Scalar.addi c0_i32_204 v241
  v242.toNat
def k0_off2 (d0 : Dev nD) (c1_i32_210 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_209 : BitVec 32 := 8#32
  let v251 : BitVec 32 := Scalar.addi v2 c8_i32_209
  let v252 : BitVec 32 := Scalar.subi v251 c1_i32_210
  let c8_i32_211 : BitVec 32 := 8#32
  let v253 : BitVec 32 := Scalar.remsi v252 c8_i32_211
  let c512_i32_218 : BitVec 32 := 512#32
  let v259 : BitVec 32 := Scalar.muli v253 c512_i32_218
  let v264 : Index := Scalar.indexCast v259
  let c0_223 : Index := 0#32
  ![v264.toNat, 0]
def k0_off3 (d0 : Dev nD) (c0_i32_212 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v254 : BitVec 32 := Scalar.addi v2 c0_i32_212
  let c1_i32_213 : BitVec 32 := 1#32
  let v255 : BitVec 32 := Scalar.addi v254 c1_i32_213
  let c8_i32_214 : BitVec 32 := 8#32
  let v256 : BitVec 32 := Scalar.remsi v255 c8_i32_214
  let c512_i32_228 : BitVec 32 := 512#32
  let v273 : BitVec 32 := Scalar.muli v256 c512_i32_228
  let v278 : Index := Scalar.indexCast v273
  let c0_233 : Index := 0#32
  ![v278.toNat, 0]
def k0_dev7 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_249 : BitVec 32 := 1#32
  let v293 : BitVec 32 := Scalar.muli v7 c1_i32_249
  let v294 : BitVec 32 := Scalar.addi c0_i32_250 v293
  v294.toNat
def k0_dev8 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_269 : BitVec 32 := 1#32
  let v311 : BitVec 32 := Scalar.muli v5 c1_i32_269
  let v312 : BitVec 32 := Scalar.addi c0_i32_270 v311
  v312.toNat
def k0_dev9 (d0 : Dev nD) : Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_312 : BitVec 32 := 1#32
  let v363 : BitVec 32 := Scalar.muli v7 c1_i32_312
  let v364 : BitVec 32 := Scalar.addi c0_i32_313 v363
  v364.toNat
def k0_dev10 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_329 : BitVec 32 := 1#32
  let v379 : BitVec 32 := Scalar.muli v5 c1_i32_329
  let v380 : BitVec 32 := Scalar.addi c0_i32_330 v379
  v380.toNat
def k0_dev11 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_368 : BitVec 32 := 1#32
  let v432 : BitVec 32 := Scalar.addi v2 c1_i32_368
  let c8_i32_369 : BitVec 32 := 8#32
  let v433 : BitVec 32 := Scalar.remsi v432 c8_i32_369
  let c1_i32_374 : BitVec 32 := 1#32
  let v434 : BitVec 32 := Scalar.muli v433 c1_i32_374
  let v435 : BitVec 32 := Scalar.addi c0_i32_375 v434
  v435.toNat
def k0_dev12 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_380 : BitVec 32 := 2#32
  let v444 : BitVec 32 := Scalar.addi v2 c2_i32_380
  let c8_i32_381 : BitVec 32 := 8#32
  let v445 : BitVec 32 := Scalar.remsi v444 c8_i32_381
  let c1_i32_386 : BitVec 32 := 1#32
  let v446 : BitVec 32 := Scalar.muli v445 c1_i32_386
  let v447 : BitVec 32 := Scalar.addi c0_i32_387 v446
  v447.toNat
def k0_dev13 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_392 : BitVec 32 := 3#32
  let v456 : BitVec 32 := Scalar.addi v2 c3_i32_392
  let c8_i32_393 : BitVec 32 := 8#32
  let v457 : BitVec 32 := Scalar.remsi v456 c8_i32_393
  let c1_i32_398 : BitVec 32 := 1#32
  let v458 : BitVec 32 := Scalar.muli v457 c1_i32_398
  let v459 : BitVec 32 := Scalar.addi c0_i32_399 v458
  v459.toNat
def k0_dev14 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_404 : BitVec 32 := 4#32
  let v468 : BitVec 32 := Scalar.addi v2 c4_i32_404
  let c8_i32_405 : BitVec 32 := 8#32
  let v469 : BitVec 32 := Scalar.remsi v468 c8_i32_405
  let c1_i32_410 : BitVec 32 := 1#32
  let v470 : BitVec 32 := Scalar.muli v469 c1_i32_410
  let v471 : BitVec 32 := Scalar.addi c0_i32_411 v470
  v471.toNat
def k0_dev15 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v480 : BitVec 32 := Scalar.addi v2 c5_i32
  let c8_i32_416 : BitVec 32 := 8#32
  let v481 : BitVec 32 := Scalar.remsi v480 c8_i32_416
  let c1_i32_421 : BitVec 32 := 1#32
  let v482 : BitVec 32 := Scalar.muli v481 c1_i32_421
  let v483 : BitVec 32 := Scalar.addi c0_i32_422 v482
  v483.toNat
def k0_dev16 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v492 : BitVec 32 := Scalar.addi v2 c6_i32
  let c8_i32_427 : BitVec 32 := 8#32
  let v493 : BitVec 32 := Scalar.remsi v492 c8_i32_427
  let c1_i32_432 : BitVec 32 := 1#32
  let v494 : BitVec 32 := Scalar.muli v493 c1_i32_432
  let v495 : BitVec 32 := Scalar.addi c0_i32_433 v494
  v495.toNat
def k0_dev17 (d0 : Dev nD) : Nat :=
  let c0_i32_444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v504 : BitVec 32 := Scalar.addi v2 c7_i32
  let c8_i32_438 : BitVec 32 := 8#32
  let v505 : BitVec 32 := Scalar.remsi v504 c8_i32_438
  let c1_i32_443 : BitVec 32 := 1#32
  let v506 : BitVec 32 := Scalar.muli v505 c1_i32_443
  let v507 : BitVec 32 := Scalar.addi c0_i32_444 v506
  v507.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v421 : BitVec 32 := Scalar.addi v2 c4_i32
  let c8_i32_358 : BitVec 32 := 8#32
  let v422 : BitVec 32 := Scalar.remsi v421 c8_i32_358
  let c512_i32_557 : BitVec 32 := 512#32
  let v616 : BitVec 32 := Scalar.muli v422 c512_i32_557
  let v621 : Index := Scalar.indexCast v616
  let c0_562 : Index := 0#32
  ![v621.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v421 : BitVec 32 := Scalar.addi v2 c4_i32
  let c8_i32_358 : BitVec 32 := 8#32
  let v422 : BitVec 32 := Scalar.remsi v421 c8_i32_358
  let c512_i32_567 : BitVec 32 := 512#32
  let v629 : BitVec 32 := Scalar.muli v422 c512_i32_567
  let c256_i32_568 : BitVec 32 := 256#32
  let v630 : BitVec 32 := Scalar.addi v629 c256_i32_568
  let v635 : Index := Scalar.indexCast v630
  let c0_573 : Index := 0#32
  ![v635.toNat, 0]
def k0_dev18 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_584 : BitVec 32 := 1#32
  let v651 : BitVec 32 := Scalar.addi v2 c1_i32_584
  let c8_i32_585 : BitVec 32 := 8#32
  let v652 : BitVec 32 := Scalar.remsi v651 c8_i32_585
  let c1_i32_590 : BitVec 32 := 1#32
  let v653 : BitVec 32 := Scalar.muli v652 c1_i32_590
  let v654 : BitVec 32 := Scalar.addi c0_i32_591 v653
  v654.toNat
def k0_dev19 (d0 : Dev nD) : Nat :=
  let c0_i32_603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_596 : BitVec 32 := 2#32
  let v663 : BitVec 32 := Scalar.addi v2 c2_i32_596
  let c8_i32_597 : BitVec 32 := 8#32
  let v664 : BitVec 32 := Scalar.remsi v663 c8_i32_597
  let c1_i32_602 : BitVec 32 := 1#32
  let v665 : BitVec 32 := Scalar.muli v664 c1_i32_602
  let v666 : BitVec 32 := Scalar.addi c0_i32_603 v665
  v666.toNat
def k0_dev20 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_608 : BitVec 32 := 3#32
  let v675 : BitVec 32 := Scalar.addi v2 c3_i32_608
  let c8_i32_609 : BitVec 32 := 8#32
  let v676 : BitVec 32 := Scalar.remsi v675 c8_i32_609
  let c1_i32_613 : BitVec 32 := 1#32
  let v677 : BitVec 32 := Scalar.muli v676 c1_i32_613
  let v678 : BitVec 32 := Scalar.addi c0_i32_614 v677
  v678.toNat
def k0_dev21 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_619 : BitVec 32 := 4#32
  let v687 : BitVec 32 := Scalar.addi v2 c4_i32_619
  let c8_i32_620 : BitVec 32 := 8#32
  let v688 : BitVec 32 := Scalar.remsi v687 c8_i32_620
  let c1_i32_624 : BitVec 32 := 1#32
  let v689 : BitVec 32 := Scalar.muli v688 c1_i32_624
  let v690 : BitVec 32 := Scalar.addi c0_i32_625 v689
  v690.toNat
def k0_dev22 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_630 : BitVec 32 := 5#32
  let v699 : BitVec 32 := Scalar.addi v2 c5_i32_630
  let c8_i32_631 : BitVec 32 := 8#32
  let v700 : BitVec 32 := Scalar.remsi v699 c8_i32_631
  let c1_i32_635 : BitVec 32 := 1#32
  let v701 : BitVec 32 := Scalar.muli v700 c1_i32_635
  let v702 : BitVec 32 := Scalar.addi c0_i32_636 v701
  v702.toNat
def k0_dev23 (d0 : Dev nD) : Nat :=
  let c0_i32_647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_641 : BitVec 32 := 6#32
  let v711 : BitVec 32 := Scalar.addi v2 c6_i32_641
  let c8_i32_642 : BitVec 32 := 8#32
  let v712 : BitVec 32 := Scalar.remsi v711 c8_i32_642
  let c1_i32_646 : BitVec 32 := 1#32
  let v713 : BitVec 32 := Scalar.muli v712 c1_i32_646
  let v714 : BitVec 32 := Scalar.addi c0_i32_647 v713
  v714.toNat
def k0_dev24 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_652 : BitVec 32 := 7#32
  let v723 : BitVec 32 := Scalar.addi v2 c7_i32_652
  let c8_i32_653 : BitVec 32 := 8#32
  let v724 : BitVec 32 := Scalar.remsi v723 c8_i32_653
  let c1_i32_657 : BitVec 32 := 1#32
  let v725 : BitVec 32 := Scalar.muli v724 c1_i32_657
  let v726 : BitVec 32 := Scalar.addi c0_i32_658 v725
  v726.toNat
def k0_dev25 (d0 : Dev nD) : Nat :=
  let c0_i32_952_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_948_r0 : BitVec 32 := 1#32
  let v989_r0 : BitVec 32 := Scalar.addi v2 c1_i32_948_r0
  let c8_i32_949_r0 : BitVec 32 := 8#32
  let v990_r0 : BitVec 32 := Scalar.remsi v989_r0 c8_i32_949_r0
  let c1_i32_951_r0 : BitVec 32 := 1#32
  let v991_r0 : BitVec 32 := Scalar.muli v990_r0 c1_i32_951_r0
  let v992_r0 : BitVec 32 := Scalar.addi c0_i32_952_r0 v991_r0
  v992_r0.toNat
def k0_dev26 (d0 : Dev nD) : Nat :=
  let c0_i32_957_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_953_r0 : BitVec 32 := 2#32
  let v993_r0 : BitVec 32 := Scalar.addi v2 c2_i32_953_r0
  let c8_i32_954_r0 : BitVec 32 := 8#32
  let v994_r0 : BitVec 32 := Scalar.remsi v993_r0 c8_i32_954_r0
  let c1_i32_956_r0 : BitVec 32 := 1#32
  let v995_r0 : BitVec 32 := Scalar.muli v994_r0 c1_i32_956_r0
  let v996_r0 : BitVec 32 := Scalar.addi c0_i32_957_r0 v995_r0
  v996_r0.toNat
def k0_dev27 (d0 : Dev nD) : Nat :=
  let c0_i32_962_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_958_r0 : BitVec 32 := 3#32
  let v997_r0 : BitVec 32 := Scalar.addi v2 c3_i32_958_r0
  let c8_i32_959_r0 : BitVec 32 := 8#32
  let v998_r0 : BitVec 32 := Scalar.remsi v997_r0 c8_i32_959_r0
  let c1_i32_961_r0 : BitVec 32 := 1#32
  let v999_r0 : BitVec 32 := Scalar.muli v998_r0 c1_i32_961_r0
  let v1000_r0 : BitVec 32 := Scalar.addi c0_i32_962_r0 v999_r0
  v1000_r0.toNat
def k0_dev28 (d0 : Dev nD) : Nat :=
  let c0_i32_967_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_963_r0 : BitVec 32 := 4#32
  let v1001_r0 : BitVec 32 := Scalar.addi v2 c4_i32_963_r0
  let c8_i32_964_r0 : BitVec 32 := 8#32
  let v1002_r0 : BitVec 32 := Scalar.remsi v1001_r0 c8_i32_964_r0
  let c1_i32_966_r0 : BitVec 32 := 1#32
  let v1003_r0 : BitVec 32 := Scalar.muli v1002_r0 c1_i32_966_r0
  let v1004_r0 : BitVec 32 := Scalar.addi c0_i32_967_r0 v1003_r0
  v1004_r0.toNat
def k0_dev29 (d0 : Dev nD) : Nat :=
  let c0_i32_972_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_968_r0 : BitVec 32 := 5#32
  let v1005_r0 : BitVec 32 := Scalar.addi v2 c5_i32_968_r0
  let c8_i32_969_r0 : BitVec 32 := 8#32
  let v1006_r0 : BitVec 32 := Scalar.remsi v1005_r0 c8_i32_969_r0
  let c1_i32_971_r0 : BitVec 32 := 1#32
  let v1007_r0 : BitVec 32 := Scalar.muli v1006_r0 c1_i32_971_r0
  let v1008_r0 : BitVec 32 := Scalar.addi c0_i32_972_r0 v1007_r0
  v1008_r0.toNat
def k0_dev30 (d0 : Dev nD) : Nat :=
  let c0_i32_977_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_973_r0 : BitVec 32 := 6#32
  let v1009_r0 : BitVec 32 := Scalar.addi v2 c6_i32_973_r0
  let c8_i32_974_r0 : BitVec 32 := 8#32
  let v1010_r0 : BitVec 32 := Scalar.remsi v1009_r0 c8_i32_974_r0
  let c1_i32_976_r0 : BitVec 32 := 1#32
  let v1011_r0 : BitVec 32 := Scalar.muli v1010_r0 c1_i32_976_r0
  let v1012_r0 : BitVec 32 := Scalar.addi c0_i32_977_r0 v1011_r0
  v1012_r0.toNat
def k0_dev31 (d0 : Dev nD) : Nat :=
  let c0_i32_982_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_978_r0 : BitVec 32 := 7#32
  let v1013_r0 : BitVec 32 := Scalar.addi v2 c7_i32_978_r0
  let c8_i32_979_r0 : BitVec 32 := 8#32
  let v1014_r0 : BitVec 32 := Scalar.remsi v1013_r0 c8_i32_979_r0
  let c1_i32_981_r0 : BitVec 32 := 1#32
  let v1015_r0 : BitVec 32 := Scalar.muli v1014_r0 c1_i32_981_r0
  let v1016_r0 : BitVec 32 := Scalar.addi c0_i32_982_r0 v1015_r0
  v1016_r0.toNat
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x8192, .f32⟩
  | .local _ .vmem, ⟨0, _⟩ => ⟨S4096x4096, .bf16⟩
  | .local _ .vmem, ⟨1, _⟩ => ⟨S4096x8192, .f32⟩
  | .local _ .vmem, ⟨2, _⟩ => ⟨S4096x8192, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Sched.lean ====
/-
The protocol of the ring kernel, before any Lean of its run.

Devices 0..7 stand on a ring; `pl c d` is the device `d` places to the right of `c`.

* Barrier: device `c` signals both neighbours. Its signal to the left hands over what the left neighbour writes here
  (the three slots and the half of the right-going gather) together with rows 1..4 of both amax tables; its signal to the
  right hands over the left-going slots and half, and rows 5..7 of both tables.
* Copies: the right-going gather (`cw`) brings to slot `h` of device `r` the rows of device `r - (h+1)`, the left-going
  one (`ccw`) those of `r + (h+1)`; the last hop carries half of the opposite device's rows each way. Row `d` of a table
  of device `t` is written by device `t - d`, and the right to write it travels to that device with the copies:
  rows 2..4 with the left-going ones, rows 5..6 with the right-going ones.
* Every transfer's send cell returns the share of its source the transfer was lent.
* The acknowledgement cell takes one unit from each of the seven other devices and hands over nothing.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) ℕ
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb
abbrev 𝒱₀ : Variants := Variants.none

variable (m : (ℓ : Loc nD τ sig) → Buf (Elt F) ℓ)

/-! ## The ring -/

set_option backward.proofsInPublic true in
/-- The device `d` places to the right of `c`. -/
def pl (c : Dev nD) (d : ℕ) : Dev nD := ⟨(c.val + d) % 8, Nat.mod_lt _ (by decide)⟩

/-- Two moves round the ring are one. -/
theorem pl_pl (c : Dev nD) (a b : ℕ) : pl (pl c a) b = pl c (a + b) := by
  apply Fin.ext; show ((c.val + a) % 8 + b) % 8 = (c.val + (a + b)) % 8; omega
/-- Moves count modulo eight. -/
theorem pl_mod (c : Dev nD) (a : ℕ) : pl c (a % 8) = pl c a := by
  apply Fin.ext; show (c.val + a % 8) % 8 = (c.val + a) % 8; omega
/-- No move leads nowhere. -/
theorem pl_zero (c : Dev nD) : pl c 0 = c := by
  apply Fin.ext; show (c.val + 0) % 8 = c.val; have : c.val < 8 := c.isLt; omega
/-- Eight moves lead back. -/
theorem pl_eight (c : Dev nD) : pl c 8 = c := by
  apply Fin.ext; show (c.val + 8) % 8 = c.val; have : c.val < 8 := c.isLt; omega

/-- A device named by its number's closed form is `pl c d`. -/
theorem dev_eq (c : Dev nD) (d n : ℕ) (hn : n < nD) (h : n = (c.val + d) % 8) : (⟨n, hn⟩ : Dev nD) = pl c d := Fin.ext h

/-! ## The memrefs -/

abbrev xM : Memref sig .tc .vmem S512x4096 .bf16 := Memref.whole cc0_stg0_0
abbrev oM : Memref sig .tc .vmem S4096x1024 .f32 := Memref.whole cc0_stg1_0
abbrev wM : Memref sig .tc .hbm S4096x1024 .f32 := Memref.whole main_arg1
abbrev cwM : Memref sig .tc .vmem S3x512x4096 .bf16 := Memref.whole cc0_scratch0
abbrev ccM : Memref sig .tc .vmem S3x512x4096 .bf16 := Memref.whole cc0_scratch1
abbrev cwH : Memref sig .tc .vmem S256x4096 .bf16 := Memref.whole cc0_scratch2
abbrev ccH : Memref sig .tc .vmem S256x4096 .bf16 := Memref.whole cc0_scratch3
abbrev wbM : Memref sig .tc .vmem S4096x1024 .bf16 := Memref.whole cc0_scratch4
abbrev wsM : Memref sig .tc .vmem S4096x128 .f32 := Memref.whole cc0_scratch5
abbrev amM : Memref sig .tc .vmem S2x1x128 .f32 := Memref.whole cc0_scratch6
abbrev gM1 : Memref sig .tc .vmem S8x1x128 .f32 := Memref.whole cc0_scratch7
abbrev gM2 : Memref sig .tc .vmem S8x1x128 .f32 := Memref.whole cc0_scratch8

/-- A slot lies in its gather buffer, -/
theorem slot_inb (h : Fin 3) : ∀ a, (![h.val, 0, 0] : Fin 3 → ℕ) a + S1x512x4096.size a ≤ S3x512x4096.size a := by revert h; decide
/-- a half in slot 2, -/
theorem half_inb (k : Fin 2) : ∀ a, (![2, 256 * k.val, 0] : Fin 3 → ℕ) a + S1x256x4096.size a ≤ S3x512x4096.size a := by revert k; decide
/-- a row in its table, -/
theorem row_inb (d : Fin 8) : ∀ a, (![d.val, 0, 0] : Fin 3 → ℕ) a + S1x1x128.size a ≤ S8x1x128.size a := by revert d; decide
/-- and a row in the source of maxima. -/
theorem src_inb (r : Fin 2) : ∀ a, (![r.val, 0, 0] : Fin 3 → ℕ) a + S1x1x128.size a ≤ S2x1x128.size a := by revert r; decide

/-- Slot `h` of a gather buffer, as the rectangle a load goes through and as the memref a transfer goes through. -/
abbrev slotR (h : Fin 3) : Rect S3x512x4096 := Rect.unit (s := S3x512x4096) ![h.val, 0, 0] S1x512x4096.size (slot_inb h)
abbrev slotM (M : Memref sig .tc .vmem S3x512x4096 .bf16) (h : Fin 3) : Memref sig .tc .vmem S512x4096 .bf16 :=
  (M.slice (slotR h) (fun _ => rfl)).squeeze S512x4096 squeezes_S1x512x4096_S512x4096
/-- Half `k` of slot 2. -/
abbrev halfR (k : Fin 2) : Rect S3x512x4096 := Rect.unit (s := S3x512x4096) ![2, 256 * k.val, 0] S1x256x4096.size (half_inb k)
abbrev halfM (M : Memref sig .tc .vmem S3x512x4096 .bf16) (k : Fin 2) : Memref sig .tc .vmem S256x4096 .bf16 :=
  (M.slice (halfR k) (fun _ => rfl)).squeeze S256x4096 squeezes_S1x256x4096_S256x4096
/-- Row `d` of an amax table. -/
abbrev rowR (d : Fin 8) : Rect S8x1x128 := Rect.unit (s := S8x1x128) ![d.val, 0, 0] S1x1x128.size (row_inb d)
abbrev rowM (M : Memref sig .tc .vmem S8x1x128 .f32) (d : Fin 8) : Memref sig .tc .vmem S1x128 .f32 :=
  (M.slice (rowR d) (fun _ => rfl)).squeeze S1x128 squeezes_S1x1x128_S1x128
/-- Row `r` of the amax source. -/
abbrev srcR (r : Fin 2) : Rect S2x1x128 := Rect.unit (s := S2x1x128) ![r.val, 0, 0] S1x1x128.size (src_inb r)
abbrev srcM (r : Fin 2) : Memref sig .tc .vmem S1x128 .f32 :=
  (amM.slice (srcR r) (fun _ => rfl)).squeeze S1x128 squeezes_S1x1x128_S1x128

/-! ## The cells -/

abbrev barS : Sem sig := (SemArray.scalar (sig.barrier 0 rfl) : Sems sig S_).sem
abbrev ackS : Sem sig := (cc0_scoped0 : Sems sig S_).sem
/-- DMA semaphore number `j`. -/
abbrev dm (j : Fin 49) : DmaSem sig := j

/-- The cells under the protocol: the DMA semaphores 2..47, the barrier semaphore and the acknowledgement semaphore. -/
def csem (k : Fin 48) : SemLoc sig :=
  if h : k.val < 46 then .dma (dm ⟨k.val + 2, by omega⟩) else if k.val = 46 then .reg barS else .reg ackS

/-! ## Contents -/

/-- Device `c`'s rows of `x`, as the launch stages them. -/
def xs (c : Dev nD) : S512x4096.Idx → Elt F .bf16 := (win0_0.blk (0 : Fin 1)).view.read (Elt F) (m ((c : Thread nD τ).loc main_arg0))
/-- Device `c`'s columns of `w`. -/
def wsv (c : Dev nD) : S4096x1024.Idx → Elt F .f32 := wM.view.read (Elt F) (m ((c : Thread nD τ).loc main_arg1))
/-- The same, truncated. -/
def wb (c : Dev nD) : S4096x1024.Idx → Elt F .bf16 := truncf (s := S4096x1024) .bf16 (wsv m c : FVec F S4096x1024 .f32) bitsLt_bf16_f32
/-- Rows as a slot of a gather buffer reads. -/
def x3 (X : S512x4096.Idx → Elt F .bf16) : S1x512x4096.Idx → Elt F .bf16 := shapeCast S1x512x4096 X (by decide)

/-- Half `k` of 512 rows. -/
def xh (k : Fin 2) (X : S512x4096.Idx → Elt F .bf16) : S256x4096.Idx → Elt F .bf16 :=
  fun i => X (Fin.cons (⟨256 * k.val + (i 0).val, by have h1 : (i 0).val < 256 := (i 0).isLt; have h2 : k.val < 2 := k.isLt; show 256 * k.val + (i 0).val < 512; omega⟩ : Fin 512)
    (Fin.cons (⟨(i 1).val, (i 1).isLt⟩ : Fin 4096) finZeroElim))

/-- The row of amaxes device `c` sends in the first round: over its own block and the six the first three hops bring. -/
def am1 (c : Dev nD) : S1x1x128.Idx → Elt F .f32 :=
  k0_pay49
    (k0_pay45 (k0_pay41 (k0_pay38 (k0_pay36 (xs m c) (wb m c)) (x3 (xs m (pl c 7))) (wb m c)) (k0_pay40 (x3 (xs m (pl c 1))) (wb m c)))
      (k0_pay43 (x3 (xs m (pl c 6))) (wb m c)) (x3 (xs m (pl c 2))) (wb m c))
    (k0_pay46 (x3 (xs m (pl c 5)))) (wb m c) (constant S512x1024 .f32 0x00000000#32) (x3 (xs m (pl c 3))) (wb m c)
/-- The row it sends in the second round: over the two halves of the opposite device's block. -/
def am2 (c : Dev nD) : S1x1x128.Idx → Elt F .f32 :=
  k0_pay74 (k0_pay72 (xh 0 (xs m (pl c 4))) (wb m c)) (xh 1 (xs m (pl c 4))) (wb m c)
/-- The same as a row without the leading axis. -/
def row (a : S1x1x128.Idx → Elt F .f32) : S1x128.Idx → Elt F .f32 := k0_pay50 a

/-! ## Assertions on a memref -/

/-- The memref's elements on device `c`, at share `q`, reading `X`. -/
def has {sp : Space} {s : Shape} {e : EltTy} (M : Memref sig .tc sp s e) (c : Dev nD) (q : PosShare TreeShare) (X : s.Idx → Elt F e) : sProp 𝕄 :=
  iprop(∃ f : Buf (Elt F) (M.view.loc (c : Thread nD τ)), ⌜M.view.read (Elt F) f = X⌝ ∗ (M.view.loc (c : Thread nD τ) ↦[M.view.set]{q} f))
/-- The same at some contents. -/
def any {sp : Space} {s : Shape} {e : EltTy} (M : Memref sig .tc sp s e) (c : Dev nD) (q : PosShare TreeShare) : sProp 𝕄 :=
  iprop(∃ f : Buf (Elt F) (M.view.loc (c : Thread nD τ)), (M.view.loc (c : Thread nD τ) ↦[M.view.set]{q} f))

omit [FloatOps F] in
/-- A choice of two assertions that may be kept in an invariant may be kept in it. -/
theorem ite_storable {p : Prop} [Decidable p] {A B : sProp 𝕄} (hA : BI.Storable (upEmb : UEmb _ 𝕄) A) (hB : BI.Storable (upEmb : UEmb _ 𝕄) B) :
    BI.Storable (upEmb : UEmb _ 𝕄) (if p then A else B) := by split <;> assumption
omit [FloatOps F] in
instance has_storable {sp : Space} {s : Shape} {e : EltTy} (M : Memref sig .tc sp s e) (c : Dev nD) (q : PosShare TreeShare) (X : s.Idx → Elt F e) :
    BI.Storable (upEmb : UEmb _ 𝕄) (has M c q X) := by unfold has; infer_instance
omit [FloatOps F] in
instance any_storable {sp : Space} {s : Shape} {e : EltTy} (M : Memref sig .tc sp s e) (c : Dev nD) (q : PosShare TreeShare) :
    BI.Storable (upEmb : UEmb _ 𝕄) (any (F := F) M c q) := by unfold any; infer_instance

/-- Rows `d` of both tables of device `t`. -/
def gs (t : Dev nD) (d : Fin 8) : sProp 𝕄 := iprop(any (rowM gM1 d) t fullShare ∗ any (rowM gM2 d) t fullShare)
omit [FloatOps F] in
instance gs_storable (t : Dev nD) (d : Fin 8) : BI.Storable (upEmb : UEmb _ 𝕄) (gs (F := F) t d) := by unfold gs; infer_instance

/-- What is left of a share after `n` pieces have been lent, and the `n`-th piece. -/
def rest : ℕ → PosShare TreeShare | 0 => fullShare | n + 1 => (rest n).right
def piece (n : ℕ) : PosShare TreeShare := (rest n).left

/-! ## The schedule -/

/-- What the right neighbour `t` of `c` hands `c` with its signal, -/
def barR (t : Dev nD) : sProp 𝕄 :=
  iprop(any (slotM cwM 0) t fullShare ∗ any (slotM cwM 1) t fullShare ∗ any (slotM cwM 2) t fullShare ∗ any cwH t fullShare
    ∗ gs t 1 ∗ gs t 2 ∗ gs t 3 ∗ gs t 4)
/-- and the left neighbour. -/
def barL (t : Dev nD) : sProp 𝕄 :=
  iprop(any (slotM ccM 0) t fullShare ∗ any (slotM ccM 1) t fullShare ∗ any (slotM ccM 2) t fullShare ∗ any ccH t fullShare
    ∗ gs t 5 ∗ gs t 6 ∗ gs t 7)

/-- What travels with the arrival at cell `j`: the rights to write table rows. -/
def extra (c : Dev nD) (j : ℕ) : sProp 𝕄 :=
  if j = 6 then iprop(gs (pl c 6) 5 ∗ gs (pl c 6) 6)
  else if j = 7 then gs (pl c 5) 5
  else if j = 14 then iprop(gs (pl c 2) 2 ∗ gs (pl c 2) 3 ∗ gs (pl c 2) 4)
  else if j = 15 then iprop(gs (pl c 3) 3 ∗ gs (pl c 3) 4)
  else if j = 16 then gs (pl c 4) 4
  else iprop(emp)

omit [FloatOps F] in
instance extra_storable (c : Dev nD) (j : ℕ) : BI.Storable (upEmb : UEmb _ 𝕄) (extra (F := F) c j) := by
  unfold extra; (repeat' split) <;> infer_instance

/-- The payload of the ring copies' cells. -/
def payRing (c : Dev nD) (j : ℕ) : sProp 𝕄 :=
  if j = 2 then any xM c (piece 0)
  else if j = 3 then any (slotM cwM 0) c (piece 0)
  else if j = 4 then any (slotM cwM 1) c (piece 0)
  else if j = 5 then any (halfM cwM 0) c (piece 0)
  else if j = 6 then has (slotM cwM 0) c fullShare (xs m (pl c 7))
  else if j = 7 then has (slotM cwM 1) c fullShare (xs m (pl c 6))
  else if j = 8 then has (slotM cwM 2) c fullShare (xs m (pl c 5))
  else if j = 9 then has cwH c fullShare (xh 0 (xs m (pl c 4)))
  else if j = 10 then any xM c (piece 1)
  else if j = 11 then any (slotM ccM 0) c (piece 0)
  else if j = 12 then any (slotM ccM 1) c (piece 0)
  else if j = 13 then any (halfM ccM 1) c (piece 0)
  else if j = 14 then has (slotM ccM 0) c fullShare (xs m (pl c 1))
  else if j = 15 then has (slotM ccM 1) c fullShare (xs m (pl c 2))
  else if j = 16 then has (slotM ccM 2) c fullShare (xs m (pl c 3))
  else if j = 17 then has ccH c fullShare (xh 1 (xs m (pl c 4)))
  else iprop(emp)

instance payRing_storable (c : Dev nD) (j : ℕ) : BI.Storable (upEmb : UEmb _ 𝕄) (payRing (F := F) m c j) := by
  unfold payRing; (repeat' apply ite_storable) <;> infer_instance

/-- The payload of the amax exchange's cells. -/
def payAmax (c : Dev nD) (j : ℕ) : sProp 𝕄 :=
  if j < 25 then any (srcM 0) c (piece (j - 18))
  else if j < 32 then any (srcM 1) c (piece (j - 25))
  else if h : j < 40 then has (rowM gM1 ⟨j - 32, by omega⟩) c fullShare (row (am1 m (pl c (8 - (j - 32)))))
  else if h : j < 48 then has (rowM gM2 ⟨j - 40, by omega⟩) c fullShare (row (am2 m (pl c (8 - (j - 40)))))
  else iprop(emp)

instance payAmax_storable (c : Dev nD) (j : ℕ) : BI.Storable (upEmb : UEmb _ 𝕄) (payAmax (F := F) m c j) := by
  unfold payAmax; (repeat' split) <;> infer_instance

/-- The payload of duty `d` of a cell of device `c`. -/
def pay (c : Dev nD) (sm : SemLoc sig) (d : ℕ) : sProp 𝕄 :=
  match sm with
  | .dma j => if j.val < 18 then iprop(payRing m c j.val ∗ extra c j.val) else payAmax m c j.val
  | .reg s => if s = barS then (if d = 0 then barL (pl c 7) else barR (pl c 1)) else iprop(emp)

instance pay_storable (c : Dev nD) (sm : SemLoc sig) (d : ℕ) : BI.Storable (upEmb : UEmb _ 𝕄) (pay (F := F) m c sm d) := by
  unfold pay barL barR
  (repeat' split) <;> infer_instance

/-- The duties of a cell: the barrier has one per neighbour, the acknowledgement one per other device, a DMA cell one. -/
def dut (sm : SemLoc sig) : Finset ℕ :=
  match sm with
  | .dma j => if 2 ≤ j.val ∧ j.val < 48 ∧ j.val ≠ 32 ∧ j.val ≠ 40 then {0} else ∅
  | .reg s => if s = barS then {0, 1} else if s = ackS then {1, 2, 3, 4, 5, 6, 7} else ∅

/-- Units per duty: bytes over 32 for a transfer. -/
def amt (sm : SemLoc sig) : ℕ :=
  match sm with
  | .dma j => if j.val = 5 ∨ j.val = 9 ∨ j.val = 13 ∨ j.val = 17 then 65536 else if j.val < 18 then 131072 else 16
  | .reg _ => 1

/-- Every payment is positive. -/
theorem amt_pos (sm : SemLoc sig) : 0 < amt sm := by
  unfold amt; (repeat' split) <;> decide

/-- One round, round 0. -/
def Rd : Rounds.Schedule (GSem nD τ sig) ℕ 𝕄 where
  duties g r := if r = 0 ∧ g.1.2 = .tc then dut g.2 else ∅
  unitless _ := False
  amount g _ _ := amt g.2
  payload g _ d := pay m g.1.1 g.2 d
  amount_pos g _ _ _ := amt_pos g.2

instance Rd_storable (g : GSem nD τ sig) (r : ℕ) (d : ℕ) : BI.Storable (upEmb : UEmb _ 𝕄) ((Rd (F := F) m).payload g r d) := by
  show BI.Storable upEmb (pay m g.1.1 g.2 d); infer_instance

/-- The duties of a cell's only round, -/
theorem duties_eq (c : Dev nD) (sm : SemLoc sig) : (Rd (F := F) m).duties ((c : Thread nD τ), sm) 0 = dut sm := by
  show (if (0 : ℕ) = 0 ∧ ((c : Thread nD τ), sm).1.2 = Proc.tc then dut sm else ∅) = dut sm
  exact if_pos ⟨rfl, rfl⟩
/-- of which later rounds have none, -/
theorem duties_later (g : GSem nD τ sig) : ∀ r, 1 ≤ r → (Rd (F := F) m).duties g r = ∅ :=
  fun r hr => if_neg fun h => by omega
/-- their amount, -/
theorem amount_eq (c : Dev nD) (sm : SemLoc sig) (d : ℕ) : (Rd (F := F) m).amount ((c : Thread nD τ), sm) 0 d = amt sm := rfl
/-- what they hand over, -/
theorem payload_eq (c : Dev nD) (sm : SemLoc sig) (d : ℕ) : (Rd (F := F) m).payload ((c : Thread nD τ), sm) 0 d = pay m c sm d := rfl
/-- and what the round's wait expects in all. -/
theorem expect_eq (c : Dev nD) (sm : SemLoc sig) : (Rd (F := F) m).expect ((c : Thread nD τ), sm) 0 = (dut sm).card * amt sm := by
  unfold Schedule.expect Schedule.amountOf
  rw [duties_eq, Finset.sum_congr rfl fun d _ => amount_eq m c sm d, Finset.sum_const, smul_eq_mul]

/-! ## What a device owes, in the order it pays -/

/-- One payment: to which place, to which cell there, by which duty. -/
structure Ob where
  off : ℕ
  sm : SemLoc sig
  duty : ℕ

abbrev D (j : Fin 49) : SemLoc sig := .dma (dm j)

/-- The payments to other devices in program order. -/
def obs : List Ob :=
  [⟨7, .reg barS, 1⟩, ⟨1, .reg barS, 0⟩,
   ⟨1, D 6, 0⟩, ⟨7, D 14, 0⟩, ⟨1, D 7, 0⟩, ⟨7, D 15, 0⟩, ⟨1, D 8, 0⟩, ⟨7, D 16, 0⟩, ⟨1, D 9, 0⟩, ⟨7, D 17, 0⟩,
   ⟨1, D 33, 0⟩, ⟨2, D 34, 0⟩, ⟨3, D 35, 0⟩, ⟨4, D 36, 0⟩, ⟨5, D 37, 0⟩, ⟨6, D 38, 0⟩, ⟨7, D 39, 0⟩,
   ⟨1, D 41, 0⟩, ⟨2, D 42, 0⟩, ⟨3, D 43, 0⟩, ⟨4, D 44, 0⟩, ⟨5, D 45, 0⟩, ⟨6, D 46, 0⟩, ⟨7, D 47, 0⟩,
   ⟨1, .reg ackS, 1⟩, ⟨2, .reg ackS, 2⟩, ⟨3, .reg ackS, 3⟩, ⟨4, .reg ackS, 4⟩, ⟨5, .reg ackS, 5⟩, ⟨6, .reg ackS, 6⟩, ⟨7, .reg ackS, 7⟩]

/-- The tallies of a list of payments. -/
def owed (c : Dev nD) : List Ob → CellTallies nD τ sig Unit
  | [] => 0
  | o :: l => owed c l + tallyAt ((pl c o.off : Thread nD τ), o.sm) () (amt o.sm)

/-- The debt after `n` payments. -/
abbrev ow (c : Dev nD) (n : ℕ) : CellTallies nD τ sig Unit := owed c (obs.drop n)

/-! ## Levels -/

def L (g : GSem nD τ sig) : Finset Unit := if g.1.2 = .tc then {()} else ∅
/-- Levels of the cells: staging and send cells 0, barrier 1, then the arrivals in the order they are awaited. -/
def lvs (sm : SemLoc sig) : ℕ :=
  match sm with
  | .dma j => if j.val = 6 then 2 else if j.val = 14 then 3 else if j.val = 7 then 4 else if j.val = 15 then 5 else if j.val = 8 then 6
      else if j.val = 16 then 7 else if j.val = 9 then 8 else if j.val = 17 then 9
      else if 32 ≤ j.val ∧ j.val < 40 then 8 else if 40 ≤ j.val ∧ j.val < 48 then 11 else 0
  | .reg s => if s = barS then 1 else 12
def lv (g : GSem nD τ sig) (_ : Unit) : ℕ := lvs g.2

/-- Only a device's main core has levels, -/
theorem L_of_ne (g : GSem nD τ sig) (h : g.1.2 ≠ .tc) : L g = ∅ := if_neg h
/-- one for each cell. -/
theorem L_tc (c : Dev nD) (sm : SemLoc sig) : L ((c : Thread nD τ), sm) = {()} := if_pos rfl

/-- What is owed is owed by a payment in the list. -/
theorem owed_pos (c : Dev nD) (l : List Ob) {g : GSem nD τ sig} {u : Unit} (h : 0 < owed c l g u) :
    ∃ o ∈ l, g = ((pl c o.off : Thread nD τ), o.sm) := by
  induction l with
  | nil => exact absurd h (Nat.lt_irrefl 0)
  | cons o l ih =>
    rw [owed, Pi.add_apply, Finsupp.add_apply, tallyAt_apply] at h
    by_cases hg : g = ((pl c o.off : Thread nD τ), o.sm) ∧ u = ()
    · exact ⟨o, List.mem_cons_self, hg.1⟩
    · rw [if_neg hg, Nat.add_zero] at h
      obtain ⟨o', ho', hg'⟩ := ih h
      exact ⟨o', List.mem_cons_of_mem _ ho', hg'⟩

omit [FloatOps F] in
/-- A wait on cell `sm` is allowed while the payments `l` are open, when each of them has a higher level. -/
theorem mayWait (c : Dev nD) (sm : SemLoc sig) (l : List Ob) (h : ∀ o ∈ l, lvs sm < lvs o.sm) :
    (levAts L lv : sProp 𝕄) ⊢ MayWait (c : Thread nD τ) sm () (owed c l) :=
  MayOwe.of_cut (L := L) (lev := lv) (lvs sm) (fun p hp => by rw [Finset.mem_singleton.mp hp, L_tc]; exact Finset.mem_singleton_self _)
    (fun g u hg => by obtain ⟨o, ho, rfl⟩ := owed_pos c l hg; rw [L_tc]; exact Finset.mem_singleton_self _)
    (fun p hp => by rw [Finset.mem_singleton.mp hp]; exact Nat.le_refl _)
    (fun g u hg => by obtain ⟨o, ho, rfl⟩ := owed_pos c l hg; exact h o ho)

omit [FloatOps F] in
/-- The waits of local transfers, on the staging semaphores and the weight semaphore, are always allowed. -/
theorem mayWait_low (c : Dev nD) (sm : SemLoc sig) (n : ℕ) (h : lvs sm = 0) :
    (levAts L lv : sProp 𝕄) ⊢ MayWait (c : Thread nD τ) sm () (ow c n) :=
  mayWait c sm _ (fun o ho => by
    rw [h]; have : ∀ o ∈ obs, 0 < lvs o.sm := by decide
    exact this o (List.mem_of_mem_drop ho))

end Cert.KernelIdeal.Ring

end
-- ==== Proof.Steps.lean ====
/-
One rule per kind of statement of the kernel, in the terms of the protocol (Sched): a signal, an addressed copy and a wait
pay or take one duty of the schedule; the loads and stores read and rewrite the buffers by coordinates.
-/
module

public import proofs.«01_k».proof.Proof.Sched

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A program's run on device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes after `n` payments, its record of waits left open. -/
def ows (c : Dev nD) (n : ℕ) : sProp 𝕄 := iprop(∃ W : Waits sig Unit, owes (c : Thread nD τ) (ow c n) W)

/-- The cell of a semaphore in the list of cells. -/
def idx : SemLoc sig → Fin 48
  | .dma j => if h : j.val - 2 < 46 then ⟨j.val - 2, by omega⟩ else 0
  | .reg s => if s = barS then 46 else 47

def kcell (ck : Dev nD × Fin 48) : GSem nD τ sig := ((ck.1 : Thread nD τ), csem ck.2)

/-- The facts every device may use at any time: each cell's protocol stands, its round 0 is open, and the levels. -/
def records (K : Dev nD × Fin 48 → ℕ) : sProp 𝕄 :=
  iprop((bigSep Finset.univ fun ck => cellInv ER (Rd m) (K ck) (kcell ck)) ∗ (bigSep Finset.univ fun ck => reached ER (kcell ck) 0) ∗ levAts L lv)

instance records_persistent (K : Dev nD × Fin 48 → ℕ) : Persistent (records m K) := by unfold records; infer_instance

/-- The shared record holds each cell's invariant, -/
theorem records_inv (K : Dev nD × Fin 48 → ℕ) (c : Dev nD) (sm : SemLoc sig) (h : csem (idx sm) = sm) :
    records m K ⊢ cellInv ER (Rd m) (K (c, idx sm)) ((c : Thread nD τ), sm) := by
  refine (show records m K ⊢ bigSep Finset.univ fun ck => cellInv ER (Rd m) (K ck) (kcell ck) from by unfold records; iintro ⟨H, -, -⟩; iexact H).trans ?_
  refine (bigSep_elim (Φ := fun ck => cellInv ER (Rd m) (K ck) (kcell ck)) (Finset.mem_univ (c, idx sm))).trans ?_
  exact Entails.of_eq (by show cellInv ER (Rd m) (K (c, idx sm)) ((c : Thread nD τ), csem (idx sm)) = _; rw [h])

/-- that its round is reached, -/
theorem records_reached (K : Dev nD × Fin 48 → ℕ) (c : Dev nD) (sm : SemLoc sig) (h : csem (idx sm) = sm) :
    records m K ⊢ reached ER ((c : Thread nD τ), sm) 0 := by
  refine (show records m K ⊢ bigSep Finset.univ fun ck => (reached ER (kcell ck) 0 : sProp 𝕄) from by unfold records; iintro ⟨-, H, -⟩; iexact H).trans ?_
  refine (bigSep_elim (Φ := fun ck => (reached ER (kcell ck) 0 : sProp 𝕄)) (Finset.mem_univ (c, idx sm))).trans ?_
  exact Entails.of_eq (show (reached ER ((c : Thread nD τ), csem (idx sm)) 0 : sProp 𝕄) = reached ER ((c : Thread nD τ), sm) 0 from by rw [h])

/-- and the levels. -/
theorem records_lev (K : Dev nD × Fin 48 → ℕ) : records m K ⊢ levAts L lv := by
  unfold records
  iintro ⟨-, -, H⟩; iexact H

/-- A cell's owner has taken its only round. -/
abbrev over (c : Dev nD) (sm : SemLoc sig) : sProp 𝕄 := atPos ER ((c : Thread nD τ), sm) 1 ∅ 0
/-- A cell's owner before that, -/
abbrev fresh (c : Dev nD) (sm : SemLoc sig) : sProp 𝕄 := atPos ER ((c : Thread nD τ), sm) 0 ∅ 0
/-- the credit to wait on it, and a duty of it. -/
abbrev crd (c : Dev nD) (sm : SemLoc sig) : sProp 𝕄 := cred (tallyAt ((c : Thread nD τ), sm) () ((dut sm).card * amt sm))
abbrev tok (c : Dev nD) (sm : SemLoc sig) (d : ℕ) : sProp 𝕄 := dutyTok ER ((c : Thread nD τ), sm) 0 d

variable (K : Dev nD × Fin 48 → ℕ)

omit [FloatOps F] in
/-- What is owed before a payment is that payment and what is owed after it. -/
theorem obs_next {n : ℕ} {o : Ob} (ho : obs.drop n = o :: obs.drop (n + 1)) (c : Dev nD) :
    ow c n = ow c (n + 1) + tallyAt ((pl c o.off : Thread nD τ), o.sm) () (amt o.sm) := by
  show owed c (obs.drop n) = _; rw [ho, owed]

/-- A signal pays its duty. -/
theorem step_signal (c : Dev nD) (n : ℕ) {z : ℤ} (hz : z = ((1 : ℕ) : ℤ)) (off : ℕ) (s : Sem sig) (d : ℕ) (ho : obs.drop n = ⟨off, .reg s, d⟩ :: obs.drop (n + 1))
    (hk : csem (idx (.reg s)) = .reg s) (hd : d ∈ dut (.reg s)) {dv : Dev nD} (hdv : dv = pl c off)
    {α : Type} {Q : α → sProp 𝕄} {k : PUnit → Prog (TpuEff nD τ sig (Elt F) Λ₀ .tc) α} :
    iprop(records m K ∗ ows c n ∗ tok (pl c off) (.reg s) d ∗ pay m (pl c off) (.reg s) d)
      ⊢ iprop((ows c (n + 1) -∗ run c (k ⟨⟩) Q) -∗ run c (.op (.semSignal (dv : Thread nD τ) s z) k) Q) := by
  subst hdv hz
  unfold ows
  iintro ⟨#HR, ⟨%W, HO⟩, Ht, Hp⟩ Hk
  ihave #Hi := (records_inv m K (pl c off) (.reg s) hk) $$ HR
  ihave #Hr := (records_reached m K (pl c off) (.reg s) hk) $$ HR
  iapply (Rounds.wp_signal 𝒱₀ ER (Rd m) (c : Thread nD τ) none (dst := (pl c off : Thread nD τ)) (κ := K (pl c off, idx (.reg s)))
    (r := 0) (d := d) (by rw [duties_eq]; exact hd) rfl () (ow c (n + 1)) (obs_next ho c)) $$ [HO Ht Hp]
  · isplitr; · iexact Hi
    isplitl [HO]; · iexact HO
    isplitl [Ht]; · iexact Ht
    isplitl [Hp]; · rw [payload_eq]; iexact Hp
    iexact Hr
  iintro HO
  iapply Hk
  iexists W; iexact HO

/-- A wait on a regular semaphore takes all duties of its round. -/
theorem step_semWait (c : Dev nD) (n : ℕ) (s : Sem sig) {z : ℤ} (hz : z = (((dut (.reg s)).card * 1 : ℕ) : ℤ))
    (hk : csem (idx (.reg s)) = .reg s) (hl : ∀ o ∈ obs.drop n, lvs (.reg s) < lvs o.sm)
    {α : Type} {Q : α → sProp 𝕄} {k : PUnit → Prog (TpuEff nD τ sig (Elt F) Λ₀ .tc) α} :
    iprop(records m K ∗ ows c n ∗ fresh c (.reg s) ∗ crd c (.reg s))
      ⊢ iprop(((ows c n ∗ over c (.reg s) ∗ bigSep (dut (.reg s)) fun d => pay m c (.reg s) d) -∗ run c (k ⟨⟩) Q)
        -∗ run c (.op (.semWait s z) k) Q) := by
  subst hz
  unfold ows
  iintro ⟨#HR, ⟨%W, HO⟩, Ha, Hc⟩ Hk
  ihave #Hi := (records_inv m K c (.reg s) hk) $$ HR
  ihave #Hlv := (records_lev m K) $$ HR
  ihave #HM := (mayWait c (.reg s) (obs.drop n) hl) $$ Hlv
  iapply (Rounds.wp_wait_rest_token 𝒱₀ ER (Rd m) (c : Thread nD τ) none (κ := K (c, idx (.reg s)))
    (wpE_semWait_eq 𝒱₀ (c : Thread nD τ) none Set.univ) (Set.mem_univ _) () (O := ow c n) (W := W) (R := 0) (m := 0) (T := ∅)
    (by rw [expect_eq, Nat.zero_add]; rfl)) $$ [HO Ha Hc]
  · isplitr; · iexact Hi
    isplitl [Hc]; · iexact Hc
    isplitl [HO]; · iexact HO
    isplitr; · iexact HM
    iexact Ha
  rw [duties_eq, Finset.sdiff_empty]; simp only [payload_eq]
  iintro ⟨HO, Ha, -, Hp⟩
  iapply Hk
  isplitl [HO]; · iexists _; iexact HO
  isplitl [Ha]; · iexact Ha
  iexact Hp

/-- A wait on a DMA cell takes its duty. -/
theorem step_wait (c : Dev nD) (n : ℕ) (j : Fin 49) {q : DmaSem sig} (hq : q = dm j) (hd : dut (D j) = {0})
    (hk : csem (idx (D j)) = D j) (hl : ∀ o ∈ obs.drop n, lvs (D j) < lvs o.sm)
    {sp sp' : Space} {s s' : Shape} {e e' : EltTy} {src : Memref sig .tc sp' s' e'} {dst : Memref sig .tc sp s e}
    {hsrc : src.view.WordExact} {hdst : dst.view.WordExact} (hN : dst.view.dmaCredit = amt (D j))
    {α : Type} {Q : α → sProp 𝕄} {k : PUnit → Prog (TpuEff nD τ sig (Elt F) Λ₀ .tc) α} :
    iprop(records m K ∗ ows c n ∗ fresh c (D j) ∗ crd c (D j))
      ⊢ iprop(((ows c n ∗ over c (D j) ∗ pay m c (D j) 0) -∗ run c (k ⟨⟩) Q)
        -∗ run c (.op (.waitDma2 q src dst hsrc hdst) k) Q) := by
  obtain rfl : j = q := hq.symm
  unfold ows
  iintro ⟨#HR, ⟨%W, HO⟩, Ha, Hc⟩ Hk
  ihave #Hi := (records_inv m K c (D j) hk) $$ HR
  ihave #Hlv := (records_lev m K) $$ HR
  ihave #HM := (mayWait c (D j) (obs.drop n) hl) $$ Hlv
  have hc : (dut (D j)).card * amt (D j) = dst.view.dmaCredit := by rw [hd, Finset.card_singleton, Nat.one_mul, hN]
  iapply (Rounds.wp_wait_rest_token 𝒱₀ ER (Rd m) (c : Thread nD τ) none (κ := K (c, idx (D j)))
    (wpE_waitDma2_eq 𝒱₀ (c : Thread nD τ) none Set.univ) (Set.mem_univ _) () (O := ow c n) (W := W) (R := 0) (m := 0) (T := ∅)
    (by rw [expect_eq, Nat.zero_add, hc])) $$ [HO Ha Hc]
  · isplitr; · iexact Hi
    isplitl [Hc]; · rw [← hc]; iexact Hc
    isplitl [HO]; · iexact HO
    isplitr; · iexact HM
    iexact Ha
  rw [duties_eq, Finset.sdiff_empty, hd, bigSep_singleton, payload_eq]
  iintro ⟨HO, Ha, -, Hp⟩
  iapply Hk
  isplitl [HO]; · iexists _; iexact HO
  isplitl [Ha]; · iexact Ha
  iexact Hp

/-- An addressed copy pays its arrival duty and its own send cell's: the lent source share goes to the send cell, the
    destination, reading what was sent, and the rights `E` to the arrival cell. -/
theorem step_send (c : Dev nD) (n : ℕ) (off : ℕ) (j j' : Fin 49) (ho : obs.drop n = ⟨off, D j', 0⟩ :: obs.drop (n + 1))
    (hk : csem (idx (D j)) = D j) (hk' : csem (idx (D j')) = D j') (hd : 0 ∈ dut (D j)) (hd' : 0 ∈ dut (D j'))
    {dv : Dev nD} (hdv : dv = pl c off) {qs qr : DmaSem sig} (hqs : qs = dm j) (hqr : qr = dm j')
    {sp sp' : Space} {s : Shape} {e : EltTy} {src : Memref sig .tc sp s e} {dst : Memref sig .tc sp' s e}
    {hsc : dst.view.ref.isScScratch = false} {hsrc : src.view.WordExact} {hdst : dst.view.WordExact}
    {hsem : DmaTarget.Typed (nD := nD) sp (SemLoc.dma qr) (.remote (Dev.tc (τ := τ) dv) dst (.dma qs) hsc)}
    (hN : dst.view.amount (D j') = amt (D j')) (ha : amt (D j) = amt (D j')) {q : PosShare TreeShare} {X : s.Idx → Elt F e} {E : sProp 𝕄}
    (hp : any src c q ⊢ pay m c (D j) 0) (hp' : iprop(has dst (pl c off) fullShare X ∗ E) ⊢ pay m (pl c off) (D j') 0)
    {α : Type} {Q : α → sProp 𝕄} {k : PUnit → Prog (TpuEff nD τ sig (Elt F) Λ₀ .tc) α} :
    iprop(records m K ∗ ows c n ∗ tok c (D j) 0 ∗ tok (pl c off) (D j') 0 ∗ has src c q X ∗ any dst (pl c off) fullShare ∗ E)
      ⊢ iprop(((ows c (n + 1) ∗ cred (tallyAt ((c : Thread nD τ), D j) () (amt (D j)))) -∗ run c (k ⟨⟩) Q)
        -∗ run c (.op (.enqueueDma src (.remote (Dev.tc (τ := τ) dv) dst (.dma qs) hsc) (SemLoc.dma qr) hsrc hdst hsem) k) Q) := by
  obtain rfl : j = qs := hqs.symm
  obtain rfl : j' = qr := hqr.symm
  subst hdv
  unfold ows has any at *
  iintro ⟨#HR, ⟨%W, HO⟩, Ht, Ht', ⟨%fs, %hX, Hs⟩, ⟨%fd, Hd⟩, HE⟩ Hk
  ihave #Hi := (records_inv m K c (D j) hk) $$ HR
  ihave #Hr := (records_reached m K c (D j) hk) $$ HR
  ihave #Hi' := (records_inv m K (pl c off) (D j') hk') $$ HR
  ihave #Hr' := (records_reached m K (pl c off) (D j') hk') $$ HR
  have h1 : (src.view.loc (c : Thread nD τ) ↦[src.view.set]{q} fs) ⊢ (Rd m).payload ((c : Thread nD τ), D j) 0 0 := by
    rw [payload_eq]
    refine BIBase.Entails.trans ?_ hp
    iintro H; iexists fs; iexact H
  have h2 : iprop((dst.view.loc (pl c off : Thread nD τ) ↦[dst.view.set]{fullShare}
      (dst.view.write (Elt F) fd (src.view.read (Elt F) fs) Finset.univ)) ∗ E) ⊢ (Rd m).payload ((pl c off : Thread nD τ), D j') 0 0 := by
    rw [payload_eq]
    refine BIBase.Entails.trans ?_ hp'
    iintro ⟨H, HE⟩
    isplitl [H]
    · iexists (dst.view.write (Elt F) fd (src.view.read (Elt F) fs) Finset.univ)
      isplitr
      · ipureintro; exact (View.read_write_univ _ _).trans hX
      · iexact H
    · iexact HE
  iapply (Rounds.wp_send_pointsTo_with 𝒱₀ ER (Rd m) (c : Thread nD τ) none (sS := D j) (κ₁ := K (c, idx (D j))) (κ₂ := K (pl c off, idx (D j')))
    (r₁ := 0) (r₂ := 0) (d₁ := 0) (d₂ := 0) (q := q) (fs := fs) (fd := fd) (by rw [duties_eq]; exact hd) (by rw [duties_eq]; exact hd')
    () () (amt (D j')) hN ha rfl (ow c (n + 1)) (obs_next ho c) (F := E) h1 h2) $$ [HO Ht Ht' Hs Hd HE]
  · isplitr; · iexact Hi
    isplitr; · iexact Hi'
    isplitl [Hs]; · iexact Hs
    isplitl [Hd HE]
    · isplitl [Hd]; · iexact Hd
      iexact HE
    isplitl [HO]; · iexact HO
    isplitl [Ht]; · iexact Ht
    isplitr; · iexact Hr
    isplitl [Ht']; · iexact Ht'
    iexact Hr'
  iintro ⟨Hc, HO⟩
  iapply Hk
  isplitl [HO]
  · iexists W; iexact HO
  rw [ha]; iexact Hc

end Cert.KernelIdeal.Ring

end
-- ==== Proof.Mem.lean ====
/-

Loads, stores and transfers inside a device, each as a rule on what the buffers read.

-/
module

public import proofs.«01_k».proof.Proof.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Steps

variable {sp : CoreSpace} {s s' : Shape} {e : EltTy}

/-- The memref's elements on device `c`, at share `q`, reading something that `P` holds of. -/
def buf {sp : Space} {s : Shape} {e : EltTy} (M : Memref sig .tc sp s e) (c : Dev nD) (q : PosShare TreeShare) (P : (s.Idx → Elt F e) → Prop) : sProp 𝕄 :=
  iprop(∃ f : Buf (Elt F) (M.view.loc (c : Thread nD τ)), ⌜P (M.view.read (Elt F) f)⌝ ∗ (M.view.loc (c : Thread nD τ) ↦[M.view.set]{q} f))

omit [FloatOps F] in
/-- A weaker property of a buffer's contents follows from a stronger one. -/
theorem buf_mono {sp : Space} {M : Memref sig .tc sp s e} {c : Dev nD} {q : PosShare TreeShare} {P P' : (s.Idx → Elt F e) → Prop} (h : ∀ X, P X → P' X) :
    buf M c q P ⊢ buf M c q P' := by
  unfold buf; iintro ⟨%f, %hf, H⟩; iexists f; isplitr; · ipureintro; exact h _ hf
  iexact H
omit [FloatOps F] in
/-- Known contents have whatever property they are shown to have. -/
theorem buf_of_has {sp : Space} {M : Memref sig .tc sp s e} {c : Dev nD} {q : PosShare TreeShare} {P : (s.Idx → Elt F e) → Prop} {X : s.Idx → Elt F e} (h : P X) :
    has M c q X ⊢ buf M c q P := by
  unfold buf has; iintro ⟨%f, %hf, H⟩; iexists f; isplitr; · ipureintro; rw [hf]; exact h
  iexact H
omit [FloatOps F] in
/-- A property that only one array has makes the contents known. -/
theorem has_of_buf {sp : Space} {M : Memref sig .tc sp s e} {c : Dev nD} {q : PosShare TreeShare} {P : (s.Idx → Elt F e) → Prop} {X : s.Idx → Elt F e} (h : ∀ Y, P Y → Y = X) :
    buf M c q P ⊢ has M c q X := by
  unfold buf has; iintro ⟨%f, %hf, H⟩; iexists f; isplitr; · ipureintro; exact h _ hf
  iexact H
omit [FloatOps F] in
/-- Known contents may be forgotten. -/
theorem any_of_has {sp : Space} {M : Memref sig .tc sp s e} {c : Dev nD} {q : PosShare TreeShare} {X : s.Idx → Elt F e} : has M c q X ⊢ any M c q := by
  unfold any has; iintro ⟨%f, %hf, H⟩; iexists f; iexact H
omit [FloatOps F] in
/-- A property of the contents may be forgotten. -/
theorem any_of_buf {sp : Space} {M : Memref sig .tc sp s e} {c : Dev nD} {q : PosShare TreeShare} {P : (s.Idx → Elt F e) → Prop} : buf M c q P ⊢ any M c q := by
  unfold any buf; iintro ⟨%f, %hf, H⟩; iexists f; iexact H
omit [FloatOps F] in
/-- A property that all arrays have holds of any contents. -/
theorem buf_of_any {sp : Space} {M : Memref sig .tc sp s e} {c : Dev nD} {q : PosShare TreeShare} {P : (s.Idx → Elt F e) → Prop} (h : ∀ X, P X) : any M c q ⊢ buf M c q P := by
  unfold any buf; iintro ⟨%f, H⟩; iexists f; isplitr; · ipureintro; exact h _
  iexact H

/-- The end of a run. -/
theorem step_ret (c : Dev nD) {α : Type} {Q : α → sProp 𝕄} {a : α} : Q a ⊢ run c (.ret a) Q := by
  unfold run; rw [wp_ret]; iintro H; imodintro; iexact H

/-- A load of known contents. -/
theorem step_ld (c : Dev nD) {M : Memref sig .tc sp s e} {r : Rect s} {hl : M.view.LoadsAt r.toLoadRect} {q : PosShare TreeShare}
    {X : s.Idx → Elt F e} {α : Type} {Q : α → sProp 𝕄} {k : (r.shape.Idx → Elt F e) → Prog (TpuEff nD τ sig (Elt F) Λ₀ .tc) α} :
    has M c q X ⊢ iprop((has M c q X -∗ run c (k fun j => X (r.emb j)) Q) -∗ run c (.op (.load M r.toLoadRect hl) k) Q) := by
  unfold has
  iintro ⟨%f, %hf, H⟩ Hk
  iapply (wp_load 𝒱₀ (c : Thread nD τ) none Set.univ (m := M) (M.view.setOn_subset_set r.toLoadRect.set)) $$ H
  iintro H
  have he : M.view.readAt (Elt F) r.toLoadRect f = fun j => X (r.emb j) := by rw [← hf]; rfl
  rw [he]
  iapply Hk
  iexists f; isplitr; · ipureintro; exact hf
  iexact H

/-- A load whose value is not used. -/
theorem step_ldAny (c : Dev nD) {M : Memref sig .tc sp s e} {r : Rect s} {hl : M.view.LoadsAt r.toLoadRect} {q : PosShare TreeShare}
    {P : (s.Idx → Elt F e) → Prop} {α : Type} {Q : α → sProp 𝕄} {k : (r.shape.Idx → Elt F e) → Prog (TpuEff nD τ sig (Elt F) Λ₀ .tc) α} :
    buf M c q P ⊢ iprop((∀ v, buf M c q P -∗ run c (k v) Q) -∗ run c (.op (.load M r.toLoadRect hl) k) Q) := by
  unfold buf
  iintro ⟨%f, %hf, H⟩ Hk
  iapply (wp_load 𝒱₀ (c : Thread nD τ) none Set.univ (m := M) (M.view.setOn_subset_set r.toLoadRect.set)) $$ H
  iintro H
  ispecialize Hk $$ %(M.view.readAt (Elt F) r.toLoadRect f)
  iapply Hk
  iexists f; isplitr; · ipureintro; exact hf
  iexact H

/-- A store. -/
theorem step_st (c : Dev nD) {M : Memref sig .tc sp s e} {r : Rect s} {w : r.shape.Idx → Elt F e} {hx : (M.access r).Stores Finset.univ}
    {hm : (Finset.univ : Finset r.shape.Idx) = Finset.univ ∨ ∀ a, r.stride a = 1}
    {P P' : (s.Idx → Elt F e) → Prop} (h : ∀ X Y, P X → (∀ j, Y (r.emb j) = w j) → (∀ i, i ∉ r.set → Y i = X i) → P' Y)
    {α : Type} {Q : α → sProp 𝕄} {k : PUnit → Prog (TpuEff nD τ sig (Elt F) Λ₀ .tc) α} :
    buf M c fullShare P ⊢ iprop((buf M c fullShare P' -∗ run c (k ⟨⟩) Q) -∗ run c (.op (.store M r w Finset.univ hx hm) k) Q) := by
  unfold buf
  iintro ⟨%f, %hf, H⟩ Hk
  iapply (wp_store 𝒱₀ (c : Thread nD τ) none Set.univ (m := M) (r := r) (Mk := Finset.univ) (S := M.view.set) (M.view.set_slice_subset r)) $$ H
  iintro H
  iapply Hk
  iexists ((M.access r).write (Elt F) f w Finset.univ); isplitr
  · ipureintro
    refine h _ _ hf (fun j => View.read_slice_write_emb (v := M.view) r f w (Finset.mem_univ j)) fun i hi => ?_
    exact View.read_slice_write_of_not_mem (v := M.view) r f w Finset.univ (by rw [Rect.map_emb_univ]; exact hi)
  iexact H

/-- Load, load again, rewrite. -/
theorem step_rmw (c : Dev nD) {M : Memref sig .tc sp s e} {r : Rect s} {w : (r.shape.Idx → Elt F e) → r.shape.Idx → Elt F e} {hx : (M.access r).Stores Finset.univ}
    {hm : (Finset.univ : Finset r.shape.Idx) = Finset.univ ∨ ∀ a, r.stride a = 1} {hl hl' : M.view.LoadsAt r.toLoadRect}
    {P P' : (s.Idx → Elt F e) → Prop} (h : ∀ X Y, P X → (∀ j, Y (r.emb j) = w (fun j => X (r.emb j)) j) → (∀ i, i ∉ r.set → Y i = X i) → P' Y)
    {α : Type} {Q : α → sProp 𝕄} {k : PUnit → Prog (TpuEff nD τ sig (Elt F) Λ₀ .tc) α} :
    buf M c fullShare P ⊢ iprop((buf M c fullShare P' -∗ run c (k ⟨⟩) Q)
      -∗ run c (.op (.load M r.toLoadRect hl) fun v => .op (.load M r.toLoadRect hl') fun _ => .op (.store M r (w v) Finset.univ hx hm) k) Q) := by
  have hb : buf M c fullShare P ⊢ (iprop(∃ X, ⌜P X⌝ ∗ has M c fullShare X) : sProp 𝕄) := by
    unfold buf has
    iintro ⟨%f, %hf, H⟩; iexists (M.view.read (Elt F) f); isplitr; · ipureintro; exact hf
    iexists f; isplitr; · ipureintro; rfl
    iexact H
  iintro H Hk
  ihave H := hb $$ H
  icases H with ⟨%X, %hX, H⟩
  iapply (step_ld c) $$ H; iintro H
  iapply (step_ld c) $$ H; iintro H
  ihave H := (buf_of_has (P := fun Y => Y = X) rfl) $$ H
  iapply (step_st c (P' := P') (fun X' Y hX' h1 h2 => by subst hX'; exact h _ Y hX h1 h2)) $$ H
  iexact Hk

/-- The conditional rewriting of a block in two halves. -/
theorem step_cond (c : Dev nD) {C : Prop} [Decidable C] {M : Memref sig .tc sp s e} {r₁ r₂ : Rect s}
    {w₁ : (r₁.shape.Idx → Elt F e) → r₁.shape.Idx → Elt F e} {w₂ : (r₂.shape.Idx → Elt F e) → r₂.shape.Idx → Elt F e}
    {hx₁ : (M.access r₁).Stores Finset.univ} {hm₁ : (Finset.univ : Finset r₁.shape.Idx) = Finset.univ ∨ ∀ a, r₁.stride a = 1} {hl₁ hl₁' : M.view.LoadsAt r₁.toLoadRect}
    {hx₂ : (M.access r₂).Stores Finset.univ} {hm₂ : (Finset.univ : Finset r₂.shape.Idx) = Finset.univ ∨ ∀ a, r₂.stride a = 1} {hl₂ hl₂' : M.view.LoadsAt r₂.toLoadRect}
    {P P₁ P₂ : (s.Idx → Elt F e) → Prop}
    (h₁ : C → ∀ X Y, P X → (∀ j, Y (r₁.emb j) = w₁ (fun j => X (r₁.emb j)) j) → (∀ i, i ∉ r₁.set → Y i = X i) → P₁ Y)
    (h₂ : C → ∀ X Y, P₁ X → (∀ j, Y (r₂.emb j) = w₂ (fun j => X (r₂.emb j)) j) → (∀ i, i ∉ r₂.set → Y i = X i) → P₂ Y)
    (h₃ : ¬ C → ∀ X, P X → P₂ X)
    {α : Type} {Q : α → sProp 𝕄} {k : Prog (TpuEff nD τ sig (Elt F) Λ₀ .tc) α} :
    buf M c fullShare P ⊢ iprop((buf M c fullShare P₂ -∗ run c k Q)
      -∗ run c (if C then .op (.load M r₁.toLoadRect hl₁) fun v => .op (.load M r₁.toLoadRect hl₁') fun _ => .op (.store M r₁ (w₁ v) Finset.univ hx₁ hm₁) fun _ =>
          .op (.load M r₂.toLoadRect hl₂) fun v => .op (.load M r₂.toLoadRect hl₂') fun _ => .op (.store M r₂ (w₂ v) Finset.univ hx₂ hm₂) fun _ => k
        else k) Q) := by
  by_cases hC : C
  · rw [if_pos hC]
    iintro H Hk
    iapply (step_rmw c (h₁ hC)) $$ H; iintro H
    iapply (step_rmw c (h₂ hC)) $$ H; iexact Hk
  · rw [if_neg hC]
    iintro H Hk
    ihave H := (buf_mono (h₃ hC)) $$ H
    iapply Hk; iexact H

/-- A load through the memref at a rectangle whose squeezed slice is held. -/
theorem step_ldSub (c : Dev nD) {M : Memref sig .tc sp s e} {r : Rect s} {hr : ∀ a, r.stride a = 1} {hq : r.shape.Squeezes s'} (hc : s'.ShapeCasts r.shape)
    {hl : M.view.LoadsAt r.toLoadRect} {q : PosShare TreeShare} {X : s'.Idx → Elt F e}
    {α : Type} {Q : α → sProp 𝕄} {k : (r.shape.Idx → Elt F e) → Prog (TpuEff nD τ sig (Elt F) Λ₀ .tc) α} :
    has ((M.slice r hr).squeeze s' hq) c q X
      ⊢ iprop((has ((M.slice r hr).squeeze s' hq) c q X -∗ run c (k (shapeCast r.shape X hc)) Q) -∗ run c (.op (.load M r.toLoadRect hl) k) Q) := by
  unfold has
  iintro ⟨%f, %hf, H⟩ Hk
  have hset : ((M.slice r hr).squeeze s' hq).view.set = (M.view.slice r).set := View.set_reshape _ _
  rw [hset]
  iapply (wp_load 𝒱₀ (c : Thread nD τ) none Set.univ (m := M) (r := r.toLoadRect) (S := (M.view.slice r).set) (by rw [View.set_slice]; exact Finset.Subset.refl _)) $$ H
  iintro H
  have he : M.view.readAt (Elt F) r.toLoadRect f = shapeCast r.shape X hc := by
    rw [← hf, show ((M.slice r hr).squeeze s' hq).view.read (Elt F) f = shapeCast s' (M.view.readAt (Elt F) r.toLoadRect f) hc.symm from rfl]
    funext j; unfold shapeCast; rw [Shape.reshapeEquiv_reshapeEquiv]
    congr 1; exact (Shape.reshapeEquiv_self _ _).symm
  rw [he]
  iapply Hk
  iexists f; isplitr; · ipureintro; exact hf
  iexact H

/-- A store there. -/
theorem step_stSub (c : Dev nD) {M : Memref sig .tc sp s e} {r : Rect s} {hr : ∀ a, r.stride a = 1} {hq : r.shape.Squeezes s'} (hc : r.shape.ShapeCasts s')
    {w : r.shape.Idx → Elt F e} {hx : (M.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} :
    any ((M.slice r hr).squeeze s' hq) c fullShare
      ⊢ iprop((has ((M.slice r hr).squeeze s' hq) c fullShare (shapeCast s' w hc) -∗ run c (k ⟨⟩) Q) -∗ run c (.op (.store M r w Finset.univ hx hm) k) Q) := by
  unfold has any
  iintro ⟨%f, H⟩ Hk
  have hset : ((M.slice r hr).squeeze s' hq).view.set = (M.view.slice r).set := View.set_reshape _ _
  rw [hset]
  iapply (wp_store 𝒱₀ (c : Thread nD τ) none Set.univ (m := M) (r := r) (Mk := Finset.univ) (S := (M.view.slice r).set) (Finset.Subset.refl _)) $$ H
  iintro H
  iapply Hk
  iexists ((M.access r).write (Elt F) f w Finset.univ); isplitr
  · ipureintro
    rw [show ∀ g, ((M.slice r hr).squeeze s' hq).view.read (Elt F) g = shapeCast s' (M.view.readAt (Elt F) r.toLoadRect g) hc from fun _ => rfl]
    congr 1
    exact View.read_write_univ _ _
  iexact H

/-- A transfer inside the device, from a slice of the weights to the staging buffer, and its wait. -/
theorem step_copy (K : Dev nD × Fin 48 → ℕ) (c : Dev nD) (n : ℕ) {r : Rect S4096x1024} {hr : ∀ a, r.stride a = 1} {sS : Shape}
    {dst dst' : Memref sig .tc .vmem r.shape .f32} {src' : Memref sig .tc .hbm sS .f32}
    {sm : DmaSem sig} (hsm : lvs (.dma sm) = 0) {N : ℕ} (hN0 : 0 < N) (hN : dst.view.amount (.dma sm) = N) (hN' : dst'.view.dmaCredit = N)
    {h1 h2 h3 h4 h5} {P : (r.shape.Idx → Elt F .f32) → Prop}
    {α : Type} {Q : α → sProp 𝕄} {k : PUnit → Prog (TpuEff nD τ sig (Elt F) Λ₀ .tc) α} :
    iprop(records m K ∗ ows c n ∗ semVal ((c : Thread nD τ), .dma sm) 0 ∗ has wM c fullShare (wsv m c) ∗ buf dst c fullShare P)
      ⊢ iprop(((ows c n ∗ semVal ((c : Thread nD τ), .dma sm) 0 ∗ has wM c fullShare (wsv m c) ∗ has dst c fullShare (fun j => wsv m c (r.emb j))) -∗ run c (k ⟨⟩) Q)
        -∗ run c (.op (.enqueueDma (wM.slice r hr) (.here dst) (.dma sm) h1 h2 h3) fun _ => .op (.waitDma2 sm src' dst' h4 h5) k) Q) := by
  unfold has buf ows
  iintro ⟨#HR, ⟨%W, HO⟩, Hv, ⟨%f, %hf, Hw⟩, ⟨%g, %hg, Hd⟩⟩ Hk
  ihave #Hlv := (records_lev m K) $$ HR
  ihave #HM := (mayWait_low c (.dma sm) n hsm) $$ Hlv
  have hsub : (wM.slice r hr).view.set ⊆ wM.view.set := wM.view.set_slice_subset r
  ihave Hw := (pointsTo_split_subset (ℓ := wM.view.loc (c : Thread nD τ)) (q := fullShare) (f := f) hsub).1 $$ Hw
  icases Hw with ⟨Hw, Hrest⟩
  iapply (Transfers.wp_dmaLocal EC 𝒱₀ (c : Thread nD τ) none () N hN hN0 (Finset.Subset.refl dst.view.set)) $$ [Hw Hd Hv]
  · isplitl [Hw]; · iexact Hw
    isplitl [Hd]; · iexact Hd
    iexact Hv
  iintro HF
  iapply (Transfers.wp_waitLocalO EC 𝒱₀ (c : Thread nD τ) none () hN') $$ [HF HO]
  · isplitl [HF]; · iexact HF
    isplitl [HO]; · iexact HO
    iexact HM
  iintro ⟨⟨Hd, Hw⟩, Hv, HO⟩
  ihave Hw := (pointsTo_split_subset (ℓ := wM.view.loc (c : Thread nD τ)) (q := fullShare) (f := f) hsub).2 $$ [Hw Hrest]
  · isplitl [Hw]; · iexact Hw
    iexact Hrest
  iapply Hk
  isplitl [HO]; · iexists _; iexact HO
  isplitl [Hv]; · iexact Hv
  isplitl [Hw]
  · iexists f; isplitr; · ipureintro; exact hf
    iexact Hw
  iexists _; isplitr
  rotate_left
  · iexact Hd
  ipureintro
  rw [View.read_write_univ, ← hf]; rfl

end Steps

end Cert.KernelIdeal.Ring

end
-- ==== Proof.Split.lean ====
/-

Dividing a buffer by shares and into its blocks, and putting it back together.

-/
module

public import proofs.«01_k».proof.Proof.Mem
public import Idealize.ShloMosaic.Lib.ValueIdxCore
public import Idealize.ShloMosaic.Lib.ValueLayout

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Shares -/

section Shares
variable {sp : Space} {s : Shape} {e : EltTy} {N : Memref sig .tc sp s e} (c : Dev nD) (n : ℕ) {X : s.Idx → Elt F e}

omit [FloatOps F] in
/-- The next piece is taken from what is left of a share, -/
theorem share_split : has N c (rest n) X ⊢ iprop(has N c (piece n) X ∗ has N c (rest (n + 1)) X) := by
  unfold has
  iintro ⟨%f, %hf, H⟩
  ihave H := (pointsTo_share (PosShare.mem_left_op_right (rest n))).1 $$ H
  icases H with ⟨H1, H2⟩
  isplitl [H1]
  · iexists f; isplitr; · ipureintro; exact hf
    iexact H1
  · iexists f; isplitr; · ipureintro; exact hf
    iexact H2

omit [FloatOps F] in
/-- and given back to it. -/
theorem share_join : iprop(any N c (piece n) ∗ has N c (rest (n + 1)) X) ⊢ has N c (rest n) X := by
  unfold any has
  iintro ⟨⟨%f, H1⟩, ⟨%g, %hg, H2⟩⟩
  ihave %ha := (pointsTo_agree (q₁ := piece n) (q₂ := rest (n + 1)) (f := f) (g := g)) $$ [H1 H2]
  · isplitl [H1]; · iexact H1
    iexact H2
  iexists g; isplitr; · ipureintro; exact hg
  iapply (pointsTo_share (PosShare.mem_left_op_right (rest n))).2
  isplitl [H1]
  · rw [pointsTo_congr fun i hi => ((ha i (Finset.mem_inter.mpr ⟨hi, hi⟩)).1).symm]; iexact H1
  · iexact H2

omit [FloatOps F] in
/-- Any contents are some contents. -/
theorem has_of_any {q : PosShare TreeShare} : any N c q ⊢ (iprop(∃ X, has N c q X) : sProp 𝕄) := by
  unfold any has
  iintro ⟨%f, H⟩; iexists (N.view.read (Elt F) f); iexists f; isplitr; · ipureintro; rfl
  iexact H

omit [FloatOps F] in
/-- A piece is given back where the contents are not known. -/
theorem share_join_any : iprop(any (F := F) N c (piece n) ∗ any (F := F) N c (rest (n + 1))) ⊢ any (F := F) N c (rest n) := by
  iintro ⟨H1, H2⟩
  ihave H2 := (has_of_any c) $$ H2
  icases H2 with ⟨%X, H2⟩
  iapply (any_of_has (X := X))
  iapply (share_join c n)
  isplitl [H1]; · iexact H1
  iexact H2
end Shares

/-! ## A buffer as a family of its blocks -/

section Families
variable {sp : Space} {s s' : Shape} {e : EltTy} {n : ℕ} {M : Memref sig .tc sp s e} (c : Dev nD) {R : Fin n → Rect s} (hr : ∀ t a, (R t).stride a = 1)
  (hq : ∀ t, (R t).shape.Squeezes s')

omit [FloatOps F] in
/-- The elements of a block, as elements of the buffer. -/
theorem fam_set (t : Fin n) : ((M.slice (R t) (hr t)).squeeze s' (hq t)).view.set = (R t).set.map M.view.emb :=
  (View.set_reshape _ _).trans (View.set_slice _ _)

omit [FloatOps F] in
/-- Blocks that cover the shape cover the buffer, -/
theorem fam_cover (hcov : ∀ i : s.Idx, ∃ t, i ∈ (R t).set) :
    M.view.set = Finset.univ.biUnion fun t => ((M.slice (R t) (hr t)).squeeze s' (hq t)).view.set := by
  ext i
  constructor
  · intro hi
    obtain ⟨x, -, rfl⟩ := Finset.mem_map.mp hi
    obtain ⟨t, ht⟩ := hcov x
    exact Finset.mem_biUnion.mpr ⟨t, Finset.mem_univ t, by rw [fam_set]; exact Finset.mem_map_of_mem _ ht⟩
  · intro hi
    obtain ⟨t, -, ht⟩ := Finset.mem_biUnion.mp hi
    rw [fam_set] at ht
    exact Finset.map_subset_map.mpr (Finset.subset_univ _) ht

omit [FloatOps F] in
/-- and blocks that do not overlap in the shape do not overlap in the buffer. -/
theorem fam_disj (hdis : ∀ t t', t ≠ t' → Disjoint (R t).set (R t').set) (t t' : Fin n) (h : t ≠ t') :
    Disjoint ((M.slice (R t) (hr t)).squeeze s' (hq t)).view.set ((M.slice (R t') (hr t')).squeeze s' (hq t')).view.set := by
  rw [fam_set, fam_set]; exact (Finset.disjoint_map _).mpr (hdis t t' h)

omit [FloatOps F] in
/-- Ownership of a set is ownership of the parts it is cut into. -/
theorem pts_parts {ℓ : Loc nD τ sig} (S : Finset (Idx ℓ)) (K : Fin n → Finset (Idx ℓ)) (hS : S = Finset.univ.biUnion K)
    (hd : ∀ t t', t ≠ t' → Disjoint (K t) (K t')) (q : PosShare TreeShare) (f : Buf (Elt F) ℓ) :
    (ℓ ↦[S]{q} f : sProp 𝕄) ⊢ bigSep Finset.univ fun t => ℓ ↦[K t]{q} f := by
  rw [hS, pointsTo_biUnion _ K fun t _ t' _ h => hd t t' h]

omit [FloatOps F] in
/-- Owning the elements is owning the buffer at any contents. -/
theorem any_intro {sp' : Space} {s₁ : Shape} {N : Memref sig .tc sp' s₁ e} {q : PosShare TreeShare} (f : Buf (Elt F) (N.view.loc (c : Thread nD τ))) :
    (N.view.loc (c : Thread nD τ) ↦[N.view.set]{q} f : sProp 𝕄) ⊢ any N c q := by
  unfold any; iintro H; iexists f; iexact H

omit [FloatOps F] in
/-- A buffer is split into its blocks, -/
theorem fam_split (hcov : ∀ i : s.Idx, ∃ t, i ∈ (R t).set) (hdis : ∀ t t', t ≠ t' → Disjoint (R t).set (R t').set) :
    any (F := F) M c fullShare ⊢ bigSep Finset.univ fun t => (any (F := F) ((M.slice (R t) (hr t)).squeeze s' (hq t)) c fullShare : sProp 𝕄) := by
  refine exists_elim fun f => ?_
  refine BIBase.Entails.trans (pts_parts _ _ (fam_cover hr hq hcov) (fun t t' h => fam_disj hr hq hdis t t' h) fullShare f) ?_
  exact bigSep_mono fun t _ => any_intro (N := (M.slice (R t) (hr t)).squeeze s' (hq t)) c f

/-- blocks of known contents make a buffer whose blocks read so, -/
theorem fam_join [NeZero n] (hcov : ∀ i : s.Idx, ∃ t, i ∈ (R t).set) (hdis : ∀ t t', t ≠ t' → Disjoint (R t).set (R t').set)
    (hc : ∀ t, (R t).shape.ShapeCasts s') (X : Fin n → s'.Idx → Elt F e) :
    (bigSep Finset.univ fun t => (has ((M.slice (R t) (hr t)).squeeze s' (hq t)) c fullShare (X t) : sProp 𝕄))
      ⊢ buf M c fullShare fun Z => ∀ t, shapeCast s' (fun j => Z ((R t).emb j)) (hc t) = X t := by
  unfold has buf
  refine (BI.bigSep_exists_pi (Y := fun _ => Buf (Elt F) (M.view.loc (c : Thread nD τ))) Finset.univ fun t f =>
    iprop(⌜((M.slice (R t) (hr t)).squeeze s' (hq t)).view.read (Elt F) f = X t⌝ ∗ (M.view.loc (c : Thread nD τ) ↦[((M.slice (R t) (hr t)).squeeze s' (hq t)).view.set]{fullShare} f))).trans ?_
  iintro ⟨%fs, H⟩
  ihave H := (BI.bigSep_pure_sep Finset.univ _ _) $$ H
  icases H with ⟨%h1, H2⟩
  ihave H := (pointsTo_biUnion_join Finset.univ _ fs (fs 0) fun t _ t' _ h => fam_disj hr hq hdis t t' h) $$ H2
  rw [← fam_cover hr hq hcov]
  icases H with ⟨%g, %hg, H⟩
  iexists g; isplitr
  · ipureintro
    intro t
    rw [← h1 t (Finset.mem_univ t)]
    refine View.read_congr (v := ((M.slice (R t) (hr t)).squeeze s' (hq t)).view) fun i hi => hg t (Finset.mem_univ t) i hi
  iexact H

/-- and blocks of any contents make a buffer. -/
theorem fam_join_any [NeZero n] (hcov : ∀ i : s.Idx, ∃ t, i ∈ (R t).set) (hdis : ∀ t t', t ≠ t' → Disjoint (R t).set (R t').set)
    (hc : ∀ t, (R t).shape.ShapeCasts s') :
    (bigSep Finset.univ fun t => (any ((M.slice (R t) (hr t)).squeeze s' (hq t)) c fullShare : sProp 𝕄)) ⊢ any M c fullShare := by
  refine (bigSep_mono fun t _ => has_of_any c).trans ((BI.bigSep_exists_pi (Y := fun _ => s'.Idx → Elt F e) Finset.univ _).trans ?_)
  iintro ⟨%X, H⟩
  iapply any_of_buf
  iapply (fam_join c hr hq hcov hdis hc X)
  iexact H
end Families

end Cert.KernelIdeal.Ring

end
-- ==== Proof.Slots.lean ====
/-

The gather buffers as slots, the amax tables and source as rows, and the half of slot 2 that the last hop sends.

-/
module

public import proofs.«01_k».proof.Proof.Split

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's buffers as slots and rows -/

/-- The three slots cover a gather buffer, -/
theorem slot_cov (i : S3x512x4096.Idx) : ∃ t, i ∈ (slotR t).set := by
  have h0 : (i 0).val < 3 := (i 0).isLt
  refine ⟨⟨(i 0).val, h0⟩, Rect.mem_set_unit.mpr fun a => ?_⟩
  match a with
  | ⟨0, _⟩ => exact ⟨Nat.le_refl _, by show (i 0).val < (i 0).val + 1; omega⟩
  | ⟨1, _⟩ => exact ⟨Nat.zero_le _, by have h : (i 1).val < 512 := (i 1).isLt; show (i 1).val < 0 + 512; omega⟩
  | ⟨2, _⟩ => exact ⟨Nat.zero_le _, by have h : (i 2).val < 4096 := (i 2).isLt; show (i 2).val < 0 + 4096; omega⟩
/-- and do not overlap. -/
theorem slot_dis (t t' : Fin 3) (h : t ≠ t') : Disjoint (slotR t).set (slotR t').set :=
  Rect.unit_disjoint (0 : Fin 3) (by have : t.val ≠ t'.val := fun e => h (Fin.ext e); show t.val + 1 ≤ t'.val ∨ t'.val + 1 ≤ t.val; omega)
/-- The eight rows cover a table of maxima, -/
theorem row_cov (i : S8x1x128.Idx) : ∃ t, i ∈ (rowR t).set := by
  have h0 : (i 0).val < 8 := (i 0).isLt
  refine ⟨⟨(i 0).val, h0⟩, Rect.mem_set_unit.mpr fun a => ?_⟩
  match a with
  | ⟨0, _⟩ => exact ⟨Nat.le_refl _, by show (i 0).val < (i 0).val + 1; omega⟩
  | ⟨1, _⟩ => exact ⟨Nat.zero_le _, by have h : (i 1).val < 1 := (i 1).isLt; show (i 1).val < 0 + 1; omega⟩
  | ⟨2, _⟩ => exact ⟨Nat.zero_le _, by have h : (i 2).val < 128 := (i 2).isLt; show (i 2).val < 0 + 128; omega⟩
/-- and do not overlap. -/
theorem row_dis (t t' : Fin 8) (h : t ≠ t') : Disjoint (rowR t).set (rowR t').set :=
  Rect.unit_disjoint (0 : Fin 3) (by have : t.val ≠ t'.val := fun e => h (Fin.ext e); show t.val + 1 ≤ t'.val ∨ t'.val + 1 ≤ t.val; omega)
/-- The two rows cover the source of maxima, -/
theorem src_cov (i : S2x1x128.Idx) : ∃ t, i ∈ (srcR t).set := by
  have h0 : (i 0).val < 2 := (i 0).isLt
  refine ⟨⟨(i 0).val, h0⟩, Rect.mem_set_unit.mpr fun a => ?_⟩
  match a with
  | ⟨0, _⟩ => exact ⟨Nat.le_refl _, by show (i 0).val < (i 0).val + 1; omega⟩
  | ⟨1, _⟩ => exact ⟨Nat.zero_le _, by have h : (i 1).val < 1 := (i 1).isLt; show (i 1).val < 0 + 1; omega⟩
  | ⟨2, _⟩ => exact ⟨Nat.zero_le _, by have h : (i 2).val < 128 := (i 2).isLt; show (i 2).val < 0 + 128; omega⟩
/-- and do not overlap. -/
theorem src_dis (t t' : Fin 2) (h : t ≠ t') : Disjoint (srcR t).set (srcR t').set :=
  Rect.unit_disjoint (0 : Fin 3) (by have : t.val ≠ t'.val := fun e => h (Fin.ext e); show t.val + 1 ≤ t'.val ∨ t'.val + 1 ≤ t.val; omega)

/-- A family over two indices, written out. -/
theorem fin2_list (Φ : Fin 2 → sProp 𝕄) : bigSep Finset.univ Φ = iprop(Φ 0 ∗ Φ 1) := bigSep_univ_eq_bigSepL [0, 1] (by decide) (by decide) Φ
/-- A family over three indices, written out. -/
theorem fin3_list (Φ : Fin 3 → sProp 𝕄) : bigSep Finset.univ Φ = iprop(Φ 0 ∗ Φ 1 ∗ Φ 2) := bigSep_univ_eq_bigSepL [0, 1, 2] (by decide) (by decide) Φ
/-- A family over eight indices, written out. -/
theorem fin8_list (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

open Idealize.ShloMosaic.ValueIdx

section
variable (c : Dev nD)

/-- A gather buffer is split into its three slots, -/
theorem slots_split (M : Memref sig .tc .vmem S3x512x4096 .bf16) :
    any (F := F) M c fullShare ⊢ (iprop(any (slotM M 0) c fullShare ∗ any (slotM M 1) c fullShare ∗ any (slotM M 2) c fullShare) : sProp 𝕄) :=
  (fam_split c (R := slotR) (fun _ _ => rfl) (fun _ => squeezes_S1x512x4096_S512x4096) slot_cov slot_dis).trans (Entails.of_eq (fin3_list _))
/-- and made of them again. -/
theorem slots_join (M : Memref sig .tc .vmem S3x512x4096 .bf16) :
    (iprop(any (slotM M 0) c fullShare ∗ any (slotM M 1) c fullShare ∗ any (slotM M 2) c fullShare) : sProp 𝕄) ⊢ any (F := F) M c fullShare :=
  (Entails.of_eq (fin3_list fun t => any (slotM M t) c fullShare).symm).trans
    (fam_join_any c (R := slotR) (fun _ _ => rfl) (fun _ => squeezes_S1x512x4096_S512x4096) slot_cov slot_dis (fun t => by revert t; decide))
/-- The source of maxima is split into its two rows, -/
theorem srcs_split : any (F := F) amM c fullShare ⊢ (iprop(any (srcM 0) c fullShare ∗ any (srcM 1) c fullShare) : sProp 𝕄) :=
  (fam_split c (R := srcR) (fun _ _ => rfl) (fun _ => squeezes_S1x1x128_S1x128) src_cov src_dis).trans (Entails.of_eq (fin2_list _))
/-- and made of them again. -/
theorem srcs_join : (iprop(any (srcM 0) c fullShare ∗ any (srcM 1) c fullShare) : sProp 𝕄) ⊢ any (F := F) amM c fullShare :=
  (Entails.of_eq (fin2_list fun t => any (srcM t) c fullShare).symm).trans
    (fam_join_any c (R := srcR) (fun _ _ => rfl) (fun _ => squeezes_S1x1x128_S1x128) src_cov src_dis (fun t => by revert t; decide))
/-- A table of maxima is split into its eight rows. -/
theorem rows_split (M : Memref sig .tc .vmem S8x1x128 .f32) :
    any (F := F) M c fullShare ⊢ (iprop(any (rowM M 0) c fullShare ∗ any (rowM M 1) c fullShare ∗ any (rowM M 2) c fullShare ∗ any (rowM M 3) c fullShare
      ∗ any (rowM M 4) c fullShare ∗ any (rowM M 5) c fullShare ∗ any (rowM M 6) c fullShare ∗ any (rowM M 7) c fullShare) : sProp 𝕄) :=
  (fam_split c (R := rowR) (fun _ _ => rfl) (fun _ => squeezes_S1x1x128_S1x128) row_cov row_dis).trans (Entails.of_eq (fin8_list _))

/-- The table of rows `A d`. -/
def tab (A : Fin 8 → S1x1x128.Idx → Elt F .f32) : S8x1x128.Idx → Elt F .f32 := fun i => A (i 0) (ix3 (0 : Fin 1) (i 1 : Fin 1) (i 2 : Fin 128))

/-- A row of maxima is known by its form without the leading axis. -/
theorem row_inj {a b : S1x1x128.Idx → Elt F .f32} (h : row a = row b) : a = b := by
  have hc : S1x128.ShapeCasts S1x1x128 := by decide
  have h1 : ∀ a : S1x1x128.Idx → Elt F .f32, shapeCast S1x1x128 (row a) hc = a := fun a => by
    funext j
    show a (Shape.reshapeEquiv shapeCasts_S1x1x128_S1x128 (Shape.reshapeEquiv hc j)) = a j
    rw [Shape.reshapeEquiv_reshapeEquiv, Shape.reshapeEquiv_self]
  rw [← h1 a, ← h1 b, h]

/-- Eight rows of known contents make a table of known contents. -/
theorem rows_join (M : Memref sig .tc .vmem S8x1x128 .f32) (A : Fin 8 → S1x1x128.Idx → Elt F .f32) :
    (iprop(has (rowM M 0) c fullShare (row (A 0)) ∗ has (rowM M 1) c fullShare (row (A 1)) ∗ has (rowM M 2) c fullShare (row (A 2)) ∗ has (rowM M 3) c fullShare (row (A 3))
      ∗ has (rowM M 4) c fullShare (row (A 4)) ∗ has (rowM M 5) c fullShare (row (A 5)) ∗ has (rowM M 6) c fullShare (row (A 6)) ∗ has (rowM M 7) c fullShare (row (A 7))) : sProp 𝕄)
      ⊢ has M c fullShare (tab A) := by
  refine (Entails.of_eq (fin8_list fun t => has (rowM M t) c fullShare (row (A t))).symm).trans ((fam_join c (R := rowR) (fun _ _ => rfl) (fun _ => squeezes_S1x1x128_S1x128)
    row_cov row_dis (fun t => by revert t; decide) (fun t => row (A t))).trans (has_of_buf fun Z hZ => ?_))
  funext i
  have h := congrFun (row_inj (a := fun j => Z ((rowR (i 0)).emb j)) (b := A (i 0)) (hZ (i 0))) (ix3 (0 : Fin 1) (i 1 : Fin 1) (i 2 : Fin 128))
  refine Eq.trans (congrArg Z ?_) h
  funext a; apply Fin.ext
  match a with
  | ⟨0, _⟩ => show (i 0).val = (i 0).val + 1 * 0; omega
  | ⟨1, _⟩ => show (i 1).val = 0 + 1 * (i 1).val; omega
  | ⟨2, _⟩ => show (i 2).val = 0 + 1 * (i 2).val; omega

/-- What stays of slot 2 while its half `k` is lent. -/
def remH (M : Memref sig .tc .vmem S3x512x4096 .bf16) (k : Fin 2) : sProp 𝕄 :=
  iprop(∃ f : Buf (Elt F) (M.view.loc (c : Thread nD τ)), (M.view.loc (c : Thread nD τ) ↦[(slotM M 2).view.set \ (halfM M k).view.set]{piece 0} f))

/-- A half of slot 2 lies in slot 2. -/
theorem half_sub (M : Memref sig .tc .vmem S3x512x4096 .bf16) (k : Fin 2) : (halfM M k).view.set ⊆ (slotM M 2).view.set := by
  have h1 : (halfM M k).view.set = (halfR k).set.map M.view.emb := (View.set_reshape _ _).trans (View.set_slice _ _)
  have h2 : (slotM M 2).view.set = (slotR 2).set.map M.view.emb := (View.set_reshape _ _).trans (View.set_slice _ _)
  rw [h1, h2]
  refine Finset.map_subset_map.mpr fun i hi => Rect.mem_set_unit.mpr fun a => ?_
  have h := Rect.mem_set_unit.mp hi
  match a with
  | ⟨0, _⟩ => exact h 0
  | ⟨1, _⟩ => exact ⟨Nat.zero_le _, by have h : (i 1).val < 512 := (i 1).isLt; show (i 1).val < 0 + 512; omega⟩
  | ⟨2, _⟩ => exact ⟨Nat.zero_le _, by have h : (i 2).val < 4096 := (i 2).isLt; show (i 2).val < 0 + 4096; omega⟩

/-- A half of slot 2 reads as that half of what the slot reads. -/
theorem half_read (M : Memref sig .tc .vmem S3x512x4096 .bf16) (k : Fin 2) (f : M.view.ty.Contents (Elt F)) :
    (halfM M k).view.read (Elt F) f = xh k ((slotM M 2).view.read (Elt F) f) := by
  funext i
  obtain ⟨a, b, rfl⟩ : ∃ (a : Fin 256) (b : Fin 4096), i = ix2 a b := ⟨i 0, i 1, eq_ix2 i⟩
  have hk : k.val < 2 := k.isLt
  have hx : ∀ hh, (Fin.cons (⟨256 * k.val + a.val, hh⟩ : Fin 512) (Fin.cons (⟨b.val, b.isLt⟩ : Fin 4096) finZeroElim) : S512x4096.Idx)
      = ix2 (⟨256 * k.val + a.val, hh⟩ : Fin 512) (b : Fin 4096) := fun hh => by
    funext d; match d with | ⟨0, _⟩ => rfl | ⟨1, _⟩ => rfl
  unfold xh
  have h1 : (halfM M k).view.read (Elt F) f (ix2 a b)
      = M.view.read (Elt F) f ((halfR k).emb (ix3 (0 : Fin 1) a b)) :=
    congrArg (fun j => M.view.read (Elt F) f ((halfR k).emb j)) (reshapeEquiv_ix2_1ab _ a b)
  have h2 : ∀ x : Fin 512, (slotM M 2).view.read (Elt F) f (ix2 x b)
      = M.view.read (Elt F) f ((slotR 2).emb (ix3 (0 : Fin 1) x b)) := fun x =>
    congrArg (fun j => M.view.read (Elt F) f ((slotR 2).emb j)) (reshapeEquiv_ix2_1ab _ x b)
  rw [h1]
  refine Eq.trans ?_ (congrArg ((slotM M 2).view.read (Elt F) f) (hx (by have := a.isLt; omega))).symm
  rw [h2]
  refine congrArg _ ?_
  funext d; apply Fin.ext
  match d with
  | ⟨0, _⟩ => rfl
  | ⟨1, _⟩ => show 256 * k.val + 1 * a.val = 0 + 1 * (256 * k.val + a.val); omega
  | ⟨2, _⟩ => rfl

/-- A half of slot 2 can be lent while the rest of the slot's share still reads the whole slot. -/
theorem half_lend (M : Memref sig .tc .vmem S3x512x4096 .bf16) (k : Fin 2) {X : S512x4096.Idx → Elt F .bf16} :
    has (slotM M 2) c fullShare X ⊢ (iprop(has (halfM M k) c (piece 0) (xh k X) ∗ remH c M k ∗ has (slotM M 2) c (rest 1) X) : sProp 𝕄) := by
  refine (share_split c 0).trans ?_
  have h : has (slotM M 2) c (piece 0) X ⊢ (iprop(has (halfM M k) c (piece 0) (xh k X) ∗ remH c M k) : sProp 𝕄) := by
    unfold has remH
    iintro ⟨%f, %hf, H⟩
    ihave H := (pointsTo_split_subset (ℓ := M.view.loc (c : Thread nD τ)) (q := piece 0) (f := f) (half_sub M k)).1 $$ H
    icases H with ⟨H1, H2⟩
    isplitl [H1]
    · iexists f; isplitr; · ipureintro; rw [← hf]; exact half_read M k f
      iexact H1
    iexists f; iexact H2
  iintro ⟨H1, H2⟩
  ihave H1 := h $$ H1
  icases H1 with ⟨H1, H3⟩
  isplitl [H1]; · iexact H1
  isplitl [H3]; · iexact H3
  iexact H2

/-- The lent half comes back and the slot is whole again. -/
theorem half_back (M : Memref sig .tc .vmem S3x512x4096 .bf16) (k : Fin 2) :
    (iprop(any (halfM M k) c (piece 0) ∗ remH c M k ∗ any (slotM M 2) c (rest 1)) : sProp 𝕄) ⊢ any (slotM M 2) c fullShare := by
  have h : (iprop(any (halfM M k) c (piece 0) ∗ remH c M k) : sProp 𝕄) ⊢ any (F := F) (slotM M 2) c (piece 0) := by
    unfold any remH
    iintro ⟨⟨%f, H1⟩, ⟨%g, H2⟩⟩
    ihave H := (pointsTo_join_subset (ℓ := M.view.loc (c : Thread nD τ)) (q := piece 0) (half_sub M k)) $$ [H1 H2]
    · isplitl [H1]; · iexact H1
      iexact H2
    iexists _; iexact H
  iintro ⟨H1, H2, H3⟩
  iapply (share_join_any c 0)
  isplitl [H1 H2]
  · iapply h; isplitl [H1]; · iexact H1
    iexact H2
  iexact H3

end

end Cert.KernelIdeal.Ring

end
-- ==== Proof.Out.lean ====
/-

What the kernel's buffers read as its run goes on: the truncated weights tile by tile, and the output block by block,
first the products, then the values quantised with the first scale, then the opposite device's block, quantised with the
second scale, and the other blocks quantised again where the second round found a larger value.

-/
module

public import proofs.«01_k».proof.Proof.Slots

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.ValueIdx

/-! ## Places in the rectangles -/

/-- A place of the output is in a band of rows, at a place of the band, or outside it. -/
theorem band (off sz : Fin 2 → ℕ) (inb : ∀ a, off a + sz a ≤ S4096x1024.size a) (h1 : off 1 = 0) (hs : sz 1 = 1024) (i : S4096x1024.Idx) :
    ((off 0 ≤ (i 0).val ∧ (i 0).val < off 0 + sz 0) ∧ ∃ j : (Rect.unit (s := S4096x1024) off sz inb).shape.Idx, (Rect.unit (s := S4096x1024) off sz inb).emb j = i
        ∧ (j 0).val = (i 0).val - off 0 ∧ (j 1).val = (i 1).val)
      ∨ (¬ (off 0 ≤ (i 0).val ∧ (i 0).val < off 0 + sz 0) ∧ i ∉ (Rect.unit (s := S4096x1024) off sz inb).set) := by
  have hi1 : (i 1).val < 1024 := (i 1).isLt
  by_cases h : off 0 ≤ (i 0).val ∧ (i 0).val < off 0 + sz 0
  · refine Or.inl ⟨h, fun a => match a with | ⟨0, _⟩ => ⟨(i 0).val - off 0, ?_⟩ | ⟨1, _⟩ => ⟨(i 1).val, ?_⟩, ?_, rfl, rfl⟩
    · show (i 0).val - off 0 < sz 0; omega
    · show (i 1).val < sz 1; omega
    · funext a; apply Fin.ext
      match a with
      | ⟨0, _⟩ => show off 0 + 1 * ((i 0).val - off 0) = (i 0).val; omega
      | ⟨1, _⟩ => show off 1 + 1 * (i 1).val = (i 1).val; omega
  · exact Or.inr ⟨h, fun hi => h (Rect.mem_set_unit.mp hi 0)⟩

/-- The output's entries in the rows `p` holds of are `V`'s. -/
def agr (p : ℕ → Prop) (V f : S4096x1024.Idx → Elt F .f32) : Prop := ∀ i, p (i 0).val → f i = V i

/-- A band written. -/
theorem agr_put {off sz : Fin 2 → ℕ} {inb : ∀ a, off a + sz a ≤ S4096x1024.size a} {R H : ℕ} (h0 : off 0 = R) (hH : sz 0 = H) (h1 : off 1 = 0) (hs : sz 1 = 1024) {p p' : ℕ → Prop}
    {V V' X Z : S4096x1024.Idx → Elt F .f32} {w : (Rect.unit (s := S4096x1024) off sz inb).shape.Idx → Elt F .f32}
    (hp : ∀ r, p' r → ¬ (R ≤ r ∧ r < R + H) → p r)
    (hV : ∀ i, p' (i 0).val → ¬ (R ≤ (i 0).val ∧ (i 0).val < R + H) → V' i = V i)
    (hw : ∀ i j, p' (i 0).val → (R ≤ (i 0).val ∧ (i 0).val < R + H) → (Rect.unit (s := S4096x1024) off sz inb).emb j = i
      → (j 0).val = (i 0).val - R → (j 1).val = (i 1).val → w j = V' i)
    (hX : agr p V X) (hZ : ∀ j, Z ((Rect.unit (s := S4096x1024) off sz inb).emb j) = w j) (hZ' : ∀ i, i ∉ (Rect.unit (s := S4096x1024) off sz inb).set → Z i = X i) :
    agr p' V' Z := by
  subst h0 hH
  intro i hi
  rcases band off sz inb h1 hs i with ⟨hr, j, hj, hj0, hj1⟩ | ⟨hr, hn⟩
  · rw [← hw i j hi hr hj hj0 hj1, ← hj, hZ]
  · rw [hZ' i hn, hX i (hp _ hi hr), hV i hi hr]

/-! ## The values -/

/-- One value through the quantiser and back. -/
def qz (a b x : F .f32) : F .f32 := FloatOps.mulf (FloatOps.extf .f32 bitsLt_fp8e4m3_f32 (FloatOps.truncf .fp8e4m3 bitsLt_fp8e4m3_f32 (FloatOps.mulf x a))) b

/-- The number of the device opposite. -/
def far (c : Dev nD) : ℕ := (pl c 4).val
/-- The opposite device's number is below eight. -/
theorem far_lt (c : Dev nD) : far c < 8 := (pl c 4).isLt

/-- The block of products of the rows of device `b`. -/
def mm (c b : Dev nD) : S512x1024.Idx → Elt F .f32 := k0_pay35 (xs m b) (wb m c)
/-- Half `k` of the opposite device's. -/
def mh (c : Dev nD) (k : Fin 2) : S256x1024.Idx → Elt F .f32 := k0_pay71 (xh k (xs m (pl c 4))) (wb m c)

/-- The device an output row's block comes from. -/
def bd (i : S4096x1024.Idx) : Dev nD := ⟨(i 0).val / 512, by have h : (i 0).val < 4096 := (i 0).isLt; show (i 0).val / 512 < 8; omega⟩
/-- A row in its block, in its half block, and the half. -/
def ir (i : S4096x1024.Idx) : S512x1024.Idx := ix2 (⟨(i 0).val % 512, by omega⟩ : Fin 512) (i 1 : Fin 1024)
def ih (i : S4096x1024.Idx) : S256x1024.Idx := ix2 (⟨(i 0).val % 256, by omega⟩ : Fin 256) (i 1 : Fin 1024)
def hk (i : S4096x1024.Idx) : Fin 2 := if (i 0).val % 512 < 256 then 0 else 1

/-- The products, before any quantising. -/
def Y (c : Dev nD) (i : S4096x1024.Idx) : Elt F .f32 := if (i 0).val / 512 = far c then mh m c (hk i) (ih i) else mm m c (bd i) (ir i)

/-- The two tables of maxima, their maxima and scales. -/
def T1 (c : Dev nD) : S8x1x128.Idx → Elt F .f32 := tab fun d => am1 m (pl c (8 - d.val))
def T2 (c : Dev nD) : S8x1x128.Idx → Elt F .f32 := tab fun d => am2 m (pl c (8 - d.val))
def g1 (c : Dev nD) : F .f32 := k0_pay52 (T1 m c)
def g2 (c : Dev nD) : F .f32 := k0_pay76 (g1 m c) (T2 m c)
/-- A value quantised with the first scale, and with the second. -/
def q1 (c : Dev nD) (x : F .f32) : F .f32 := qz (k0_pay53 (T1 m c)) (k0_pay54 (T1 m c)) x
def q2 (c : Dev nD) (x : F .f32) : F .f32 := qz (k0_pay77 (g1 m c) (T2 m c)) (k0_pay78 (g1 m c) (T2 m c)) x
/-- The second round found a larger value. -/
def upd (c : Dev nD) : Prop := Scalar.cmpf .ogt (g2 m c) (g1 m c) = 1#1
instance (c : Dev nD) : Decidable (upd m c) := by unfold upd; infer_instance

/-! ## The output's states -/

/-- The blocks of the devices in the list hold their products. -/
def SA (c : Dev nD) (l : List ℕ) : (S4096x1024.Idx → Elt F .f32) → Prop := agr (fun r => r / 512 ∈ l) (Y m c)
/-- Of `16` half blocks, the first `n` are quantised; the opposite device's block is open. -/
def SB (c : Dev nD) (n : ℕ) : (S4096x1024.Idx → Elt F .f32) → Prop :=
  agr (fun r => r / 512 ≠ far c) fun i => if (i 0).val < 256 * n then q1 m c (Y m c i) else Y m c i
/-- All other blocks are quantised, and `k` halves of the opposite device's block hold their products. -/
def ST (c : Dev nD) (k : ℕ) : (S4096x1024.Idx → Elt F .f32) → Prop :=
  agr (fun r => r / 512 ≠ far c ∨ r % 512 < 256 * k) fun i => if (i 0).val / 512 = far c then Y m c i else q1 m c (Y m c i)
/-- The same with `k` halves of that block quantised with the second scale. -/
def SD (c : Dev nD) (k : ℕ) : (S4096x1024.Idx → Elt F .f32) → Prop :=
  agr (fun _ => True) fun i => if (i 0).val / 512 = far c then (if (i 0).val % 512 < 256 * k then q2 m c (Y m c i) else Y m c i) else q1 m c (Y m c i)
/-- That block quantised, and the first `n` half blocks of the others quantised again where the second round asks for it. -/
def VE (c : Dev nD) (n : ℕ) (i : S4096x1024.Idx) : Elt F .f32 :=
  if (i 0).val / 512 = far c then q2 m c (Y m c i) else if upd m c ∧ (i 0).val < 256 * n then q2 m c (q1 m c (Y m c i)) else q1 m c (Y m c i)
def SE (c : Dev nD) (n : ℕ) : (S4096x1024.Idx → Elt F .f32) → Prop := agr (fun _ => True) (VE m c n)

/-- A block of products stored. -/
theorem SA_put (c b : Dev nD) (hb : b.val ≠ far c) {l : List ℕ} {off : Fin 2 → ℕ} {inb : ∀ a, off a + S512x1024.size a ≤ S4096x1024.size a}
    (ho : off = ![512 * b.val, 0]) {w : S512x1024.Idx → Elt F .f32} (hw : w = mm m c b) (X Z : S4096x1024.Idx → Elt F .f32) (hX : SA m c l X)
    (hZ : ∀ j, Z ((Rect.unit (s := S4096x1024) off S512x1024.size inb).emb j) = w j)
    (hZ' : ∀ i, i ∉ (Rect.unit (s := S4096x1024) off S512x1024.size inb).set → Z i = X i) : SA m c (b.val :: l) Z := by
  have h0 : off 0 = 512 * b.val := by rw [ho]; rfl
  have hs : S512x1024.size 0 = 512 := rfl
  refine agr_put (w := w) h0 hs (by rw [ho]; rfl) rfl (fun r hr hn => ?_) (fun i _ _ => rfl) (fun i j _ hr _ hj0 hj1 => ?_) hX hZ hZ'
  · rcases List.mem_cons.mp hr with h | h
    · exact absurd ⟨by omega, by omega⟩ hn
    · exact h
  · have hd : (i 0).val / 512 = b.val := by omega
    have hbd : bd i = b := Fin.ext hd
    have hj : j = ir i := by
      funext a; apply Fin.ext
      match a with
      | ⟨0, _⟩ => show (j 0).val = (i 0).val % 512; omega
      | ⟨1, _⟩ => exact hj1
    unfold Y
    rw [if_neg (by rw [hd]; exact hb), hbd, hw, hj]

/-- With seven blocks stored, all but the opposite one hold their products and none is quantised yet. -/
theorem SA_all (c : Dev nD) (X : S4096x1024.Idx → Elt F .f32)
    (hX : SA m c [(pl c 3).val, (pl c 5).val, (pl c 2).val, (pl c 6).val, (pl c 1).val, (pl c 7).val, c.val] X) : SB m c 0 X := by
  intro i hi
  have h : ∀ (c b : Dev nD), b.val ≠ far c → b.val ∈ [(pl c 3).val, (pl c 5).val, (pl c 2).val, (pl c 6).val, (pl c 1).val, (pl c 7).val, c.val] := by decide
  rw [hX i (h c (bd i) hi)]; dsimp only; rw [if_neg (by omega)]

/-- A half block of the first quantising. -/
theorem SB_put (c : Dev nD) (n : ℕ) {off : Fin 2 → ℕ} {inb : ∀ a, off a + S256x1024.size a ≤ S4096x1024.size a}
    (ho : off = ![256 * n, 0]) {w : (S256x1024.Idx → Elt F .f32) → S256x1024.Idx → Elt F .f32} (hw : ∀ v j, w v j = q1 m c (v j)) (X Z : S4096x1024.Idx → Elt F .f32)
    (hX : SB m c n X) (hZ : ∀ j, Z ((Rect.unit (s := S4096x1024) off S256x1024.size inb).emb j) = w (fun j => X ((Rect.unit (s := S4096x1024) off S256x1024.size inb).emb j)) j)
    (hZ' : ∀ i, i ∉ (Rect.unit (s := S4096x1024) off S256x1024.size inb).set → Z i = X i) : SB m c (n + 1) Z := by
  have h0 : off 0 = 256 * n := by rw [ho]; rfl
  have hs : S256x1024.size 0 = 256 := rfl
  refine agr_put (w := w fun j => X ((Rect.unit (s := S4096x1024) off S256x1024.size inb).emb j)) h0 hs (by rw [ho]; rfl) rfl (fun r hr hn => hr) (fun i _ hn => ?_) (fun i j hi hr hj _ _ => ?_) hX hZ hZ'
  · dsimp only
    by_cases h : (i 0).val < 256 * n
    · rw [if_pos h, if_pos (by omega)]
    · rw [if_neg h, if_neg (by omega)]
  · refine (hw _ j).trans ((congrArg (q1 m c) ((congrArg X hj).trans (hX i hi))).trans ?_)
    dsimp only
    rw [if_neg (by omega), if_pos (by omega)]

/-- Passing over the opposite device's block counts its two halves as quantised. -/
theorem SB_skip (c : Dev nD) (n : ℕ) (hn : far c = n) (X : S4096x1024.Idx → Elt F .f32) (hX : SB m c (2 * n) X) : SB m c (2 * n + 2) X := by
  intro i hi
  rw [hX i hi]; dsimp only
  by_cases h : (i 0).val < 256 * (2 * n)
  · rw [if_pos h, if_pos (by omega)]
  · rw [if_neg h, if_neg (by omega)]

/-- After sixteen half blocks, all blocks but the opposite one are quantised. -/
theorem SB_all (c : Dev nD) (X : S4096x1024.Idx → Elt F .f32) (hX : SB m c 16 X) : ST m c 0 X := by
  intro i hi
  have hlt : (i 0).val < 4096 := (i 0).isLt
  have hi' : (i 0).val / 512 ≠ far c := hi.elim id fun h => absurd h (by omega)
  rw [hX i hi']; dsimp only
  rw [if_pos (by omega), if_neg hi']

/-- A half of the opposite device's block stored. -/
theorem ST_put (c : Dev nD) (k : Fin 2) {off : Fin 2 → ℕ} {inb : ∀ a, off a + S256x1024.size a ≤ S4096x1024.size a}
    (ho : off = ![512 * far c + 256 * k.val, 0]) {w : S256x1024.Idx → Elt F .f32} (hw : w = mh m c k) (X Z : S4096x1024.Idx → Elt F .f32)
    (hX : ST m c k.val X) (hZ : ∀ j, Z ((Rect.unit (s := S4096x1024) off S256x1024.size inb).emb j) = w j)
    (hZ' : ∀ i, i ∉ (Rect.unit (s := S4096x1024) off S256x1024.size inb).set → Z i = X i) : ST m c (k.val + 1) Z := by
  have h0 : off 0 = 512 * far c + 256 * k.val := by rw [ho]; rfl
  have hs : S256x1024.size 0 = 256 := rfl
  have hk2 : k.val < 2 := k.isLt
  refine agr_put (w := w) h0 hs (by rw [ho]; rfl) rfl (fun r hr hn => ?_) (fun i _ hn => rfl) (fun i j hi hr hj hj0 hj1 => ?_) hX hZ hZ'
  · rcases hr with h | h
    · exact Or.inl h
    · by_cases h' : r / 512 = far c
      · exact Or.inr (by omega)
      · exact Or.inl h'
  · have hf : (i 0).val / 512 = far c := by omega
    have hkk : hk i = k := by
      unfold hk; apply Fin.ext
      by_cases h : (i 0).val % 512 < 256
      · rw [if_pos h]; show 0 = k.val; omega
      · rw [if_neg h]; show 1 = k.val; omega
    have hj : j = ih i := by
      funext a; apply Fin.ext
      match a with
      | ⟨0, _⟩ => show (j 0).val = (i 0).val % 256; omega
      | ⟨1, _⟩ => exact hj1
    dsimp only
    rw [if_pos hf]; unfold Y
    rw [if_pos hf, hkk, hw, hj]

/-- With both halves of the opposite block stored, the whole output is known. -/
theorem ST_all (c : Dev nD) (X : S4096x1024.Idx → Elt F .f32) (hX : ST m c 2 X) : SD m c 0 X := by
  intro i _
  rw [hX i (Or.inr (by omega))]; dsimp only
  rw [if_neg (show ¬ (i 0).val % 512 < 256 * 0 by omega)]

/-- A half of it quantised. -/
theorem SD_put (c : Dev nD) (k : ℕ) (hk2 : k < 2) {off : Fin 2 → ℕ} {inb : ∀ a, off a + S256x1024.size a ≤ S4096x1024.size a}
    (ho : off = ![512 * far c + 256 * k, 0]) {w : (S256x1024.Idx → Elt F .f32) → S256x1024.Idx → Elt F .f32} (hw : ∀ v j, w v j = q2 m c (v j)) (X Z : S4096x1024.Idx → Elt F .f32)
    (hX : SD m c k X) (hZ : ∀ j, Z ((Rect.unit (s := S4096x1024) off S256x1024.size inb).emb j) = w (fun j => X ((Rect.unit (s := S4096x1024) off S256x1024.size inb).emb j)) j)
    (hZ' : ∀ i, i ∉ (Rect.unit (s := S4096x1024) off S256x1024.size inb).set → Z i = X i) : SD m c (k + 1) Z := by
  have h0 : off 0 = 512 * far c + 256 * k := by rw [ho]; rfl
  have hs : S256x1024.size 0 = 256 := rfl
  refine agr_put (w := w fun j => X ((Rect.unit (s := S4096x1024) off S256x1024.size inb).emb j)) h0 hs (by rw [ho]; rfl) rfl (fun r hr hn => hr) (fun i _ hn => ?_) (fun i j hi hr hj _ _ => ?_) hX hZ hZ'
  · dsimp only
    by_cases hf : (i 0).val / 512 = far c
    · rw [if_pos hf, if_pos hf]
      by_cases h : (i 0).val % 512 < 256 * k
      · rw [if_pos h, if_pos (by omega)]
      · rw [if_neg h, if_neg (by omega)]
    · rw [if_neg hf, if_neg hf]
  · refine (hw _ j).trans ((congrArg (q2 m c) ((congrArg X hj).trans (hX i hi))).trans ?_)
    dsimp only
    have hf : (i 0).val / 512 = far c := by omega
    rw [if_pos hf, if_pos hf, if_neg (by omega), if_pos (by omega)]

/-- With both halves of the opposite block quantised, the second pass over the others can begin. -/
theorem SD_all (c : Dev nD) (X : S4096x1024.Idx → Elt F .f32) (hX : SD m c 2 X) : SE m c 0 X := by
  intro i hi
  rw [hX i hi]; dsimp only; unfold VE
  by_cases hf : (i 0).val / 512 = far c
  · rw [if_pos hf, if_pos hf, if_pos (by omega)]
  · rw [if_neg hf, if_neg hf, if_neg (by omega)]

/-- A half block of the second quantising. -/
theorem SE_put (c : Dev nD) (n : ℕ) (hu : upd m c) (hf : far c ≠ n / 2) {off : Fin 2 → ℕ} {inb : ∀ a, off a + S256x1024.size a ≤ S4096x1024.size a}
    (ho : off = ![256 * n, 0]) {w : (S256x1024.Idx → Elt F .f32) → S256x1024.Idx → Elt F .f32} (hw : ∀ v j, w v j = q2 m c (v j)) (X Z : S4096x1024.Idx → Elt F .f32)
    (hX : SE m c n X) (hZ : ∀ j, Z ((Rect.unit (s := S4096x1024) off S256x1024.size inb).emb j) = w (fun j => X ((Rect.unit (s := S4096x1024) off S256x1024.size inb).emb j)) j)
    (hZ' : ∀ i, i ∉ (Rect.unit (s := S4096x1024) off S256x1024.size inb).set → Z i = X i) : SE m c (n + 1) Z := by
  have h0 : off 0 = 256 * n := by rw [ho]; rfl
  have hs : S256x1024.size 0 = 256 := rfl
  refine agr_put (w := w fun j => X ((Rect.unit (s := S4096x1024) off S256x1024.size inb).emb j)) h0 hs (by rw [ho]; rfl) rfl (fun r hr hn => hr) (fun i _ hn => ?_) (fun i j hi hr hj _ _ => ?_) hX hZ hZ'
  · unfold VE
    by_cases hf : (i 0).val / 512 = far c
    · rw [if_pos hf, if_pos hf]
    · rw [if_neg hf, if_neg hf]
      by_cases h : (i 0).val < 256 * n
      · rw [if_pos (show upd m c ∧ (i 0).val < 256 * (n + 1) from ⟨hu, by omega⟩), if_pos ⟨hu, h⟩]
      · rw [if_neg (show ¬ (upd m c ∧ (i 0).val < 256 * (n + 1)) from fun h' => absurd h'.2 (by omega)), if_neg fun h' => h h'.2]
  · refine (hw _ j).trans ((congrArg (q2 m c) ((congrArg X hj).trans (hX i hi))).trans ?_)
    unfold VE
    have hf' : ¬ (i 0).val / 512 = far c := by omega
    rw [if_neg hf', if_neg hf', if_neg fun h' => absurd h'.2 (by omega), if_pos ⟨hu, by omega⟩]

/-- A block that the second pass leaves alone counts as done. -/
theorem SE_skip (c : Dev nD) (n : ℕ) (hn : ¬ (upd m c ∧ far c ≠ n)) (X : S4096x1024.Idx → Elt F .f32) (hX : SE m c (2 * n) X) : SE m c (2 * n + 2) X := by
  intro i hi
  rw [hX i hi]; unfold VE
  by_cases hf : (i 0).val / 512 = far c
  · rw [if_pos hf, if_pos hf]
  · rw [if_neg hf, if_neg hf]
    by_cases hu : upd m c
    · have hn' : far c = n := by by_contra h; exact hn ⟨hu, h⟩
      by_cases h : (i 0).val < 256 * (2 * n)
      · rw [if_pos ⟨hu, h⟩, if_pos ⟨hu, by omega⟩]
      · rw [if_neg fun h' => h h'.2, if_neg fun h' => absurd h'.2 (by omega)]
    · rw [if_neg fun h' => hu h'.1, if_neg fun h' => hu h'.1]

/-! ## The weights, tile by tile -/

/-- The first `n` of 32 tiles of the weights are truncated. -/
def cv (c : Dev nD) (n : ℕ) (f : S4096x1024.Idx → Elt F .bf16) : Prop := ∀ i, 4 * ((i 1).val / 128) + (i 0).val / 1024 < n → f i = wb m c i

/-- With all 32 tiles truncated, the buffer holds the truncated weights. -/
theorem cv_all (c : Dev nD) (f : S4096x1024.Idx → Elt F .bf16) (h : cv m c 32 f) : f = wb m c := by
  funext i
  have h0 : (i 0).val < 4096 := (i 0).isLt
  have h1 : (i 1).val < 1024 := (i 1).isLt
  exact h i (by omega)

/-- Storing the next truncated tile makes it one tile more. -/
theorem cv_put (c : Dev nD) (k t : ℕ) (hk : k < 8) (ht : t < 4) {off : Fin 2 → ℕ} {inb : ∀ a, off a + S1024x128.size a ≤ S4096x1024.size a} (ho : off = ![1024 * t, 128 * k])
    {w : S1024x128.Idx → Elt F .bf16} (hw : ∀ j, w j = wb m c ((Rect.unit (s := S4096x1024) off S1024x128.size inb).emb j)) (X Z : S4096x1024.Idx → Elt F .bf16)
    (hX : cv m c (4 * k + t) X) (hZ : ∀ j, Z ((Rect.unit (s := S4096x1024) off S1024x128.size inb).emb j) = w j)
    (hZ' : ∀ i, i ∉ (Rect.unit (s := S4096x1024) off S1024x128.size inb).set → Z i = X i) : cv m c (4 * k + t + 1) Z := by
  subst ho
  intro i hi
  by_cases h : i ∈ (Rect.unit (s := S4096x1024) ![1024 * t, 128 * k] S1024x128.size inb).set
  · obtain ⟨j, -, rfl⟩ := Finset.mem_map.mp ((Rect.map_emb_univ _).symm ▸ h)
    rw [hZ, hw]
  · rw [hZ' i h]
    refine hX i ?_
    by_contra hn
    refine h (Rect.mem_set_unit.mpr fun a => ?_)
    have h0 : (i 0).val < 4096 := (i 0).isLt
    match a with
    | ⟨0, _⟩ => exact ⟨by show 1024 * t ≤ (i 0).val; omega, by show (i 0).val < 1024 * t + 1024; omega⟩
    | ⟨1, _⟩ => exact ⟨by show 128 * k ≤ (i 1).val; omega, by show (i 1).val < 128 * k + 128; omega⟩

/-! ## The payloads -/

/-- The product of rows read from a slot is the product of the rows themselves. -/
theorem pay37_eq (X : S512x4096.Idx → Elt F .bf16) (W : S4096x1024.Idx → Elt F .bf16) : k0_pay37 (F := F) (x3 X) W = k0_pay35 X W := by
  show maximumf (matmul _ none (shapeCast S512x4096 (x3 X) _) W _) _ = maximumf (matmul _ none (shapeCast S512x4096 X _) W _) _
  unfold x3
  rw [shapeCast_shapeCast, shapeCast_self]

/-- The program's test whether block `b` is another than the opposite one says so. -/
theorem farw_ne (c : Dev nD) (b : Fin 8) :
    (Scalar.cmpi .ne (Scalar.extui (Scalar.cmpi .ne (Scalar.remsi (Scalar.addi (Scalar.remsi (Scalar.divsi (Dev.word c) 1#32) 8#32) 4#32) 8#32) (BitVec.ofNat 32 b.val)) : BitVec 32) 0#32 = 1#1)
      ↔ far c ≠ b.val := by revert c b; decide
/-- The same test together with a second condition. -/
theorem farw_and (c : Dev nD) (b : Fin 8) (u : BitVec 1) :
    (Scalar.cmpi .ne (Scalar.extui (Scalar.andi u (Scalar.cmpi .ne (Scalar.remsi (Scalar.addi (Scalar.remsi (Scalar.divsi (Dev.word c) 1#32) 8#32) 4#32) 8#32) (BitVec.ofNat 32 b.val))) : BitVec 32) 0#32 = 1#1)
      ↔ u = 1#1 ∧ far c ≠ b.val := by revert c b u; decide

/-- A load of a whole buffer of known contents. -/
theorem step_ldWhole {sp : CoreSpace} {s : Shape} {e : EltTy} (c : Dev nD) {M : Memref sig .tc sp s e} {off : Fin s.rank → ℕ} {inb : ∀ a, off a + s.size a ≤ s.size a}
    (ho : ∀ a, off a = 0) {hl : M.view.LoadsAt (Rect.unit (s := s) off s.size inb).toLoadRect} {q : PosShare TreeShare}
    {X : s.Idx → Elt F e} {α : Type} {Q : α → sProp 𝕄} {k : (s.Idx → Elt F e) → Prog (TpuEff nD τ sig (Elt F) Λ₀ .tc) α} :
    has M c q X ⊢ iprop((has M c q X -∗ run c (k X) Q) -∗ run c (.op (.load M (Rect.unit (s := s) off s.size inb).toLoadRect hl) k) Q) := by
  have h : (fun j => X ((Rect.unit (s := s) off s.size inb).emb j)) = X := by
    funext j; congr 1; funext a; apply Fin.ext
    show off a + 1 * (j a).val = (j a).val
    rw [ho a]; omega
  have := step_ld (F := F) (Q := Q) (k := k) c (M := M) (r := Rect.unit (s := s) off s.size inb) (hl := hl) (q := q) (X := X)
  rw [h] at this
  exact this

/-- A tile of the weights loaded, truncated and stored. -/
theorem step_tile (c : Dev nD) (k t : ℕ) (hk : k < 8) (ht : t < 4) {ow off oc : Fin 2 → ℕ} {iw : ∀ a, ow a + S4096x128.size a ≤ S4096x1024.size a}
    {inb : ∀ a, off a + S1024x128.size a ≤ S4096x128.size a} {ic : ∀ a, oc a + S1024x128.size a ≤ S4096x1024.size a}
    (hw : ow = ![0, 128 * k]) (ho : off = ![1024 * t, 0]) (hc : oc = ![1024 * t, 128 * k])
    {w : (S1024x128.Idx → Elt F .f32) → S1024x128.Idx → Elt F .bf16} (hv : w = fun v => truncf (s := S1024x128) .bf16 v bitsLt_bf16_f32)
    {hl : wsM.view.LoadsAt (Rect.unit (s := S4096x128) off S1024x128.size inb).toLoadRect} {hl' : wbM.view.LoadsAt (Rect.unit (s := S4096x1024) oc S1024x128.size ic).toLoadRect}
    {hx : (wbM.access (Rect.unit (s := S4096x1024) oc S1024x128.size ic)).Stores Finset.univ} {hm}
    {α : Type} {Q : α → sProp 𝕄} {K : PUnit → Prog (TpuEff nD τ sig (Elt F) Λ₀ .tc) α} :
    iprop(has wsM c fullShare (fun j => wsv m c ((Rect.unit (s := S4096x1024) ow S4096x128.size iw).emb j)) ∗ buf wbM c fullShare (cv m c (4 * k + t)))
      ⊢ iprop(((has wsM c fullShare (fun j => wsv m c ((Rect.unit (s := S4096x1024) ow S4096x128.size iw).emb j)) ∗ buf wbM c fullShare (cv m c (4 * k + t + 1))) -∗ run c (K ⟨⟩) Q)
        -∗ run c (.op (.load wsM (Rect.unit (s := S4096x128) off S1024x128.size inb).toLoadRect hl) fun v =>
          .op (.load wbM (Rect.unit (s := S4096x1024) oc S1024x128.size ic).toLoadRect hl') fun _ =>
            .op (.store wbM (Rect.unit (s := S4096x1024) oc S1024x128.size ic) (w v) Finset.univ hx hm) K) Q) := by
  iintro ⟨Hs, Hb⟩ Hk
  iapply (step_ld c) $$ Hs; iintro Hs
  iapply (step_ldAny c) $$ Hb; iintro %v Hb
  iapply (step_st c (P' := cv m c (4 * k + t + 1)) (fun X Z => cv_put m c k t hk ht hc (fun j => by
    subst hv hw ho hc
    refine congrArg (fun x : F .f32 => FloatOps.truncf .bf16 bitsLt_bf16_f32 x) (congrArg (wsv m c) ?_)
    funext a; apply Fin.ext
    match a with
    | ⟨0, _⟩ => show 0 + 1 * (1024 * t + 1 * (j 0).val) = 1024 * t + 1 * (j 0).val; omega
    | ⟨1, _⟩ => show 128 * k + 1 * (0 + 1 * (j 1).val) = 128 * k + 1 * (j 1).val; omega) X Z)) $$ Hb
  iintro Hb
  iapply Hk
  isplitl [Hs]; · iexact Hs
  iexact Hb

end Cert.KernelIdeal.Ring

end
-- ==== Proof.Parts.lean ====
/-
The body's parts at the launch's arguments.
-/
module

public import proofs.«01_k».proof.Proof.Sched

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev pt1 : Prog (TpuEff nD τ sig (Elt F) Λ₀ .tc) (Σ' (d0 : Dev nD) (v2 : BitVec 32) (v5 : BitVec 32), BitVec 32) :=
  k0_part1_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0
abbrev pt2 (d0 : Dev nD) : Prog (TpuEff nD τ sig (Elt F) Λ₀ .tc) (PUnit) :=
  k0_part2_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0
abbrev pt3 : Prog (TpuEff nD τ sig (Elt F) Λ₀ .tc) (PUnit) :=
  k0_part3_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0
abbrev pt4 : Prog (TpuEff nD τ sig (Elt F) Λ₀ .tc) (FVec F S1024x128 .bf16) :=
  k0_part4_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0
abbrev pt5 (v108 : FVec F S1024x128 .bf16) : Prog (TpuEff nD τ sig (Elt F) Λ₀ .tc) (FVec F S1024x128 .bf16) :=
  k0_part5_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 v108
abbrev pt6 (v135 : FVec F S1024x128 .bf16) : Prog (TpuEff nD τ sig (Elt F) Λ₀ .tc) (PUnit) :=
  k0_part6_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 v135
abbrev pt7 : Prog (TpuEff nD τ sig (Elt F) Λ₀ .tc) (PUnit) :=
  k0_part7_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0
abbrev pt8 (d0 : Dev nD) (v2 : BitVec 32) (v7 : BitVec 32) : Prog (TpuEff nD τ sig (Elt F) Λ₀ .tc) (F .f32) :=
  k0_part8_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v2 v7
abbrev pt9 (d0 : Dev nD) (v5 : BitVec 32) (v7 : BitVec 32) : Prog (TpuEff nD τ sig (Elt F) Λ₀ .tc) (PUnit) :=
  k0_part9_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v5 v7
abbrev pt10 (d0 : Dev nD) (v2 : BitVec 32) (v218 : F .f32) : Prog (TpuEff nD τ sig (Elt F) Λ₀ .tc) (Σ' (v270 : F .f32), FVec F S1x512x1024 .f32) :=
  k0_part10_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v2 v218
abbrev pt11 (d0 : Dev nD) (v5 : BitVec 32) (v7 : BitVec 32) (v270 : F .f32) (v280 : FVec F S1x512x1024 .f32) : Prog (TpuEff nD τ sig (Elt F) Λ₀ .tc) (F .f32) :=
  k0_part11_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v5 v7 v270 v280
abbrev pt12 (d0 : Dev nD) (v2 : BitVec 32) (v5 : BitVec 32) : Prog (TpuEff nD τ sig (Elt F) Λ₀ .tc) (Σ' (v326 : BitVec 32), FVec F S1x1x1 .f32) :=
  k0_part12_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v2 v5
abbrev pt13 (d0 : Dev nD) (v7 : BitVec 32) (v284 : F .f32) (v326 : BitVec 32) (v338 : FVec F S1x1x1 .f32) : Prog (TpuEff nD τ sig (Elt F) Λ₀ .tc) (F .f32) :=
  k0_part13_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v7 v284 v326 v338
abbrev pt14 (d0 : Dev nD) (v2 : BitVec 32) (v5 : BitVec 32) : Prog (TpuEff nD τ sig (Elt F) Λ₀ .tc) (Σ' (v392 : BitVec 32) (v394 : FVec F S512x4096 .bf16) (v395 : BitVec 32) (v396 : Vec F S4096x1024 .bf16), FVec F S512x1024 .f32) :=
  k0_part14_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v2 v5
abbrev pt15 (d0 : Dev nD) (v2 : BitVec 32) (v354 : F .f32) (v392 : BitVec 32) (v394 : FVec F S512x4096 .bf16) (v395 : BitVec 32) (v396 : Vec F S4096x1024 .bf16) (cst_344 : FVec F S512x1024 .f32) : Prog (TpuEff nD τ sig (Elt F) Λ₀ .tc) (Σ' (v422 : BitVec 32) (v428 : FVec F S1x128 .f32), Vec F S1x1x128 .f32) :=
  k0_part15_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v2 v354 v392 v394 v395 v396 cst_344
abbrev pt16 (d0 : Dev nD) (v2 : BitVec 32) (v428 : FVec F S1x128 .f32) (v429 : Vec F S1x1x128 .f32) : Prog (TpuEff nD τ sig (Elt F) Λ₀ .tc) (Σ' (v433 : BitVec 32) (v445 : BitVec 32), BitVec 32) :=
  k0_part16_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v2 v428 v429
abbrev pt17 (d0 : Dev nD) (v2 : BitVec 32) (v457 : BitVec 32) : Prog (TpuEff nD τ sig (Elt F) Λ₀ .tc) (Σ' (v469 : BitVec 32), BitVec 32) :=
  k0_part17_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v2 v457
abbrev pt18 (d0 : Dev nD) (v2 : BitVec 32) : Prog (TpuEff nD τ sig (Elt F) Λ₀ .tc) (Σ' (v493 : BitVec 32), BitVec 32) :=
  k0_part18_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v2
abbrev pt19 (v433 : BitVec 32) (v445 : BitVec 32) (v457 : BitVec 32) : Prog (TpuEff nD τ sig (Elt F) Λ₀ .tc) (BitVec 32) :=
  k0_part19_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 v433 v445 v457
abbrev pt20 (v469 : BitVec 32) (v481 : BitVec 32) (v493 : BitVec 32) (v505 : BitVec 32) (c1_i32_483 : BitVec 32) : Prog (TpuEff nD τ sig (Elt F) Λ₀ .tc) (PUnit) :=
  k0_part20_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 v469 v481 v493 v505 c1_i32_483
abbrev pt21 (v422 : BitVec 32) : Prog (TpuEff nD τ sig (Elt F) Λ₀ .tc) (Σ' (v576 : F .f32) (v577 : F .f32), F .f32) :=
  k0_part21_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 v422
abbrev pt22 (d0 : Dev nD) (v5 : BitVec 32) (v7 : BitVec 32) (v422 : BitVec 32) (v577 : F .f32) (v578 : F .f32) : Prog (TpuEff nD τ sig (Elt F) Λ₀ .tc) (FVec F S1 .f32) :=
  k0_part22_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v5 v7 v422 v577 v578
abbrev pt23 (d0 : Dev nD) (v2 : BitVec 32) (v422 : BitVec 32) (v624 : FVec F S1 .f32) : Prog (TpuEff nD τ sig (Elt F) Λ₀ .tc) (Σ' (v652 : BitVec 32) (v653 : BitVec 32), BitVec 32) :=
  k0_part23_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v2 v422 v624
abbrev pt24 (d0 : Dev nD) (v2 : BitVec 32) (v653 : BitVec 32) (c0_i32_591 : BitVec 32) : Prog (TpuEff nD τ sig (Elt F) Λ₀ .tc) (Σ' (v664 : BitVec 32), BitVec 32) :=
  k0_part24_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v2 v653 c0_i32_591
abbrev pt25 (d0 : Dev nD) (v2 : BitVec 32) : Prog (TpuEff nD τ sig (Elt F) Λ₀ .tc) (Σ' (v688 : BitVec 32) (v700 : BitVec 32), BitVec 32) :=
  k0_part25_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v2
abbrev pt26 (d0 : Dev nD) (v2 : BitVec 32) (v652 : BitVec 32) (v712 : BitVec 32) : Prog (TpuEff nD τ sig (Elt F) Λ₀ .tc) (BitVec 32) :=
  k0_part26_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v2 v652 v712
abbrev pt27 (v664 : BitVec 32) (v676 : BitVec 32) (v688 : BitVec 32) : Prog (TpuEff nD τ sig (Elt F) Λ₀ .tc) (PUnit) :=
  k0_part27_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 v664 v676 v688
abbrev pt28 (v700 : BitVec 32) (v712 : BitVec 32) (v724 : BitVec 32) : Prog (TpuEff nD τ sig (Elt F) Λ₀ .tc) (PUnit) :=
  k0_part28_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 v700 v712 v724
abbrev pt29 (d0 : Dev nD) (v422 : BitVec 32) (v576 : F .f32) : Prog (TpuEff nD τ sig (Elt F) Λ₀ .tc) (Σ' (v796 : F .f32) (v797 : F .f32) (v798 : F .f32), BitVec 1) :=
  k0_part29_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v422 v576
abbrev pt30 (v422 : BitVec 32) (v576 : F .f32) (v796 : F .f32) (v797 : F .f32) (v798 : F .f32) (v833 : BitVec 1) : Prog (TpuEff nD τ sig (Elt F) Λ₀ .tc) (PUnit) :=
  k0_part30_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 v422 v576 v796 v797 v798 v833
abbrev pt31 : Prog (TpuEff nD τ sig (Elt F) Λ₀ .tc) (PUnit) :=
  k0_part31_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0
abbrev pt32 : Prog (TpuEff nD τ sig (Elt F) Λ₀ .tc) (PUnit) :=
  k0_part32_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0
abbrev pt33 : Prog (TpuEff nD τ sig (Elt F) Λ₀ .tc) (PUnit) :=
  k0_part33_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0
abbrev pt34 : Prog (TpuEff nD τ sig (Elt F) Λ₀ .tc) (PUnit) :=
  k0_part34_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0
abbrev pt35 : Prog (TpuEff nD τ sig (Elt F) Λ₀ .tc) (PUnit) :=
  k0_part35_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0
abbrev pt36 (d0 : Dev nD) (v2 : BitVec 32) : Prog (TpuEff nD τ sig (Elt F) Λ₀ .tc) (PUnit) :=
  k0_part36_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0 d0 v2
abbrev pt37 : Prog (TpuEff nD τ sig (Elt F) Λ₀ .tc) (Σ' (d0 : Dev nD) (v1013_r0 : BitVec 32), BitVec 32) :=
  k0_part37_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0
end Cert.KernelIdeal.Ring

end
-- ==== Proof.Pays.lean ====
/-

What each cell's payload is, as the device that waits on it receives it and as the device that sends to it hands it over,
and the sends, waits and signals of the protocol with these payloads put in.

-/
module

public import proofs.«01_k».proof.Proof.Out
public import proofs.«01_k».proof.Proof.Parts

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 48 → ℕ) (c : Dev nD)

/-- Two moves round the ring are one, counted modulo eight. -/
theorem plk (a b d : ℕ) (h : (a + b) % 8 = d % 8) : pl (pl c a) b = pl c d := by
  rw [pl_pl, ← pl_mod c (a + b), h, pl_mod]
/-- Two moves that make a full turn lead back. -/
theorem plc (a b : ℕ) (h : (a + b) % 8 = 0) : pl (pl c a) b = c := by
  rw [plk c a b 0 (by omega), pl_zero]

/-- A ring cell's payload. -/
theorem pay_ring (j : Fin 49) (h : j.val < 18) (R E : sProp 𝕄) (hR : payRing m c j.val = R) (hE : extra (F := F) c j.val = E) : pay m c (D j) 0 = iprop(R ∗ E) := by
  rw [← hR, ← hE]; exact if_pos h
/-- An amax cell's payload. -/
theorem pay_amax (j : Fin 49) (h : ¬ j.val < 18) : pay m c (D j) 0 = payAmax m c j.val := if_neg h

/-- The barrier's payloads: what device `c` hands to its neighbours, and what it receives. -/
theorem bar_left : barR (F := F) c ⊢ pay m (pl c 7) (.reg barS) 1 :=
  Entails.of_eq (by show barR c = barR (pl (pl c 7) 1); rw [plc c 7 1 rfl])
/-- What a device hands its right neighbour is what it owes that device's barrier. -/
theorem bar_right : barL (F := F) c ⊢ pay m (pl c 1) (.reg barS) 0 :=
  Entails.of_eq (by show barL c = barL (pl (pl c 1) 7); rw [plc c 1 7 rfl])
/-- The barrier's wait brings what both neighbours hand over. -/
theorem bar_got : (bigSep (dut (.reg barS)) fun d => pay m c (.reg barS) d) ⊢ (iprop(barL (pl c 7) ∗ barR (pl c 1)) : sProp 𝕄) := by
  rw [show dut (.reg barS) = {0, 1} from rfl, bigSep_insert (by decide), bigSep_singleton]
  exact .rfl
/-- Receive cell 6 brings the rows from one place back, and rights to table rows. -/
theorem got6 : pay m c (D 6) 0 = (iprop(has (slotM cwM 0) c fullShare (xs m (pl c 7)) ∗ gs (pl c 6) 5 ∗ gs (pl c 6) 6) : sProp 𝕄) := pay_ring m c 6 (by decide) _ _ rfl rfl
/-- Receive cell 7 brings the rows from two places back, and rights to table rows. -/
theorem got7 : pay m c (D 7) 0 = (iprop(has (slotM cwM 1) c fullShare (xs m (pl c 6)) ∗ gs (pl c 5) 5) : sProp 𝕄) := pay_ring m c 7 (by decide) _ _ rfl rfl
/-- Receive cell 8 brings the rows from three places back. -/
theorem got8 : pay m c (D 8) 0 = (iprop(has (slotM cwM 2) c fullShare (xs m (pl c 5)) ∗ emp) : sProp 𝕄) := pay_ring m c 8 (by decide) _ _ rfl rfl
/-- Receive cell 9 brings the first half of the opposite rows. -/
theorem got9 : pay m c (D 9) 0 = (iprop(has cwH c fullShare (xh 0 (xs m (pl c 4))) ∗ emp) : sProp 𝕄) := pay_ring m c 9 (by decide) _ _ rfl rfl
/-- Receive cell 14 brings the rows from one place on, and rights to table rows. -/
theorem got14 : pay m c (D 14) 0 = (iprop(has (slotM ccM 0) c fullShare (xs m (pl c 1)) ∗ gs (pl c 2) 2 ∗ gs (pl c 2) 3 ∗ gs (pl c 2) 4) : sProp 𝕄) := pay_ring m c 14 (by decide) _ _ rfl rfl
/-- Receive cell 15 brings the rows from two places on, and rights to table rows. -/
theorem got15 : pay m c (D 15) 0 = (iprop(has (slotM ccM 1) c fullShare (xs m (pl c 2)) ∗ gs (pl c 3) 3 ∗ gs (pl c 3) 4) : sProp 𝕄) := pay_ring m c 15 (by decide) _ _ rfl rfl
/-- Receive cell 16 brings the rows from three places on, and a right to table rows. -/
theorem got16 : pay m c (D 16) 0 = (iprop(has (slotM ccM 2) c fullShare (xs m (pl c 3)) ∗ gs (pl c 4) 4) : sProp 𝕄) := pay_ring m c 16 (by decide) _ _ rfl rfl
/-- Receive cell 17 brings the second half of the opposite rows. -/
theorem got17 : pay m c (D 17) 0 = (iprop(has ccH c fullShare (xh 1 (xs m (pl c 4))) ∗ emp) : sProp 𝕄) := pay_ring m c 17 (by decide) _ _ rfl rfl
/-- Send cell 2 gives back the lent share of the own rows. -/
theorem got2 : pay m c (D 2) 0 = (iprop(any xM c (piece 0) ∗ emp) : sProp 𝕄) := pay_ring m c 2 (by decide) _ _ rfl rfl
/-- Send cell 3 gives back the lent share of slot 0. -/
theorem got3 : pay m c (D 3) 0 = (iprop(any (slotM cwM 0) c (piece 0) ∗ emp) : sProp 𝕄) := pay_ring m c 3 (by decide) _ _ rfl rfl
/-- Send cell 4 gives back the lent share of slot 1. -/
theorem got4 : pay m c (D 4) 0 = (iprop(any (slotM cwM 1) c (piece 0) ∗ emp) : sProp 𝕄) := pay_ring m c 4 (by decide) _ _ rfl rfl
/-- Send cell 5 gives back the lent share of the half of slot 2. -/
theorem got5 : pay m c (D 5) 0 = (iprop(any (halfM cwM 0) c (piece 0) ∗ emp) : sProp 𝕄) := pay_ring m c 5 (by decide) _ _ rfl rfl
/-- Send cell 10 gives back the lent share of the own rows. -/
theorem got10 : pay m c (D 10) 0 = (iprop(any xM c (piece 1) ∗ emp) : sProp 𝕄) := pay_ring m c 10 (by decide) _ _ rfl rfl
/-- Send cell 11 gives back the lent share of slot 0. -/
theorem got11 : pay m c (D 11) 0 = (iprop(any (slotM ccM 0) c (piece 0) ∗ emp) : sProp 𝕄) := pay_ring m c 11 (by decide) _ _ rfl rfl
/-- Send cell 12 gives back the lent share of slot 1. -/
theorem got12 : pay m c (D 12) 0 = (iprop(any (slotM ccM 1) c (piece 0) ∗ emp) : sProp 𝕄) := pay_ring m c 12 (by decide) _ _ rfl rfl
/-- Send cell 13 gives back the lent share of the half of slot 2. -/
theorem got13 : pay m c (D 13) 0 = (iprop(any (halfM ccM 1) c (piece 0) ∗ emp) : sProp 𝕄) := pay_ring m c 13 (by decide) _ _ rfl rfl

omit [FloatOps F] in
/-- An empty part may be added, -/
theorem to_emp {P : sProp 𝕄} : P ⊢ iprop(P ∗ emp) := by
  iintro H; isplitl [H]; · iexact H
  iempintro
omit [FloatOps F] in
/-- and dropped. -/
theorem of_emp {P : sProp 𝕄} : iprop(P ∗ emp) ⊢ P := by
  iintro ⟨H, -⟩; iexact H

/-- A credit of one transfer is the credit to wait on its send cell. -/
theorem crd_of (j : Fin 49) (h : dut (D j) = {0}) : (cred (tallyAt ((c : Thread nD τ), D j) () (amt (D j))) : sProp 𝕄) ⊢ crd c (D j) := by
  unfold crd; rw [h, Finset.card_singleton, Nat.one_mul]

section Sends
variable {dv : Dev nD} {qs qr : DmaSem sig}

/-- The send that arrives at cell 6. -/
theorem snd6 (hdv : dv = pl c 1) (hqs : qs = dm 2) (hqr : qr = dm 6) {hsc hsrc hdst hsem} {α : Type} {Q : α → sProp 𝕄} {k : PUnit → Prog (TpuEff nD τ sig (Elt F) Λ₀ .tc) α} :
    iprop(records m K ∗ ows c 2 ∗ tok c (D 2) 0 ∗ tok (pl c 1) (D 6) 0 ∗ has (xM) c (piece 0) (xs m c) ∗ any (slotM cwM 0) (pl c 1) fullShare ∗ iprop(gs (pl c 7) 5 ∗ gs (pl c 7) 6))
      ⊢ iprop(((ows c 3 ∗ crd c (D 2)) -∗ run c (k ⟨⟩) Q)
        -∗ run c (.op (.enqueueDma (xM) (.remote (Dev.tc (τ := τ) dv) (slotM cwM 0) (.dma qs) hsc) (SemLoc.dma qr) hsrc hdst hsem) k) Q) :=
  step_send m K c 2 1 2 6 rfl rfl rfl (by decide) (by decide) hdv hqs hqr rfl rfl
    (by rw [got2]; exact to_emp) (Entails.of_eq (by rw [got6, plc c 1 7 rfl, plk c 1 6 7 rfl]))

/-- The send that arrives at cell 14. -/
theorem snd14 (hdv : dv = pl c 7) (hqs : qs = dm 10) (hqr : qr = dm 14) {hsc hsrc hdst hsem} {α : Type} {Q : α → sProp 𝕄} {k : PUnit → Prog (TpuEff nD τ sig (Elt F) Λ₀ .tc) α} :
    iprop(records m K ∗ ows c 3 ∗ tok c (D 10) 0 ∗ tok (pl c 7) (D 14) 0 ∗ has (xM) c (piece 1) (xs m c) ∗ any (slotM ccM 0) (pl c 7) fullShare ∗ iprop(gs (pl c 1) 2 ∗ gs (pl c 1) 3 ∗ gs (pl c 1) 4))
      ⊢ iprop(((ows c 4 ∗ crd c (D 10)) -∗ run c (k ⟨⟩) Q)
        -∗ run c (.op (.enqueueDma (xM) (.remote (Dev.tc (τ := τ) dv) (slotM ccM 0) (.dma qs) hsc) (SemLoc.dma qr) hsrc hdst hsem) k) Q) :=
  step_send m K c 3 7 10 14 rfl rfl rfl (by decide) (by decide) hdv hqs hqr rfl rfl
    (by rw [got10]; exact to_emp) (Entails.of_eq (by rw [got14, plc c 7 1 rfl, plk c 7 2 1 rfl]))

/-- The send that arrives at cell 7. -/
theorem snd7 (hdv : dv = pl c 1) (hqs : qs = dm 3) (hqr : qr = dm 7) {hsc hsrc hdst hsem} {α : Type} {Q : α → sProp 𝕄} {k : PUnit → Prog (TpuEff nD τ sig (Elt F) Λ₀ .tc) α} :
    iprop(records m K ∗ ows c 4 ∗ tok c (D 3) 0 ∗ tok (pl c 1) (D 7) 0 ∗ has (slotM cwM 0) c (piece 0) (xs m (pl c 7)) ∗ any (slotM cwM 1) (pl c 1) fullShare ∗ gs (pl c 6) 5)
      ⊢ iprop(((ows c 5 ∗ crd c (D 3)) -∗ run c (k ⟨⟩) Q)
        -∗ run c (.op (.enqueueDma (slotM cwM 0) (.remote (Dev.tc (τ := τ) dv) (slotM cwM 1) (.dma qs) hsc) (SemLoc.dma qr) hsrc hdst hsem) k) Q) :=
  step_send m K c 4 1 3 7 rfl rfl rfl (by decide) (by decide) hdv hqs hqr rfl rfl
    (by rw [got3]; exact to_emp) (Entails.of_eq (by rw [got7, plk c 1 6 7 rfl, plk c 1 5 6 rfl]))

/-- The send that arrives at cell 15. -/
theorem snd15 (hdv : dv = pl c 7) (hqs : qs = dm 11) (hqr : qr = dm 15) {hsc hsrc hdst hsem} {α : Type} {Q : α → sProp 𝕄} {k : PUnit → Prog (TpuEff nD τ sig (Elt F) Λ₀ .tc) α} :
    iprop(records m K ∗ ows c 5 ∗ tok c (D 11) 0 ∗ tok (pl c 7) (D 15) 0 ∗ has (slotM ccM 0) c (piece 0) (xs m (pl c 1)) ∗ any (slotM ccM 1) (pl c 7) fullShare ∗ iprop(gs (pl c 2) 3 ∗ gs (pl c 2) 4))
      ⊢ iprop(((ows c 6 ∗ crd c (D 11)) -∗ run c (k ⟨⟩) Q)
        -∗ run c (.op (.enqueueDma (slotM ccM 0) (.remote (Dev.tc (τ := τ) dv) (slotM ccM 1) (.dma qs) hsc) (SemLoc.dma qr) hsrc hdst hsem) k) Q) :=
  step_send m K c 5 7 11 15 rfl rfl rfl (by decide) (by decide) hdv hqs hqr rfl rfl
    (by rw [got11]; exact to_emp) (Entails.of_eq (by rw [got15, plk c 7 2 1 rfl, plk c 7 3 2 rfl]))

/-- The send that arrives at cell 8. -/
theorem snd8 (hdv : dv = pl c 1) (hqs : qs = dm 4) (hqr : qr = dm 8) {hsc hsrc hdst hsem} {α : Type} {Q : α → sProp 𝕄} {k : PUnit → Prog (TpuEff nD τ sig (Elt F) Λ₀ .tc) α} :
    iprop(records m K ∗ ows c 6 ∗ tok c (D 4) 0 ∗ tok (pl c 1) (D 8) 0 ∗ has (slotM cwM 1) c (piece 0) (xs m (pl c 6)) ∗ any (slotM cwM 2) (pl c 1) fullShare ∗ iprop(emp))
      ⊢ iprop(((ows c 7 ∗ crd c (D 4)) -∗ run c (k ⟨⟩) Q)
        -∗ run c (.op (.enqueueDma (slotM cwM 1) (.remote (Dev.tc (τ := τ) dv) (slotM cwM 2) (.dma qs) hsc) (SemLoc.dma qr) hsrc hdst hsem) k) Q) :=
  step_send m K c 6 1 4 8 rfl rfl rfl (by decide) (by decide) hdv hqs hqr rfl rfl
    (by rw [got4]; exact to_emp) (Entails.of_eq (by rw [got8, plk c 1 5 6 rfl]))

/-- The send that arrives at cell 16. -/
theorem snd16 (hdv : dv = pl c 7) (hqs : qs = dm 12) (hqr : qr = dm 16) {hsc hsrc hdst hsem} {α : Type} {Q : α → sProp 𝕄} {k : PUnit → Prog (TpuEff nD τ sig (Elt F) Λ₀ .tc) α} :
    iprop(records m K ∗ ows c 7 ∗ tok c (D 12) 0 ∗ tok (pl c 7) (D 16) 0 ∗ has (slotM ccM 1) c (piece 0) (xs m (pl c 2)) ∗ any (slotM ccM 2) (pl c 7) fullShare ∗ gs (pl c 3) 4)
      ⊢ iprop(((ows c 8 ∗ crd c (D 12)) -∗ run c (k ⟨⟩) Q)
        -∗ run c (.op (.enqueueDma (slotM ccM 1) (.remote (Dev.tc (τ := τ) dv) (slotM ccM 2) (.dma qs) hsc) (SemLoc.dma qr) hsrc hdst hsem) k) Q) :=
  step_send m K c 7 7 12 16 rfl rfl rfl (by decide) (by decide) hdv hqs hqr rfl rfl
    (by rw [got12]; exact to_emp) (Entails.of_eq (by rw [got16, plk c 7 3 2 rfl, plk c 7 4 3 rfl]))

/-- The send that arrives at cell 9. -/
theorem snd9 (hdv : dv = pl c 1) (hqs : qs = dm 5) (hqr : qr = dm 9) {hsc hsrc hdst hsem} {α : Type} {Q : α → sProp 𝕄} {k : PUnit → Prog (TpuEff nD τ sig (Elt F) Λ₀ .tc) α} :
    iprop(records m K ∗ ows c 8 ∗ tok c (D 5) 0 ∗ tok (pl c 1) (D 9) 0 ∗ has (halfM cwM 0) c (piece 0) (xh 0 (xs m (pl c 5))) ∗ any (cwH) (pl c 1) fullShare ∗ iprop(emp))
      ⊢ iprop(((ows c 9 ∗ crd c (D 5)) -∗ run c (k ⟨⟩) Q)
        -∗ run c (.op (.enqueueDma (halfM cwM 0) (.remote (Dev.tc (τ := τ) dv) (cwH) (.dma qs) hsc) (SemLoc.dma qr) hsrc hdst hsem) k) Q) :=
  step_send m K c 8 1 5 9 rfl rfl rfl (by decide) (by decide) hdv hqs hqr rfl rfl
    (by rw [got5]; exact to_emp) (Entails.of_eq (by rw [got9, plk c 1 4 5 rfl]))

/-- The send that arrives at cell 17. -/
theorem snd17 (hdv : dv = pl c 7) (hqs : qs = dm 13) (hqr : qr = dm 17) {hsc hsrc hdst hsem} {α : Type} {Q : α → sProp 𝕄} {k : PUnit → Prog (TpuEff nD τ sig (Elt F) Λ₀ .tc) α} :
    iprop(records m K ∗ ows c 9 ∗ tok c (D 13) 0 ∗ tok (pl c 7) (D 17) 0 ∗ has (halfM ccM 1) c (piece 0) (xh 1 (xs m (pl c 3))) ∗ any (ccH) (pl c 7) fullShare ∗ iprop(emp))
      ⊢ iprop(((ows c 10 ∗ crd c (D 13)) -∗ run c (k ⟨⟩) Q)
        -∗ run c (.op (.enqueueDma (halfM ccM 1) (.remote (Dev.tc (τ := τ) dv) (ccH) (.dma qs) hsc) (SemLoc.dma qr) hsrc hdst hsem) k) Q) :=
  step_send m K c 9 7 13 17 rfl rfl rfl (by decide) (by decide) hdv hqs hqr rfl rfl
    (by rw [got13]; exact to_emp) (Entails.of_eq (by rw [got17, plk c 7 4 3 rfl]))

/-- The first exchange's send cells give back the lent share of the row that was sent. -/
theorem got_amS0 (d : Fin 8) (hd : d ≠ 0) : pay m c (D ⟨17 + d.val, by omega⟩) 0 = any (srcM 0) c (piece (d.val - 1)) := by
  have h0 : 0 < d.val := Nat.pos_of_ne_zero fun h => hd (Fin.ext h)
  rw [pay_amax m c _ (by show ¬ 17 + d.val < 18; omega)]
  unfold payAmax
  dsimp only
  rw [if_pos (by omega)]
  rw [show 17 + d.val - 18 = d.val - 1 by omega]
/-- Its receive cells bring the sender's row of maxima. -/
theorem got_amR0 (d : Fin 8) : pay m c (D ⟨32 + d.val, by omega⟩) 0 = has (rowM gM1 d) c fullShare (row (am1 m (pl c (8 - d.val)))) := by
  rw [pay_amax m c _ (by show ¬ 32 + d.val < 18; omega)]
  unfold payAmax
  dsimp only
  rw [if_neg (by omega), if_neg (by omega), dif_pos (by omega)]
  have h : (32 + d.val) - 32 = d.val := by omega
  have aux : ∀ (j : ℕ) (hj : j < 8), j = d.val → has (rowM gM1 ⟨j, hj⟩) c fullShare (row (am1 m (pl c (8 - j)))) = has (rowM gM1 d) c fullShare (row (am1 m (pl c (8 - d.val)))) :=
    fun j hj e => by subst e; rfl
  exact aux _ _ h
set_option maxRecDepth 20000 in
/-- The first exchange's payment to the device `d` places on, with its cells, duties and amounts. -/
theorem am_tab0 (d : Fin 8) (hd : d ≠ 0) : obs.drop (9 + d.val) = ⟨d.val, D ⟨32 + d.val, by omega⟩, 0⟩ :: obs.drop (9 + d.val + 1)
    ∧ csem (idx (D ⟨17 + d.val, by omega⟩)) = D ⟨17 + d.val, by omega⟩ ∧ csem (idx (D ⟨32 + d.val, by omega⟩)) = D ⟨32 + d.val, by omega⟩
    ∧ dut (D ⟨17 + d.val, by omega⟩) = {0} ∧ dut (D ⟨32 + d.val, by omega⟩) = {0}
    ∧ amt (D ⟨17 + d.val, by omega⟩) = 16 ∧ amt (D ⟨32 + d.val, by omega⟩) = 16 := by
  fin_cases d
  · exact absurd rfl hd
  all_goals exact ⟨rfl, rfl, rfl, rfl, rfl, rfl, rfl⟩
/-- The send of row 0 of the maxima to the device `d` places to the right. -/
theorem snd_am0 (d : Fin 8) (hd : d ≠ 0) (hdv : dv = pl c d.val) (hqs : qs = dm ⟨17 + d.val, by omega⟩) (hqr : qr = dm ⟨32 + d.val, by omega⟩) {hsc hsrc hdst hsem} {α : Type} {Q : α → sProp 𝕄} {k : PUnit → Prog (TpuEff nD τ sig (Elt F) Λ₀ .tc) α} :
    iprop(records m K ∗ ows c (9 + d.val) ∗ tok c (D ⟨17 + d.val, by omega⟩) 0 ∗ tok (pl c d.val) (D ⟨32 + d.val, by omega⟩) 0
        ∗ has (srcM 0) c (rest (d.val - 1)) (row (am1 m c)) ∗ any (rowM gM1 d) (pl c d.val) fullShare)
      ⊢ iprop(((ows c (9 + d.val + 1) ∗ crd c (D ⟨17 + d.val, by omega⟩) ∗ has (srcM 0) c (rest (d.val - 1 + 1)) (row (am1 m c))) -∗ run c (k ⟨⟩) Q)
        -∗ run c (.op (.enqueueDma (srcM 0) (.remote (Dev.tc (τ := τ) dv) (rowM gM1 d) (.dma qs) hsc) (SemLoc.dma qr) hsrc hdst hsem) k) Q) := by
  obtain ⟨h1, h2, h3, h4, h5, h6, h7⟩ := am_tab0 d hd
  have h0 : 0 < d.val := Nat.pos_of_ne_zero fun h => hd (Fin.ext h)
  iintro ⟨#HR, HO, Ht, Ht', Hs, Hd⟩ Hk
  ihave Hs := (share_split c (d.val - 1)) $$ Hs
  icases Hs with ⟨Hs, Hr⟩
  iapply (step_send m K c (9 + d.val) d.val ⟨17 + d.val, by omega⟩ ⟨32 + d.val, by omega⟩ h1 h2 h3 (by rw [h4]; exact Finset.mem_singleton_self _)
    (by rw [h5]; exact Finset.mem_singleton_self _) hdv hqs hqr (by rw [h7]; rfl) (h6.trans h7.symm) (E := iprop(emp))
    (Entails.of_eq (got_amS0 m c d hd).symm) (by
      rw [got_amR0, plc c d.val (8 - d.val) (by have := d.isLt; omega)]; exact of_emp)) $$ [HO Ht Ht' Hs Hd]
  · isplitr; · iexact HR
    isplitl [HO]; · iexact HO
    isplitl [Ht]; · iexact Ht
    isplitl [Ht']; · iexact Ht'
    isplitl [Hs]; · iexact Hs
    iapply to_emp; iexact Hd
  iintro ⟨HO, Hc⟩
  iapply Hk
  isplitl [HO]; · iexact HO
  isplitl [Hc]; · iapply (crd_of c _ h4); iexact Hc
  iexact Hr

/-- The second exchange's send cells give back the lent share of the row that was sent. -/
theorem got_amS1 (d : Fin 8) (hd : d ≠ 0) : pay m c (D ⟨24 + d.val, by omega⟩) 0 = any (srcM 1) c (piece (d.val - 1)) := by
  have h0 : 0 < d.val := Nat.pos_of_ne_zero fun h => hd (Fin.ext h)
  rw [pay_amax m c _ (by show ¬ 24 + d.val < 18; omega)]
  unfold payAmax
  dsimp only
  rw [if_neg (by omega), if_pos (by omega)]
  rw [show 24 + d.val - 25 = d.val - 1 by omega]
/-- Its receive cells bring the sender's row of maxima. -/
theorem got_amR1 (d : Fin 8) : pay m c (D ⟨40 + d.val, by omega⟩) 0 = has (rowM gM2 d) c fullShare (row (am2 m (pl c (8 - d.val)))) := by
  rw [pay_amax m c _ (by show ¬ 40 + d.val < 18; omega)]
  unfold payAmax
  dsimp only
  rw [if_neg (by omega), if_neg (by omega), dif_neg (by omega), dif_pos (by omega)]
  have h : (40 + d.val) - 40 = d.val := by omega
  have aux : ∀ (j : ℕ) (hj : j < 8), j = d.val → has (rowM gM2 ⟨j, hj⟩) c fullShare (row (am2 m (pl c (8 - j)))) = has (rowM gM2 d) c fullShare (row (am2 m (pl c (8 - d.val)))) :=
    fun j hj e => by subst e; rfl
  exact aux _ _ h
set_option maxRecDepth 20000 in
/-- The second exchange's payment to the device `d` places on, with its cells, duties and amounts. -/
theorem am_tab1 (d : Fin 8) (hd : d ≠ 0) : obs.drop (16 + d.val) = ⟨d.val, D ⟨40 + d.val, by omega⟩, 0⟩ :: obs.drop (16 + d.val + 1)
    ∧ csem (idx (D ⟨24 + d.val, by omega⟩)) = D ⟨24 + d.val, by omega⟩ ∧ csem (idx (D ⟨40 + d.val, by omega⟩)) = D ⟨40 + d.val, by omega⟩
    ∧ dut (D ⟨24 + d.val, by omega⟩) = {0} ∧ dut (D ⟨40 + d.val, by omega⟩) = {0}
    ∧ amt (D ⟨24 + d.val, by omega⟩) = 16 ∧ amt (D ⟨40 + d.val, by omega⟩) = 16 := by
  fin_cases d
  · exact absurd rfl hd
  all_goals exact ⟨rfl, rfl, rfl, rfl, rfl, rfl, rfl⟩
/-- The send of row 1 of the maxima to the device `d` places to the right. -/
theorem snd_am1 (d : Fin 8) (hd : d ≠ 0) (hdv : dv = pl c d.val) (hqs : qs = dm ⟨24 + d.val, by omega⟩) (hqr : qr = dm ⟨40 + d.val, by omega⟩) {hsc hsrc hdst hsem} {α : Type} {Q : α → sProp 𝕄} {k : PUnit → Prog (TpuEff nD τ sig (Elt F) Λ₀ .tc) α} :
    iprop(records m K ∗ ows c (16 + d.val) ∗ tok c (D ⟨24 + d.val, by omega⟩) 0 ∗ tok (pl c d.val) (D ⟨40 + d.val, by omega⟩) 0
        ∗ has (srcM 1) c (rest (d.val - 1)) (row (am2 m c)) ∗ any (rowM gM2 d) (pl c d.val) fullShare)
      ⊢ iprop(((ows c (16 + d.val + 1) ∗ crd c (D ⟨24 + d.val, by omega⟩) ∗ has (srcM 1) c (rest (d.val - 1 + 1)) (row (am2 m c))) -∗ run c (k ⟨⟩) Q)
        -∗ run c (.op (.enqueueDma (srcM 1) (.remote (Dev.tc (τ := τ) dv) (rowM gM2 d) (.dma qs) hsc) (SemLoc.dma qr) hsrc hdst hsem) k) Q) := by
  obtain ⟨h1, h2, h3, h4, h5, h6, h7⟩ := am_tab1 d hd
  have h0 : 0 < d.val := Nat.pos_of_ne_zero fun h => hd (Fin.ext h)
  iintro ⟨#HR, HO, Ht, Ht', Hs, Hd⟩ Hk
  ihave Hs := (share_split c (d.val - 1)) $$ Hs
  icases Hs with ⟨Hs, Hr⟩
  iapply (step_send m K c (16 + d.val) d.val ⟨24 + d.val, by omega⟩ ⟨40 + d.val, by omega⟩ h1 h2 h3 (by rw [h4]; exact Finset.mem_singleton_self _)
    (by rw [h5]; exact Finset.mem_singleton_self _) hdv hqs hqr (by rw [h7]; rfl) (h6.trans h7.symm) (E := iprop(emp))
    (Entails.of_eq (got_amS1 m c d hd).symm) (by
      rw [got_amR1, plc c d.val (8 - d.val) (by have := d.isLt; omega)]; exact of_emp)) $$ [HO Ht Ht' Hs Hd]
  · isplitr; · iexact HR
    isplitl [HO]; · iexact HO
    isplitl [Ht]; · iexact Ht
    isplitl [Ht']; · iexact Ht'
    isplitl [Hs]; · iexact Hs
    iapply to_emp; iexact Hd
  iintro ⟨HO, Hc⟩
  iapply Hk
  isplitl [HO]; · iexact HO
  isplitl [Hc]; · iapply (crd_of c _ h4); iexact Hc
  iexact Hr

end Sends

end Cert.KernelIdeal.Ring

end
-- ==== Proof.Run1.lean ====
/-

The run's first part: the signals to the neighbours, the wait for theirs, the first two sends, and the truncation of the weights.

-/
module

public import proofs.«01_k».proof.Proof.Pays

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 48 → ℕ) (c : Dev nD)

/-- The device's place on the ring, as a word. -/
abbrev v2w (c : Dev nD) : BitVec 32 := Scalar.remsi (Scalar.divsi (Dev.word c) 1#32) 8#32

/-- Signals to both neighbours, the wait for theirs, and the first send to the right. -/
theorem run_pt1 {Q : _ → sProp 𝕄} :
    iprop(records m K ∗ ows c 0 ∗ tok (pl c 7) (.reg barS) 1 ∗ tok (pl c 1) (.reg barS) 0 ∗ barR c ∗ barL c ∗ fresh c (.reg barS) ∗ crd c (.reg barS)
        ∗ tok c (D 2) 0 ∗ tok (pl c 1) (D 6) 0 ∗ has xM c (rest 0) (xs m c))
      ⊢ iprop((∀ v5 v7, (ows c 3 ∗ over c (.reg barS) ∗ crd c (D 2) ∗ has xM c (rest 1) (xs m c)
          ∗ (any (slotM ccM 0) (pl c 7) fullShare ∗ any (slotM ccM 1) (pl c 7) fullShare ∗ any (slotM ccM 2) (pl c 7) fullShare ∗ any ccH (pl c 7) fullShare ∗ gs (pl c 7) 7)
          ∗ (any (slotM cwM 1) (pl c 1) fullShare ∗ any (slotM cwM 2) (pl c 1) fullShare ∗ any cwH (pl c 1) fullShare ∗ gs (pl c 1) 1 ∗ gs (pl c 1) 2 ∗ gs (pl c 1) 3 ∗ gs (pl c 1) 4))
          -∗ Q ⟨c, v2w c, v5, v7⟩) -∗ run c (pt1 (F := F)) Q) := by
  unfold pt1 k0_part1_skel
  simp only [semSignalWord, semWaitWord, Prog.lift, Prog.bind_op, Prog.bind_ret, Prog.pure_eq_ret, wp_deviceId]
  iintro ⟨#HR, HO, Ht1, Ht0, HbR, HbL, Hf, Hc, Ht2, Ht6, Hx⟩ Hk
  ihave HbR := (bar_left m c) $$ HbR
  ihave HbL := (bar_right m c) $$ HbL
  iapply (step_signal m K c 0 rfl 7 barS 1 rfl rfl (by decide) (dev_eq c 7 _ _ (k0_dev1_eq c))) $$ [HO Ht1 HbR]
  · isplitr; · iexact HR
    isplitl [HO]; · iexact HO
    isplitl [Ht1]; · iexact Ht1
    iexact HbR
  iintro HO
  iapply (step_signal m K c 1 rfl 1 barS 0 rfl rfl (by decide) (dev_eq c 1 _ _ (k0_dev2_eq c))) $$ [HO Ht0 HbL]
  · isplitr; · iexact HR
    isplitl [HO]; · iexact HO
    isplitl [Ht0]; · iexact Ht0
    iexact HbL
  iintro HO
  iapply (step_semWait m K c 2 barS rfl rfl (by decide)) $$ [HO Hf Hc]
  · isplitr; · iexact HR
    isplitl [HO]; · iexact HO
    isplitl [Hf]; · iexact Hf
    iexact Hc
  iintro ⟨HO, Hov, Hp⟩
  ihave Hp := (bar_got m c) $$ Hp
  unfold barL barR
  icases Hp with ⟨⟨Hl0, Hl1, Hl2, HlH, Hg5, Hg6, Hg7⟩, Hr0, Hr1, Hr2, HrH, Hg1, Hg2, Hg3, Hg4⟩
  ihave Hx := (share_split c 0) $$ Hx
  icases Hx with ⟨Hx, Hx'⟩
  iapply (snd6 m K c (dev_eq c 1 _ _ (k0_dev3_eq c)) rfl rfl) $$ [HO Ht2 Ht6 Hx Hr0 Hg5 Hg6]
  · isplitr; · iexact HR
    isplitl [HO]; · iexact HO
    isplitl [Ht2]; · iexact Ht2
    isplitl [Ht6]; · iexact Ht6
    isplitl [Hx]; · iexact Hx
    isplitl [Hr0]; · iexact Hr0
    isplitl [Hg5]; · iexact Hg5
    iexact Hg6
  iintro ⟨HO, Hc2⟩
  iapply (step_ret c)
  iapply Hk
  isplitl [HO]; · iexact HO
  isplitl [Hov]; · iexact Hov
  isplitl [Hc2]; · iexact Hc2
  isplitl [Hx']; · iexact Hx'
  isplitl [Hl0 Hl1 Hl2 HlH Hg7]
  · isplitl [Hl0]; · iexact Hl0
    isplitl [Hl1]; · iexact Hl1
    isplitl [Hl2]; · iexact Hl2
    isplitl [HlH]; · iexact HlH
    iexact Hg7
  isplitl [Hr1]; · iexact Hr1
  isplitl [Hr2]; · iexact Hr2
  isplitl [HrH]; · iexact HrH
  isplitl [Hg1]; · iexact Hg1
  isplitl [Hg2]; · iexact Hg2
  isplitl [Hg3]; · iexact Hg3
  iexact Hg4

/-- The column block lies in the weights, -/
theorem wcol_inb (k : Fin 8) : ∀ a, (![0, 128 * k.val] : Fin 2 → ℕ) a + S4096x128.size a ≤ S4096x1024.size a := by revert k; decide
/-- The weights' columns from `128 k` on, as the staging buffer holds them. -/
abbrev wcol (k : Fin 8) : S4096x128.Idx → Elt F .f32 := fun j => wsv m c ((Rect.unit (s := S4096x1024) ![0, 128 * k.val] S4096x128.size (wcol_inb k)).emb j)

/-- The weights as the run holds them after `n` tiles, the staging buffer at column block `k`. -/
def wst (n : ℕ) (k : Fin 8) : sProp 𝕄 :=
  iprop(semVal ((c : Thread nD τ), D 48) 0 ∗ has wM c fullShare (wsv m c) ∗ has wsM c fullShare (wcol m c k) ∗ buf wbM c fullShare (cv m c n))

/-- The first send to the left; the first column block of the weights. -/
theorem run_pt2 {Q : _ → sProp 𝕄} :
    iprop(records m K ∗ ows c 3 ∗ tok c (D 10) 0 ∗ tok (pl c 7) (D 14) 0 ∗ has xM c (rest 1) (xs m c) ∗ any (slotM ccM 0) (pl c 7) fullShare ∗ gs (pl c 1) 2 ∗ gs (pl c 1) 3 ∗ gs (pl c 1) 4
        ∗ semVal ((c : Thread nD τ), D 48) 0 ∗ has wM c fullShare (wsv m c) ∗ any wsM c fullShare ∗ any wbM c fullShare)
      ⊢ iprop(((ows c 4 ∗ crd c (D 10) ∗ has xM c (rest 2) (xs m c) ∗ wst m c 4 1) -∗ Q ⟨⟩) -∗ run c (pt2 (F := F) c) Q) := by
  unfold pt2 k0_part2_skel
  simp only [semSignalWord, semWaitWord, Prog.lift, Prog.bind_op, Prog.bind_ret, Prog.pure_eq_ret]
  iintro ⟨#HR, HO, Ht10, Ht14, Hx, Hl0, Hg2, Hg3, Hg4, Hv, Hw, Hws, Hwb⟩ Hk
  ihave Hx := (share_split c 1) $$ Hx
  icases Hx with ⟨Hx, Hx'⟩
  ihave Hws := (buf_of_any (P := fun _ => True) fun _ => trivial) $$ Hws
  ihave Hwb := (buf_of_any (P := cv m c (4 * 0 + 0)) fun _ _ h => absurd h (Nat.not_lt_zero _)) $$ Hwb
  iapply (snd14 m K c (dev_eq c 7 _ _ (k0_dev4_eq c)) rfl rfl) $$ [HO Ht10 Ht14 Hx Hl0 Hg2 Hg3 Hg4]
  · isplitr; · iexact HR
    isplitl [HO]; · iexact HO
    isplitl [Ht10]; · iexact Ht10
    isplitl [Ht14]; · iexact Ht14
    isplitl [Hx]; · iexact Hx
    isplitl [Hl0]; · iexact Hl0
    isplitl [Hg2]; · iexact Hg2
    isplitl [Hg3]; · iexact Hg3
    iexact Hg4
  iintro ⟨HO, Hc10⟩
  iapply (step_copy m K c 4 rfl (by decide) rfl rfl (P := fun _ => True)) $$ [HO Hv Hw Hws]
  · isplitr; · iexact HR
    isplitl [HO]; · iexact HO
    isplitl [Hv]; · iexact Hv
    isplitl [Hw]; · iexact Hw
    iexact Hws
  iintro ⟨HO, Hv, Hw, Hws⟩
  iapply (step_tile m c 0 0 (by decide) (by decide) rfl rfl rfl (by funext v; exact shapeCast_self _ _)) $$ [Hws Hwb]
  · isplitl [Hws]; · iexact Hws
    iexact Hwb
  iintro ⟨Hws, Hwb⟩
  iapply (step_tile m c 0 1 (by decide) (by decide) rfl rfl rfl (by funext v; exact shapeCast_self _ _)) $$ [Hws Hwb]
  · isplitl [Hws]; · iexact Hws
    iexact Hwb
  iintro ⟨Hws, Hwb⟩
  iapply (step_tile m c 0 2 (by decide) (by decide) rfl rfl rfl (by funext v; exact shapeCast_self _ _)) $$ [Hws Hwb]
  · isplitl [Hws]; · iexact Hws
    iexact Hwb
  iintro ⟨Hws, Hwb⟩
  iapply (step_tile m c 0 3 (by decide) (by decide) rfl rfl rfl (by funext v; exact shapeCast_self _ _)) $$ [Hws Hwb]
  · isplitl [Hws]; · iexact Hws
    iexact Hwb
  iintro ⟨Hws, Hwb⟩
  ihave Hws := (buf_of_has (P := fun _ => True) trivial) $$ Hws
  iapply (step_copy m K c 4 rfl (by decide) rfl rfl (P := fun _ => True)) $$ [HO Hv Hw Hws]
  · isplitr; · iexact HR
    isplitl [HO]; · iexact HO
    isplitl [Hv]; · iexact Hv
    isplitl [Hw]; · iexact Hw
    iexact Hws
  iintro ⟨HO, Hv, Hw, Hws⟩
  iapply (step_ret c)
  iapply Hk
  unfold wst
  isplitl [HO]; · iexact HO
  isplitl [Hc10]; · iexact Hc10
  isplitl [Hx']; · iexact Hx'
  isplitl [Hv]; · iexact Hv
  isplitl [Hw]; · iexact Hw
  isplitl [Hws]; · iexact Hws
  iexact Hwb

/-- and so does each of its tiles. -/
theorem tl_inb (k : Fin 8) (t : Fin 4) : ∀ a, (![1024 * t.val, 128 * k.val] : Fin 2 → ℕ) a + S1024x128.size a ≤ S4096x1024.size a := by revert k t; decide
/-- Tile `t` of column block `k` of the truncated weights. -/
abbrev tl (k : Fin 8) (t : Fin 4) : S1024x128.Idx → Elt F .bf16 := fun j => wb m c ((Rect.unit (s := S4096x1024) ![1024 * t.val, 128 * k.val] S1024x128.size (tl_inb k t)).emb j)

/-- A return of an equal value. -/
theorem step_retEq {α : Type} {Q : α → sProp 𝕄} {a a' : α} (h : a = a') : Q a' ⊢ run c (.ret a) Q := by subst h; exact step_ret c

/-- A tile of the staging buffer, truncated. -/
theorem tl_eq (k : Fin 8) (t : Fin 4) {inb : ∀ a, (![1024 * t.val, 0] : Fin 2 → ℕ) a + S1024x128.size a ≤ S4096x128.size a} :
    truncf (s := S1024x128) .bf16 (fun j => wcol m c k ((Rect.unit (s := S4096x128) ![1024 * t.val, 0] S1024x128.size inb).emb j) : FVec F S1024x128 .f32) bitsLt_bf16_f32 = tl m c k t := by
  funext j
  refine congrArg (fun x : F .f32 => FloatOps.truncf .bf16 bitsLt_bf16_f32 x) (congrArg (wsv m c) ?_)
  funext a; apply Fin.ext
  match a with
  | ⟨0, _⟩ => show 0 + 1 * (1024 * t.val + 1 * (j 0).val) = 1024 * t.val + 1 * (j 0).val; omega
  | ⟨1, _⟩ => show 128 * k.val + 1 * (0 + 1 * (j 1).val) = 128 * k.val + 1 * (j 1).val; omega

/-- Column block 1 of the weights, and the first tile of block 2. -/
theorem run_pt3 {Q : _ → sProp 𝕄} :
    iprop(records m K ∗ ows c 4 ∗ wst m c 4 1) ⊢ iprop(((ows c 4 ∗ wst m c 9 2) -∗ Q ⟨⟩) -∗ run c (pt3 (F := F)) Q) := by
  unfold pt3 k0_part3_skel
  simp only [semSignalWord, semWaitWord, Prog.lift, Prog.bind_op, Prog.bind_ret, Prog.pure_eq_ret]
  unfold wst
  iintro ⟨#HR, HO, Hv, Hw, Hws, Hwb⟩ Hk
  iapply (step_tile m c 1 0 (by decide) (by decide) rfl rfl rfl (by funext v; exact shapeCast_self _ _)) $$ [Hws Hwb]
  · isplitl [Hws]; · iexact Hws
    iexact Hwb
  iintro ⟨Hws, Hwb⟩
  iapply (step_tile m c 1 1 (by decide) (by decide) rfl rfl rfl (by funext v; exact shapeCast_self _ _)) $$ [Hws Hwb]
  · isplitl [Hws]; · iexact Hws
    iexact Hwb
  iintro ⟨Hws, Hwb⟩
  iapply (step_tile m c 1 2 (by decide) (by decide) rfl rfl rfl (by funext v; exact shapeCast_self _ _)) $$ [Hws Hwb]
  · isplitl [Hws]; · iexact Hws
    iexact Hwb
  iintro ⟨Hws, Hwb⟩
  iapply (step_tile m c 1 3 (by decide) (by decide) rfl rfl rfl (by funext v; exact shapeCast_self _ _)) $$ [Hws Hwb]
  · isplitl [Hws]; · iexact Hws
    iexact Hwb
  iintro ⟨Hws, Hwb⟩
  ihave Hws := (buf_of_has (P := fun _ => True) trivial) $$ Hws
  iapply (step_copy m K c 4 rfl (by decide) rfl rfl (P := fun _ => True)) $$ [HO Hv Hw Hws]
  · isplitr; · iexact HR
    isplitl [HO]; · iexact HO
    isplitl [Hv]; · iexact Hv
    isplitl [Hw]; · iexact Hw
    iexact Hws
  iintro ⟨HO, Hv, Hw, Hws⟩
  iapply (step_tile m c 2 0 (by decide) (by decide) rfl rfl rfl (by funext v; exact shapeCast_self _ _)) $$ [Hws Hwb]
  · isplitl [Hws]; · iexact Hws
    iexact Hwb
  iintro ⟨Hws, Hwb⟩
  iapply (step_ret c)
  iapply Hk
  isplitl [HO]; · iexact HO
  isplitl [Hv]; · iexact Hv
  isplitl [Hw]; · iexact Hw
  isplitl [Hws]; · iexact Hws
  iexact Hwb

/-- The rest of column block 2, and three tiles of block 3, the last not yet stored. -/
theorem run_pt4 {Q : _ → sProp 𝕄} :
    iprop(records m K ∗ ows c 4 ∗ wst m c 9 2) ⊢ iprop(((ows c 4 ∗ wst m c 14 3) -∗ Q (tl m c 3 2)) -∗ run c (pt4 (F := F)) Q) := by
  unfold pt4 k0_part4_skel
  simp only [semSignalWord, semWaitWord, Prog.lift, Prog.bind_op, Prog.bind_ret, Prog.pure_eq_ret]
  unfold wst
  iintro ⟨#HR, HO, Hv, Hw, Hws, Hwb⟩ Hk
  iapply (step_tile m c 2 1 (by decide) (by decide) rfl rfl rfl (by funext v; exact shapeCast_self _ _)) $$ [Hws Hwb]
  · isplitl [Hws]; · iexact Hws
    iexact Hwb
  iintro ⟨Hws, Hwb⟩
  iapply (step_tile m c 2 2 (by decide) (by decide) rfl rfl rfl (by funext v; exact shapeCast_self _ _)) $$ [Hws Hwb]
  · isplitl [Hws]; · iexact Hws
    iexact Hwb
  iintro ⟨Hws, Hwb⟩
  iapply (step_tile m c 2 3 (by decide) (by decide) rfl rfl rfl (by funext v; exact shapeCast_self _ _)) $$ [Hws Hwb]
  · isplitl [Hws]; · iexact Hws
    iexact Hwb
  iintro ⟨Hws, Hwb⟩
  ihave Hws := (buf_of_has (P := fun _ => True) trivial) $$ Hws
  iapply (step_copy m K c 4 rfl (by decide) rfl rfl (P := fun _ => True)) $$ [HO Hv Hw Hws]
  · isplitr; · iexact HR
    isplitl [HO]; · iexact HO
    isplitl [Hv]; · iexact Hv
    isplitl [Hw]; · iexact Hw
    iexact Hws
  iintro ⟨HO, Hv, Hw, Hws⟩
  iapply (step_tile m c 3 0 (by decide) (by decide) rfl rfl rfl (by funext v; exact shapeCast_self _ _)) $$ [Hws Hwb]
  · isplitl [Hws]; · iexact Hws
    iexact Hwb
  iintro ⟨Hws, Hwb⟩
  iapply (step_tile m c 3 1 (by decide) (by decide) rfl rfl rfl (by funext v; exact shapeCast_self _ _)) $$ [Hws Hwb]
  · isplitl [Hws]; · iexact Hws
    iexact Hwb
  iintro ⟨Hws, Hwb⟩
  iapply (step_ld c) $$ Hws; iintro Hws
  iapply (step_retEq c (tl_eq m c 3 2))
  iapply Hk
  isplitl [HO]; · iexact HO
  isplitl [Hv]; · iexact Hv
  isplitl [Hw]; · iexact Hw
  isplitl [Hws]; · iexact Hws
  iexact Hwb

/-- The rest of column block 3, and block 4, its last tile not yet stored. -/
theorem run_pt5 {Q : _ → sProp 𝕄} :
    iprop(records m K ∗ ows c 4 ∗ wst m c 14 3) ⊢ iprop(((ows c 4 ∗ wst m c 19 4) -∗ Q (tl m c 4 3)) -∗ run c (pt5 (F := F) (tl m c 3 2)) Q) := by
  unfold pt5 k0_part5_skel
  simp only [semSignalWord, semWaitWord, Prog.lift, Prog.bind_op, Prog.bind_ret, Prog.pure_eq_ret]
  unfold wst
  iintro ⟨#HR, HO, Hv, Hw, Hws, Hwb⟩ Hk
  iapply (step_ldAny c) $$ Hwb; iintro %v Hwb
  iapply (step_st c (P' := cv m c (4 * 3 + 2 + 1)) (fun X Z => cv_put m c 3 2 (by decide) (by decide) rfl (fun j => congrFun (shapeCast_self (tl m c 3 2) _) j) X Z)) $$ Hwb
  iintro Hwb
  iapply (step_tile m c 3 3 (by decide) (by decide) rfl rfl rfl (by funext v; exact shapeCast_self _ _)) $$ [Hws Hwb]
  · isplitl [Hws]; · iexact Hws
    iexact Hwb
  iintro ⟨Hws, Hwb⟩
  ihave Hws := (buf_of_has (P := fun _ => True) trivial) $$ Hws
  iapply (step_copy m K c 4 rfl (by decide) rfl rfl (P := fun _ => True)) $$ [HO Hv Hw Hws]
  · isplitr; · iexact HR
    isplitl [HO]; · iexact HO
    isplitl [Hv]; · iexact Hv
    isplitl [Hw]; · iexact Hw
    iexact Hws
  iintro ⟨HO, Hv, Hw, Hws⟩
  iapply (step_tile m c 4 0 (by decide) (by decide) rfl rfl rfl (by funext v; exact shapeCast_self _ _)) $$ [Hws Hwb]
  · isplitl [Hws]; · iexact Hws
    iexact Hwb
  iintro ⟨Hws, Hwb⟩
  iapply (step_tile m c 4 1 (by decide) (by decide) rfl rfl rfl (by funext v; exact shapeCast_self _ _)) $$ [Hws Hwb]
  · isplitl [Hws]; · iexact Hws
    iexact Hwb
  iintro ⟨Hws, Hwb⟩
  iapply (step_tile m c 4 2 (by decide) (by decide) rfl rfl rfl (by funext v; exact shapeCast_self _ _)) $$ [Hws Hwb]
  · isplitl [Hws]; · iexact Hws
    iexact Hwb
  iintro ⟨Hws, Hwb⟩
  iapply (step_ld c) $$ Hws; iintro Hws
  iapply (step_retEq c (tl_eq m c 4 3))
  iapply Hk
  isplitl [HO]; · iexact HO
  isplitl [Hv]; · iexact Hv
  isplitl [Hw]; · iexact Hw
  isplitl [Hws]; · iexact Hws
  iexact Hwb

/-- That tile, and column block 5. -/
theorem run_pt6 {Q : _ → sProp 𝕄} :
    iprop(records m K ∗ ows c 4 ∗ wst m c 19 4) ⊢ iprop(((ows c 4 ∗ wst m c 24 6) -∗ Q ⟨⟩) -∗ run c (pt6 (F := F) (tl m c 4 3)) Q) := by
  unfold pt6 k0_part6_skel
  simp only [semSignalWord, semWaitWord, Prog.lift, Prog.bind_op, Prog.bind_ret, Prog.pure_eq_ret]
  unfold wst
  iintro ⟨#HR, HO, Hv, Hw, Hws, Hwb⟩ Hk
  iapply (step_ldAny c) $$ Hwb; iintro %v Hwb
  iapply (step_st c (P' := cv m c (4 * 4 + 3 + 1)) (fun X Z => cv_put m c 4 3 (by decide) (by decide) rfl (fun j => congrFun (shapeCast_self (tl m c 4 3) _) j) X Z)) $$ Hwb
  iintro Hwb
  ihave Hws := (buf_of_has (P := fun _ => True) trivial) $$ Hws
  iapply (step_copy m K c 4 rfl (by decide) rfl rfl (P := fun _ => True)) $$ [HO Hv Hw Hws]
  · isplitr; · iexact HR
    isplitl [HO]; · iexact HO
    isplitl [Hv]; · iexact Hv
    isplitl [Hw]; · iexact Hw
    iexact Hws
  iintro ⟨HO, Hv, Hw, Hws⟩
  iapply (step_tile m c 5 0 (by decide) (by decide) rfl rfl rfl (by funext v; exact shapeCast_self _ _)) $$ [Hws Hwb]
  · isplitl [Hws]; · iexact Hws
    iexact Hwb
  iintro ⟨Hws, Hwb⟩
  iapply (step_tile m c 5 1 (by decide) (by decide) rfl rfl rfl (by funext v; exact shapeCast_self _ _)) $$ [Hws Hwb]
  · isplitl [Hws]; · iexact Hws
    iexact Hwb
  iintro ⟨Hws, Hwb⟩
  iapply (step_tile m c 5 2 (by decide) (by decide) rfl rfl rfl (by funext v; exact shapeCast_self _ _)) $$ [Hws Hwb]
  · isplitl [Hws]; · iexact Hws
    iexact Hwb
  iintro ⟨Hws, Hwb⟩
  iapply (step_tile m c 5 3 (by decide) (by decide) rfl rfl rfl (by funext v; exact shapeCast_self _ _)) $$ [Hws Hwb]
  · isplitl [Hws]; · iexact Hws
    iexact Hwb
  iintro ⟨Hws, Hwb⟩
  ihave Hws := (buf_of_has (P := fun _ => True) trivial) $$ Hws
  iapply (step_copy m K c 4 rfl (by decide) rfl rfl (P := fun _ => True)) $$ [HO Hv Hw Hws]
  · isplitr; · iexact HR
    isplitl [HO]; · iexact HO
    isplitl [Hv]; · iexact Hv
    isplitl [Hw]; · iexact Hw
    iexact Hws
  iintro ⟨HO, Hv, Hw, Hws⟩
  iapply (step_ret c)
  iapply Hk
  isplitl [HO]; · iexact HO
  isplitl [Hv]; · iexact Hv
  isplitl [Hw]; · iexact Hw
  isplitl [Hws]; · iexact Hws
  iexact Hwb

/-- Column block 6, and the first tile of block 7. -/
theorem run_pt7 {Q : _ → sProp 𝕄} :
    iprop(records m K ∗ ows c 4 ∗ wst m c 24 6) ⊢ iprop(((ows c 4 ∗ wst m c 29 7) -∗ Q ⟨⟩) -∗ run c (pt7 (F := F)) Q) := by
  unfold pt7 k0_part7_skel
  simp only [semSignalWord, semWaitWord, Prog.lift, Prog.bind_op, Prog.bind_ret, Prog.pure_eq_ret]
  unfold wst
  iintro ⟨#HR, HO, Hv, Hw, Hws, Hwb⟩ Hk
  iapply (step_tile m c 6 0 (by decide) (by decide) rfl rfl rfl (by funext v; exact shapeCast_self _ _)) $$ [Hws Hwb]
  · isplitl [Hws]; · iexact Hws
    iexact Hwb
  iintro ⟨Hws, Hwb⟩
  iapply (step_tile m c 6 1 (by decide) (by decide) rfl rfl rfl (by funext v; exact shapeCast_self _ _)) $$ [Hws Hwb]
  · isplitl [Hws]; · iexact Hws
    iexact Hwb
  iintro ⟨Hws, Hwb⟩
  iapply (step_tile m c 6 2 (by decide) (by decide) rfl rfl rfl (by funext v; exact shapeCast_self _ _)) $$ [Hws Hwb]
  · isplitl [Hws]; · iexact Hws
    iexact Hwb
  iintro ⟨Hws, Hwb⟩
  iapply (step_tile m c 6 3 (by decide) (by decide) rfl rfl rfl (by funext v; exact shapeCast_self _ _)) $$ [Hws Hwb]
  · isplitl [Hws]; · iexact Hws
    iexact Hwb
  iintro ⟨Hws, Hwb⟩
  ihave Hws := (buf_of_has (P := fun _ => True) trivial) $$ Hws
  iapply (step_copy m K c 4 rfl (by decide) rfl rfl (P := fun _ => True)) $$ [HO Hv Hw Hws]
  · isplitr; · iexact HR
    isplitl [HO]; · iexact HO
    isplitl [Hv]; · iexact Hv
    isplitl [Hw]; · iexact Hw
    iexact Hws
  iintro ⟨HO, Hv, Hw, Hws⟩
  iapply (step_tile m c 7 0 (by decide) (by decide) rfl rfl rfl (by funext v; exact shapeCast_self _ _)) $$ [Hws Hwb]
  · isplitl [Hws]; · iexact Hws
    iexact Hwb
  iintro ⟨Hws, Hwb⟩
  iapply (step_ret c)
  iapply Hk
  isplitl [HO]; · iexact HO
  isplitl [Hv]; · iexact Hv
  isplitl [Hw]; · iexact Hw
  isplitl [Hws]; · iexact Hws
  iexact Hwb

/-- Only the device four places on is opposite, -/
theorem ne_far : ∀ (c : Dev nD) (d : Fin 8), d ≠ 4 → (pl c d.val).val ≠ far c := by decide
/-- and none is opposite to itself. -/
theorem ne_far0 : ∀ c : Dev nD, c.val ≠ far c := by decide
/-- The zero offset of a two-axis array. -/
theorem z2 (a : Fin 2) : (![0, 0] : Fin 2 → ℕ) a = 0 := by revert a; decide

/-- The last tiles; the device's own block of products. -/
theorem run_pt8 {v2 v7 : BitVec 32} {Q : _ → sProp 𝕄} :
    iprop(records m K ∗ ows c 4 ∗ wst m c 29 7 ∗ has xM c (rest 2) (xs m c) ∗ any oM c fullShare)
      ⊢ iprop(((ows c 4 ∗ (semVal ((c : Thread nD τ), D 48) 0 ∗ has wM c fullShare (wsv m c) ∗ any wsM c fullShare) ∗ has wbM c fullShare (wb m c) ∗ has xM c (rest 2) (xs m c)
          ∗ buf oM c fullShare (SA m c [c.val])) -∗ Q (k0_pay36 (xs m c) (wb m c))) -∗ run c (pt8 (F := F) c v2 v7) Q) := by
  unfold pt8 k0_part8_skel
  simp only [semSignalWord, semWaitWord, Prog.lift, Prog.bind_op, Prog.bind_ret, Prog.pure_eq_ret]
  unfold wst
  iintro ⟨#HR, HO, ⟨Hv, Hw, Hws, Hwb⟩, Hx, Ho⟩ Hk
  iapply (step_tile m c 7 1 (by decide) (by decide) rfl rfl rfl (by funext v; exact shapeCast_self _ _)) $$ [Hws Hwb]
  · isplitl [Hws]; · iexact Hws
    iexact Hwb
  iintro ⟨Hws, Hwb⟩
  iapply (step_tile m c 7 2 (by decide) (by decide) rfl rfl rfl (by funext v; exact shapeCast_self _ _)) $$ [Hws Hwb]
  · isplitl [Hws]; · iexact Hws
    iexact Hwb
  iintro ⟨Hws, Hwb⟩
  iapply (step_tile m c 7 3 (by decide) (by decide) rfl rfl rfl (by funext v; exact shapeCast_self _ _)) $$ [Hws Hwb]
  · isplitl [Hws]; · iexact Hws
    iexact Hwb
  iintro ⟨Hws, Hwb⟩
  ihave Hwb := (has_of_buf (X := wb m c) (cv_all m c)) $$ Hwb
  ihave Ho := (buf_of_any (P := SA m c []) fun X i hi => absurd hi List.not_mem_nil) $$ Ho
  iapply (step_ldWhole c z2) $$ Hx; iintro Hx
  iapply (step_ldWhole c z2) $$ Hwb; iintro Hwb
  iapply (step_ldAny c) $$ Ho; iintro %v Ho
  iapply (step_st c (P' := SA m c [c.val]) (SA_put m c c (ne_far0 c) (k0_off1_eq c) rfl)) $$ Ho; iintro Ho
  iapply (step_ret c)
  iapply Hk
  isplitl [HO]; · iexact HO
  isplitl [Hv Hw Hws]
  · isplitl [Hv]; · iexact Hv
    isplitl [Hw]; · iexact Hw
    iapply any_of_has; iexact Hws
  isplitl [Hwb]; · iexact Hwb
  isplitl [Hx]; · iexact Hx
  iexact Ho

end Cert.KernelIdeal.Ring

end
-- ==== Proof.Run2.lean ====
/-

The run's middle: the blocks arriving from both sides, passed on, and multiplied.

-/
module

public import proofs.«01_k».proof.Proof.Run1

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 48 → ℕ) (c : Dev nD)

/-! ## The offsets of the blocks, and the payloads -/

/-- The block that came 1 place down the ring is stored at its sender's rows. -/
theorem off2_7 : k0_off2 c 1#32 = ![512 * (pl c 7).val, 0] := (k0_off2_eq c 0).trans (by revert c; decide)
/-- The block that came 2 places down the ring is stored at its sender's rows. -/
theorem off2_6 : k0_off2 c 2#32 = ![512 * (pl c 6).val, 0] := (k0_off2_eq c 1).trans (by revert c; decide)
/-- The block that came 3 places down the ring is stored at its sender's rows. -/
theorem off2_5 : k0_off2 c 3#32 = ![512 * (pl c 5).val, 0] := (k0_off2_eq c 2).trans (by revert c; decide)
/-- The block that came 1 place up the ring is stored at its sender's rows. -/
theorem off3_1 : k0_off3 c 0#32 = ![512 * (pl c 1).val, 0] := (k0_off3_eq c 0).trans (by revert c; decide)
/-- The block that came 2 places up the ring is stored at its sender's rows. -/
theorem off3_2 : k0_off3 c 1#32 = ![512 * (pl c 2).val, 0] := (k0_off3_eq c 1).trans (by revert c; decide)
/-- The block that came 3 places up the ring is stored at its sender's rows. -/
theorem off3_3 : k0_off3 c 2#32 = ![512 * (pl c 3).val, 0] := (k0_off3_eq c 2).trans (by revert c; decide)

section Payloads
variable (X : S512x4096.Idx → Elt F .bf16) (W : S4096x1024.Idx → Elt F .bf16)
/-- This block's product too is the product of the rows themselves. -/
theorem pay39_eq : k0_pay39 (F := F) (x3 X) W = k0_pay35 X W := pay37_eq X W
/-- This block's product too is the product of the rows themselves. -/
theorem pay42_eq : k0_pay42 (F := F) (x3 X) W = k0_pay35 X W := pay37_eq X W
/-- This block's product too is the product of the rows themselves. -/
theorem pay44_eq : k0_pay44 (F := F) (x3 X) W = k0_pay35 X W := pay37_eq X W
/-- This block's product too is the product of the rows themselves. -/
theorem pay48_eq : k0_pay48 (F := F) (x3 X) W = k0_pay35 X W := pay37_eq X W
/-- This block's product too is the product of the rows themselves. -/
theorem pay47_eq : k0_pay47 (F := F) (k0_pay46 (x3 X)) W (constant S512x1024 .f32 0x00000000#32) = k0_pay35 X W := pay37_eq X W
end Payloads
/-- A block of rows can be given a leading axis, -/
theorem c3 : S512x4096.ShapeCasts S1x512x4096 := by decide
/-- and so can a row of maxima. -/
theorem c1 : S1x128.ShapeCasts S1x1x128 := by decide
/-- Dropping the leading axis of a row of maxima and adding it again changes nothing. -/
theorem row_back (a : S1x1x128.Idx → Elt F .f32) : shapeCast S1x1x128 (row a) c1 = a := by
  funext j
  show a (Shape.reshapeEquiv shapeCasts_S1x1x128_S1x128 (Shape.reshapeEquiv c1 j)) = a j
  rw [Shape.reshapeEquiv_reshapeEquiv, Shape.reshapeEquiv_self]

/-- The first piece lent. -/
theorem split0 {sp : Space} {s : Shape} {e : EltTy} {M : Memref sig .tc sp s e} {X : s.Idx → Elt F e} : has M c fullShare X ⊢ (iprop(has M c (piece 0) X ∗ has M c (rest 1) X) : sProp 𝕄) := share_split c 0

section Rows

/-- A load of a block. -/
theorem step_ldSlot {α : Type} {Q : α → sProp 𝕄} {q : PosShare TreeShare} {M : Memref sig .tc .vmem S3x512x4096 .bf16} {h : Fin 3} {hl : M.view.LoadsAt (slotR h).toLoadRect} {X : S512x4096.Idx → Elt F .bf16}
    {k : (S1x512x4096.Idx → Elt F .bf16) → Prog (TpuEff nD τ sig (Elt F) Λ₀ .tc) α} :
    has (slotM M h) c q X ⊢ iprop((has (slotM M h) c q X -∗ run c (k (x3 X)) Q) -∗ run c (.op (.load M (slotR h).toLoadRect hl) k) Q) :=
  step_ldSub c c3 (hq := squeezes_S1x512x4096_S512x4096) (hr := fun _ => rfl)

/-- A load of a row of the maxima. -/
theorem step_ldSrc {α : Type} {Q : α → sProp 𝕄} {q : PosShare TreeShare} {r : Fin 2} {hl : (amM : Memref sig .tc .vmem S2x1x128 .f32).view.LoadsAt (srcR r).toLoadRect} {a : S1x1x128.Idx → Elt F .f32}
    {k : (S1x1x128.Idx → Elt F .f32) → Prog (TpuEff nD τ sig (Elt F) Λ₀ .tc) α} :
    has (srcM r) c q (row a) ⊢ iprop((has (srcM r) c q (row a) -∗ run c (k a) Q) -∗ run c (.op (.load amM (srcR r).toLoadRect hl) k) Q) := by
  have h := step_ldSub (F := F) c c1 (M := amM) (r := srcR r) (hq := squeezes_S1x1x128_S1x128) (hr := fun _ => rfl) (hl := hl) (q := q) (X := row a) (Q := Q) (k := k)
  rw [show shapeCast (srcR r).shape (row a) c1 = a from row_back a] at h
  exact h

/-- A load of such a row whose value is not used. -/
theorem step_ldSrcAny {α : Type} {Q : α → sProp 𝕄} {r : Fin 2} {hl : (amM : Memref sig .tc .vmem S2x1x128 .f32).view.LoadsAt (srcR r).toLoadRect}
    {k : (S1x1x128.Idx → Elt F .f32) → Prog (TpuEff nD τ sig (Elt F) Λ₀ .tc) α} :
    any (srcM r) c fullShare ⊢ iprop((∀ v, any (srcM r) c fullShare -∗ run c (k v) Q) -∗ run c (.op (.load amM (srcR r).toLoadRect hl) k) Q) := by
  iintro H Hk
  ihave H := (has_of_any c) $$ H
  icases H with ⟨%X, H⟩
  iapply (step_ldSub c c1 (M := amM) (r := srcR r) (hq := squeezes_S1x1x128_S1x128) (hr := fun _ => rfl)) $$ H; iintro H
  iapply Hk; iapply any_of_has; iexact H

/-- A load of a row of a table whose value is not used. -/
theorem step_ldRowAny {α : Type} {Q : α → sProp 𝕄} {M : Memref sig .tc .vmem S8x1x128 .f32} {d : Fin 8} {hl : M.view.LoadsAt (rowR d).toLoadRect}
    {k : (S1x1x128.Idx → Elt F .f32) → Prog (TpuEff nD τ sig (Elt F) Λ₀ .tc) α} :
    any (rowM M d) c fullShare ⊢ iprop((∀ v, any (rowM M d) c fullShare -∗ run c (k v) Q) -∗ run c (.op (.load M (rowR d).toLoadRect hl) k) Q) := by
  iintro H Hk
  ihave H := (has_of_any c) $$ H
  icases H with ⟨%X, H⟩
  iapply (step_ldSub c c1 (M := M) (r := rowR d) (hq := squeezes_S1x1x128_S1x128) (hr := fun _ => rfl)) $$ H; iintro H
  iapply Hk; iapply any_of_has; iexact H

/-- A store of a row of the maxima. -/
theorem step_stSrc {α : Type} {Q : α → sProp 𝕄} {r : Fin 2} {a : S1x1x128.Idx → Elt F .f32} {hx : ((amM : Memref sig .tc .vmem S2x1x128 .f32).access (srcR r)).Stores Finset.univ}
    {hm : (Finset.univ : Finset (srcR r).shape.Idx) = Finset.univ ∨ ∀ a, (srcR r).stride a = 1}
    {k : PUnit → Prog (TpuEff nD τ sig (Elt F) Λ₀ .tc) α} :
    any (srcM r) c fullShare ⊢ iprop((has (srcM r) c fullShare (row a) -∗ run c (k ⟨⟩) Q) -∗ run c (.op (.store amM (srcR r) a Finset.univ hx hm) k) Q) :=
  step_stSub c shapeCasts_S1x1x128_S1x128 (hq := squeezes_S1x1x128_S1x128) (hr := fun _ => rfl)

/-- The same, of an equal row. -/
theorem step_stSrcEq {α : Type} {Q : α → sProp 𝕄} {r : Fin 2} {b a : S1x1x128.Idx → Elt F .f32} (h : b = a) {hx : ((amM : Memref sig .tc .vmem S2x1x128 .f32).access (srcR r)).Stores Finset.univ}
    {hm : (Finset.univ : Finset (srcR r).shape.Idx) = Finset.univ ∨ ∀ a, (srcR r).stride a = 1}
    {k : PUnit → Prog (TpuEff nD τ sig (Elt F) Λ₀ .tc) α} :
    any (srcM r) c fullShare ⊢ iprop((has (srcM r) c fullShare (row a) -∗ run c (k ⟨⟩) Q) -∗ run c (.op (.store amM (srcR r) b Finset.univ hx hm) k) Q) := by
  subst h; exact step_stSrc c

/-- A store of a row of a table. -/
theorem step_stRow {α : Type} {Q : α → sProp 𝕄} {M : Memref sig .tc .vmem S8x1x128 .f32} {d : Fin 8} {b a : S1x1x128.Idx → Elt F .f32} (h : b = a) {hx : (M.access (rowR d)).Stores Finset.univ}
    {hm : (Finset.univ : Finset (rowR d).shape.Idx) = Finset.univ ∨ ∀ a, (rowR d).stride a = 1}
    {k : PUnit → Prog (TpuEff nD τ sig (Elt F) Λ₀ .tc) α} :
    any (rowM M d) c fullShare ⊢ iprop((has (rowM M d) c fullShare (row a) -∗ run c (k ⟨⟩) Q) -∗ run c (.op (.store M (rowR d) b Finset.univ hx hm) k) Q) := by
  subst h; exact step_stSub c shapeCasts_S1x1x128_S1x128 (hq := squeezes_S1x1x128_S1x128) (hr := fun _ => rfl)
end Rows

/-- The first blocks arrive from both sides; the one from the left is passed on to the right. -/
theorem run_pt9 {v5 v7 : BitVec 32} {Q : _ → sProp 𝕄} :
    iprop(records m K ∗ ows c 4 ∗ fresh c (D 6) ∗ crd c (D 6) ∗ fresh c (D 14) ∗ crd c (D 14) ∗ tok c (D 3) 0 ∗ tok (pl c 1) (D 7) 0 ∗ any (slotM cwM 1) (pl c 1) fullShare)
      ⊢ iprop(((ows c 5 ∗ over c (D 6) ∗ over c (D 14) ∗ crd c (D 3) ∗ has (slotM cwM 0) c (rest 1) (xs m (pl c 7)) ∗ gs (pl c 6) 6 ∗ has (slotM ccM 0) c fullShare (xs m (pl c 1)) ∗ gs (pl c 2) 2 ∗ gs (pl c 2) 3 ∗ gs (pl c 2) 4) -∗ Q ⟨⟩) -∗ run c (pt9 (F := F) c v5 v7) Q) := by
  unfold pt9 k0_part9_skel
  simp only [semSignalWord, semWaitWord, Prog.lift, Prog.bind_op, Prog.bind_ret, Prog.pure_eq_ret]
  iintro ⟨#HR, HO, Hf6, Hc6, Hf14, Hc14, Ht3, Ht7, Hd⟩ Hk
  iapply (step_wait m K c 4 6 rfl rfl rfl (by decide) rfl) $$ [HO Hf6 Hc6]
  · isplitr; · iexact HR
    isplitl [HO]; · iexact HO
    isplitl [Hf6]; · iexact Hf6
    iexact Hc6
  iintro ⟨HO, Ho6, Hp⟩
  ihave Hp := (Entails.of_eq (got6 m c)) $$ Hp
  icases Hp with ⟨Hs, Hg65, Hg66⟩
  ihave Hs := (split0 c) $$ Hs
  icases Hs with ⟨Hsp, Hs⟩
  iapply (snd7 m K c (dev_eq c 1 _ _ (k0_dev5_eq c)) rfl rfl) $$ [HO Ht3 Ht7 Hsp Hd Hg65]
  · isplitr; · iexact HR
    isplitl [HO]; · iexact HO
    isplitl [Ht3]; · iexact Ht3
    isplitl [Ht7]; · iexact Ht7
    isplitl [Hsp]; · iexact Hsp
    isplitl [Hd]; · iexact Hd
    iexact Hg65
  iintro ⟨HO, Hk3⟩
  iapply (step_wait m K c 5 14 rfl rfl rfl (by decide) rfl) $$ [HO Hf14 Hc14]
  · isplitr; · iexact HR
    isplitl [HO]; · iexact HO
    isplitl [Hf14]; · iexact Hf14
    iexact Hc14
  iintro ⟨HO, Ho14, Hp⟩
  ihave Hp := (Entails.of_eq (got14 m c)) $$ Hp
  icases Hp with ⟨Hs2, Hg22, Hg23, Hg24⟩
  iapply (step_ret c)
  iapply Hk
  isplitl [HO]; · iexact HO
  isplitl [Ho6]; · iexact Ho6
  isplitl [Ho14]; · iexact Ho14
  isplitl [Hk3]; · iexact Hk3
  isplitl [Hs]; · iexact Hs
  isplitl [Hg66]; · iexact Hg66
  isplitl [Hs2]; · iexact Hs2
  isplitl [Hg22]; · iexact Hg22
  isplitl [Hg23]; · iexact Hg23
  iexact Hg24

/-- The block from the right is passed on to the left; both blocks are multiplied. -/
theorem run_pt10 {v2 : BitVec 32} {v218 : F .f32} {Q : _ → sProp 𝕄} :
    iprop(records m K ∗ ows c 5 ∗ tok c (D 11) 0 ∗ tok (pl c 7) (D 15) 0 ∗ has (slotM ccM 0) c fullShare (xs m (pl c 1)) ∗ any (slotM ccM 1) (pl c 7) fullShare ∗ gs (pl c 2) 3 ∗ gs (pl c 2) 4 ∗ has (slotM cwM 0) c (rest 1) (xs m (pl c 7)) ∗ has wbM c fullShare (wb m c) ∗ buf oM c fullShare (SA m c [c.val]))
      ⊢ iprop(((ows c 6 ∗ crd c (D 11) ∗ has (slotM ccM 0) c (rest 1) (xs m (pl c 1)) ∗ has (slotM cwM 0) c (rest 1) (xs m (pl c 7)) ∗ has wbM c fullShare (wb m c) ∗ buf oM c fullShare (SA m c [(pl c 1).val, (pl c 7).val, c.val])) -∗ Q ⟨k0_pay38 v218 (x3 (xs m (pl c 7))) (wb m c), k0_pay40 (x3 (xs m (pl c 1))) (wb m c)⟩) -∗ run c (pt10 (F := F) c v2 v218) Q) := by
  unfold pt10 k0_part10_skel
  simp only [semSignalWord, semWaitWord, Prog.lift, Prog.bind_op, Prog.bind_ret, Prog.pure_eq_ret]
  iintro ⟨#HR, HO, Ht11, Ht15, Hs2, Hd, Hg23, Hg24, Hs, Hwb, Hom⟩ Hk
  ihave Hs2 := (split0 c) $$ Hs2
  icases Hs2 with ⟨Hs2p, Hs2⟩
  iapply (snd15 m K c (dev_eq c 7 _ _ (k0_dev6_eq c)) rfl rfl) $$ [HO Ht11 Ht15 Hs2p Hd Hg23 Hg24]
  · isplitr; · iexact HR
    isplitl [HO]; · iexact HO
    isplitl [Ht11]; · iexact Ht11
    isplitl [Ht15]; · iexact Ht15
    isplitl [Hs2p]; · iexact Hs2p
    isplitl [Hd]; · iexact Hd
    isplitl [Hg23]; · iexact Hg23
    iexact Hg24
  iintro ⟨HO, Hk11⟩
  iapply (step_ldSlot c) $$ Hs; iintro Hs
  iapply (step_ldWhole c z2) $$ Hwb; iintro Hwb
  iapply (step_ldAny c) $$ Hom; iintro %v Hom
  iapply (step_st c (P' := SA m c [(pl c 7).val, c.val]) (SA_put m c (pl c 7) (ne_far c 7 (by decide)) (off2_7 c) (pay37_eq _ _))) $$ Hom; iintro Hom
  iapply (step_ldSlot c) $$ Hs2; iintro Hs2
  iapply (step_ldWhole c z2) $$ Hwb; iintro Hwb
  iapply (step_ldAny c) $$ Hom; iintro %v Hom
  iapply (step_st c (P' := SA m c [(pl c 1).val, (pl c 7).val, c.val]) (SA_put m c (pl c 1) (ne_far c 1 (by decide)) (off3_1 c) (pay39_eq _ _))) $$ Hom; iintro Hom
  iapply (step_ret c)
  iapply Hk
  isplitl [HO]; · iexact HO
  isplitl [Hk11]; · iexact Hk11
  isplitl [Hs2]; · iexact Hs2
  isplitl [Hs]; · iexact Hs
  isplitl [Hwb]; · iexact Hwb
  iexact Hom

/-- The second block from the left arrives and is passed on. -/
theorem run_pt11 {v5 v7 : BitVec 32} {v270 : F .f32} {v280 : FVec F S1x512x1024 .f32} {Q : _ → sProp 𝕄} :
    iprop(records m K ∗ ows c 6 ∗ fresh c (D 7) ∗ crd c (D 7) ∗ tok c (D 4) 0 ∗ tok (pl c 1) (D 8) 0 ∗ any (slotM cwM 2) (pl c 1) fullShare)
      ⊢ iprop(((ows c 7 ∗ over c (D 7) ∗ crd c (D 4) ∗ has (slotM cwM 1) c (rest 1) (xs m (pl c 6)) ∗ gs (pl c 5) 5) -∗ Q (k0_pay41 v270 v280)) -∗ run c (pt11 (F := F) c v5 v7 v270 v280) Q) := by
  unfold pt11 k0_part11_skel
  simp only [semSignalWord, semWaitWord, Prog.lift, Prog.bind_op, Prog.bind_ret, Prog.pure_eq_ret]
  iintro ⟨#HR, HO, Hf7, Hc7, Ht4, Ht8, Hd⟩ Hk
  iapply (step_wait m K c 6 7 rfl rfl rfl (by decide) rfl) $$ [HO Hf7 Hc7]
  · isplitr; · iexact HR
    isplitl [HO]; · iexact HO
    isplitl [Hf7]; · iexact Hf7
    iexact Hc7
  iintro ⟨HO, Ho7, Hp⟩
  ihave Hp := (Entails.of_eq (got7 m c)) $$ Hp
  icases Hp with ⟨Hs, Hg55⟩
  ihave Hs := (split0 c) $$ Hs
  icases Hs with ⟨Hsp, Hs⟩
  iapply (snd8 m K c (dev_eq c 1 _ _ (k0_dev7_eq c)) rfl rfl) $$ [HO Ht4 Ht8 Hsp Hd]
  · isplitr; · iexact HR
    isplitl [HO]; · iexact HO
    isplitl [Ht4]; · iexact Ht4
    isplitl [Ht8]; · iexact Ht8
    isplitl [Hsp]; · iexact Hsp
    isplitl [Hd]; · iexact Hd
    iempintro
  iintro ⟨HO, Hk4⟩
  iapply (step_ret c)
  iapply Hk
  isplitl [HO]; · iexact HO
  isplitl [Ho7]; · iexact Ho7
  isplitl [Hk4]; · iexact Hk4
  isplitl [Hs]; · iexact Hs
  iexact Hg55

/-- The second block from the right arrives and is passed on; the second block from the left is multiplied. -/
theorem run_pt12 {v2 v5 : BitVec 32} {Q : _ → sProp 𝕄} :
    iprop(records m K ∗ ows c 7 ∗ fresh c (D 15) ∗ crd c (D 15) ∗ tok c (D 12) 0 ∗ tok (pl c 7) (D 16) 0 ∗ any (slotM ccM 2) (pl c 7) fullShare ∗ has (slotM cwM 1) c (rest 1) (xs m (pl c 6)) ∗ has wbM c fullShare (wb m c) ∗ buf oM c fullShare (SA m c [(pl c 1).val, (pl c 7).val, c.val]))
      ⊢ iprop((∀ w, (ows c 8 ∗ over c (D 15) ∗ crd c (D 12) ∗ gs (pl c 3) 3 ∗ has (slotM ccM 1) c (rest 1) (xs m (pl c 2)) ∗ has (slotM cwM 1) c (rest 1) (xs m (pl c 6)) ∗ has wbM c fullShare (wb m c) ∗ buf oM c fullShare (SA m c [(pl c 6).val, (pl c 1).val, (pl c 7).val, c.val])) -∗ Q ⟨w, k0_pay43 (x3 (xs m (pl c 6))) (wb m c)⟩) -∗ run c (pt12 (F := F) c v2 v5) Q) := by
  unfold pt12 k0_part12_skel
  simp only [semSignalWord, semWaitWord, Prog.lift, Prog.bind_op, Prog.bind_ret, Prog.pure_eq_ret]
  iintro ⟨#HR, HO, Hf15, Hc15, Ht12, Ht16, Hd, Hs, Hwb, Hom⟩ Hk
  iapply (step_wait m K c 7 15 rfl rfl rfl (by decide) rfl) $$ [HO Hf15 Hc15]
  · isplitr; · iexact HR
    isplitl [HO]; · iexact HO
    isplitl [Hf15]; · iexact Hf15
    iexact Hc15
  iintro ⟨HO, Ho15, Hp⟩
  ihave Hp := (Entails.of_eq (got15 m c)) $$ Hp
  icases Hp with ⟨Hs2, Hg33, Hg34⟩
  ihave Hs2 := (split0 c) $$ Hs2
  icases Hs2 with ⟨Hs2p, Hs2⟩
  iapply (snd16 m K c (dev_eq c 7 _ _ (k0_dev8_eq c)) rfl rfl) $$ [HO Ht12 Ht16 Hs2p Hd Hg34]
  · isplitr; · iexact HR
    isplitl [HO]; · iexact HO
    isplitl [Ht12]; · iexact Ht12
    isplitl [Ht16]; · iexact Ht16
    isplitl [Hs2p]; · iexact Hs2p
    isplitl [Hd]; · iexact Hd
    iexact Hg34
  iintro ⟨HO, Hk12⟩
  iapply (step_ldSlot c) $$ Hs; iintro Hs
  iapply (step_ldWhole c z2) $$ Hwb; iintro Hwb
  iapply (step_ldAny c) $$ Hom; iintro %v Hom
  iapply (step_st c (P' := SA m c [(pl c 6).val, (pl c 1).val, (pl c 7).val, c.val]) (SA_put m c (pl c 6) (ne_far c 6 (by decide)) (off2_6 c) (pay42_eq _ _))) $$ Hom; iintro Hom
  iapply (step_ret c)
  iapply Hk
  isplitl [HO]; · iexact HO
  isplitl [Ho15]; · iexact Ho15
  isplitl [Hk12]; · iexact Hk12
  isplitl [Hg33]; · iexact Hg33
  isplitl [Hs2]; · iexact Hs2
  isplitl [Hs]; · iexact Hs
  isplitl [Hwb]; · iexact Hwb
  iexact Hom

/-- The second block from the right is multiplied; the third from the left arrives. -/
theorem run_pt13 {v7 v326 : BitVec 32} {v284 : F .f32} {v338 : FVec F S1x1x1 .f32} {Q : _ → sProp 𝕄} :
    iprop(records m K ∗ ows c 8 ∗ fresh c (D 8) ∗ crd c (D 8) ∗ has (slotM ccM 1) c (rest 1) (xs m (pl c 2)) ∗ has wbM c fullShare (wb m c) ∗ buf oM c fullShare (SA m c [(pl c 6).val, (pl c 1).val, (pl c 7).val, c.val]))
      ⊢ iprop(((ows c 8 ∗ over c (D 8) ∗ has (slotM cwM 2) c fullShare (xs m (pl c 5)) ∗ has (slotM ccM 1) c (rest 1) (xs m (pl c 2)) ∗ has wbM c fullShare (wb m c) ∗ buf oM c fullShare (SA m c [(pl c 2).val, (pl c 6).val, (pl c 1).val, (pl c 7).val, c.val])) -∗ Q (k0_pay45 v284 v338 (x3 (xs m (pl c 2))) (wb m c))) -∗ run c (pt13 (F := F) c v7 v284 v326 v338) Q) := by
  unfold pt13 k0_part13_skel
  simp only [semSignalWord, semWaitWord, Prog.lift, Prog.bind_op, Prog.bind_ret, Prog.pure_eq_ret]
  iintro ⟨#HR, HO, Hf8, Hc8, Hs2, Hwb, Hom⟩ Hk
  iapply (step_ldSlot c) $$ Hs2; iintro Hs2
  iapply (step_ldWhole c z2) $$ Hwb; iintro Hwb
  iapply (step_ldAny c) $$ Hom; iintro %v Hom
  iapply (step_st c (P' := SA m c [(pl c 2).val, (pl c 6).val, (pl c 1).val, (pl c 7).val, c.val]) (SA_put m c (pl c 2) (ne_far c 2 (by decide)) (off3_2 c) (pay44_eq _ _))) $$ Hom; iintro Hom
  iapply (step_wait m K c 8 8 rfl rfl rfl (by decide) rfl) $$ [HO Hf8 Hc8]
  · isplitr; · iexact HR
    isplitl [HO]; · iexact HO
    isplitl [Hf8]; · iexact Hf8
    iexact Hc8
  iintro ⟨HO, Ho8, Hp⟩
  ihave Hp := (Entails.of_eq (got8 m c)) $$ Hp
  icases Hp with ⟨Hs, -⟩
  iapply (step_ret c)
  iapply Hk
  isplitl [HO]; · iexact HO
  isplitl [Ho8]; · iexact Ho8
  isplitl [Hs]; · iexact Hs
  isplitl [Hs2]; · iexact Hs2
  isplitl [Hwb]; · iexact Hwb
  iexact Hom

/-- Half of the third block from each side is passed on. -/
theorem run_pt14 {v2 v5 : BitVec 32} {Q : _ → sProp 𝕄} :
    iprop(records m K ∗ ows c 8 ∗ fresh c (D 16) ∗ crd c (D 16) ∗ tok c (D 5) 0 ∗ tok (pl c 1) (D 9) 0 ∗ tok c (D 13) 0 ∗ tok (pl c 7) (D 17) 0 ∗ any cwH (pl c 1) fullShare ∗ any ccH (pl c 7) fullShare ∗ has (slotM cwM 2) c fullShare (xs m (pl c 5)) ∗ has wbM c fullShare (wb m c))
      ⊢ iprop((∀ w w', (ows c 10 ∗ over c (D 16) ∗ crd c (D 5) ∗ crd c (D 13) ∗ remH c cwM 0 ∗ remH c ccM 1 ∗ gs (pl c 4) 4 ∗ has (slotM cwM 2) c (rest 1) (xs m (pl c 5)) ∗ has (slotM ccM 2) c (rest 1) (xs m (pl c 3)) ∗ has wbM c fullShare (wb m c)) -∗ Q ⟨w, k0_pay46 (x3 (xs m (pl c 5))), w', wb m c, constant S512x1024 .f32 0x00000000#32⟩) -∗ run c (pt14 (F := F) c v2 v5) Q) := by
  unfold pt14 k0_part14_skel
  simp only [semSignalWord, semWaitWord, Prog.lift, Prog.bind_op, Prog.bind_ret, Prog.pure_eq_ret]
  iintro ⟨#HR, HO, Hf16, Hc16, Ht5, Ht9, Ht13, Ht17, Hd, Hd2, Hs, Hwb⟩ Hk
  ihave Hs := (half_lend c cwM 0) $$ Hs
  icases Hs with ⟨Hsp, Hrem, Hs⟩
  iapply (snd9 m K c (dev_eq c 1 _ _ (k0_dev9_eq c)) rfl rfl) $$ [HO Ht5 Ht9 Hsp Hd]
  · isplitr; · iexact HR
    isplitl [HO]; · iexact HO
    isplitl [Ht5]; · iexact Ht5
    isplitl [Ht9]; · iexact Ht9
    isplitl [Hsp]; · iexact Hsp
    isplitl [Hd]; · iexact Hd
    iempintro
  iintro ⟨HO, Hk5⟩
  iapply (step_wait m K c 9 16 rfl rfl rfl (by decide) rfl) $$ [HO Hf16 Hc16]
  · isplitr; · iexact HR
    isplitl [HO]; · iexact HO
    isplitl [Hf16]; · iexact Hf16
    iexact Hc16
  iintro ⟨HO, Ho16, Hp⟩
  ihave Hp := (Entails.of_eq (got16 m c)) $$ Hp
  icases Hp with ⟨Hs2, Hg44⟩
  ihave Hs2 := (half_lend c ccM 1) $$ Hs2
  icases Hs2 with ⟨Hs2p, Hrem2, Hs2⟩
  iapply (snd17 m K c (dev_eq c 7 _ _ (k0_dev10_eq c)) rfl rfl) $$ [HO Ht13 Ht17 Hs2p Hd2]
  · isplitr; · iexact HR
    isplitl [HO]; · iexact HO
    isplitl [Ht13]; · iexact Ht13
    isplitl [Ht17]; · iexact Ht17
    isplitl [Hs2p]; · iexact Hs2p
    isplitl [Hd2]; · iexact Hd2
    iempintro
  iintro ⟨HO, Hk13⟩
  iapply (step_ldSlot c) $$ Hs; iintro Hs
  iapply (step_ldWhole c z2) $$ Hwb; iintro Hwb
  iapply (step_ret c)
  iapply Hk
  isplitl [HO]; · iexact HO
  isplitl [Ho16]; · iexact Ho16
  isplitl [Hk5]; · iexact Hk5
  isplitl [Hk13]; · iexact Hk13
  isplitl [Hrem]; · iexact Hrem
  isplitl [Hrem2]; · iexact Hrem2
  isplitl [Hg44]; · iexact Hg44
  isplitl [Hs]; · iexact Hs
  isplitl [Hs2]; · iexact Hs2
  iexact Hwb

/-- The row of the devices' first maxima. -/
abbrev farw (c : Dev nD) : BitVec 32 := Scalar.remsi (Scalar.addi (v2w c) 4#32) 8#32

/-- The third blocks are multiplied; the maximum of the seven blocks is written out. -/
theorem run_pt15 {v354 : F .f32} {v392 v395 : BitVec 32} (h354 : v354 = k0_pay45 (k0_pay41 (k0_pay38 (k0_pay36 (xs m c) (wb m c)) (x3 (xs m (pl c 7))) (wb m c)) (k0_pay40 (x3 (xs m (pl c 1))) (wb m c))) (k0_pay43 (x3 (xs m (pl c 6))) (wb m c)) (x3 (xs m (pl c 2))) (wb m c)) {Q : _ → sProp 𝕄} :
    iprop(records m K ∗ has (slotM ccM 2) c (rest 1) (xs m (pl c 3)) ∗ has wbM c fullShare (wb m c) ∗ buf oM c fullShare (SA m c [(pl c 2).val, (pl c 6).val, (pl c 1).val, (pl c 7).val, c.val]) ∗ any (srcM 0) c fullShare ∗ any (rowM gM1 0) c fullShare)
      ⊢ iprop((∀ w, (has (slotM ccM 2) c (rest 1) (xs m (pl c 3)) ∗ has wbM c fullShare (wb m c) ∗ buf oM c fullShare (SA m c [(pl c 3).val, (pl c 5).val, (pl c 2).val, (pl c 6).val, (pl c 1).val, (pl c 7).val, c.val]) ∗ has (srcM 0) c fullShare (row (am1 m c)) ∗ any (rowM gM1 0) c fullShare) -∗ Q ⟨farw c, k0_pay50 (am1 m c), w⟩) -∗ run c (pt15 (F := F) c (v2w c) v354 v392 (k0_pay46 (x3 (xs m (pl c 5)))) v395 (wb m c) (constant S512x1024 .f32 0x00000000#32)) Q) := by
  unfold pt15 k0_part15_skel
  subst h354
  simp only [semSignalWord, semWaitWord, Prog.lift, Prog.bind_op, Prog.bind_ret, Prog.pure_eq_ret]
  iintro ⟨#HR, Hs2, Hwb, Hom, Ham, Hgm⟩ Hk
  iapply (step_ldAny c) $$ Hom; iintro %v Hom
  iapply (step_st c (P' := SA m c [(pl c 5).val, (pl c 2).val, (pl c 6).val, (pl c 1).val, (pl c 7).val, c.val]) (SA_put m c (pl c 5) (ne_far c 5 (by decide)) (off2_5 c) (pay47_eq _ _))) $$ Hom; iintro Hom
  iapply (step_ldSlot c) $$ Hs2; iintro Hs2
  iapply (step_ldWhole c z2) $$ Hwb; iintro Hwb
  iapply (step_ldAny c) $$ Hom; iintro %v Hom
  iapply (step_st c (P' := SA m c [(pl c 3).val, (pl c 5).val, (pl c 2).val, (pl c 6).val, (pl c 1).val, (pl c 7).val, c.val]) (SA_put m c (pl c 3) (ne_far c 3 (by decide)) (off3_3 c) (pay48_eq _ _))) $$ Hom; iintro Hom
  iapply (step_ldSrcAny c) $$ Ham; iintro %v0 Ham
  iapply (step_stSrcEq c (a := am1 m c) rfl) $$ Ham; iintro Ham
  iapply (step_ldSrc c) $$ Ham; iintro Ham
  iapply (step_ldRowAny c) $$ Hgm; iintro %v1 Hgm
  iapply (step_ret c)
  iapply Hk
  isplitl [Hs2]; · iexact Hs2
  isplitl [Hwb]; · iexact Hwb
  isplitl [Hom]; · iexact Hom
  isplitl [Ham]; · iexact Ham
  iexact Hgm

end Cert.KernelIdeal.Ring

end
-- ==== Proof.Run3.lean ====
/-

The run's exchange of the maxima, and the first quantising.

-/
module

public import proofs.«01_k».proof.Proof.Run2

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 48 → ℕ) (c : Dev nD)

/-- The first row as stored is the row of maxima, -/
theorem pay51_eq (a : S1x1x128.Idx → Elt F .f32) : k0_pay51 (k0_pay50 a) = a := row_back a
/-- and so is the second. -/
theorem pay75_eq (a : S1x1x128.Idx → Elt F .f32) : k0_pay75 a = a := row_back a

/-- The quantising of a block, at one place. -/
theorem quant_eq (a b : F .f32) (v : S256x1024.Idx → Elt F .f32) (h : S256x1024.ShapeCasts S256x1024) (j : S256x1024.Idx) :
    mulf (extf (s := S256x1024) .f32 (truncf (s := S256x1024) .fp8e4m3 (mulf (shapeCast S256x1024 v h : FVec F S256x1024 .f32) (broadcast S256x1024 a)) bitsLt_fp8e4m3_f32) bitsLt_fp8e4m3_f32)
      (broadcast S256x1024 b) j = qz a b (v j) := by
  rw [shapeCast_self]; rfl

/-- The first half of the opposite block is stored at its rows, -/
theorem off4_far : k0_off4 c = ![512 * far c + 256 * 0, 0] := (k0_off4_eq c).trans (by revert c; decide)
/-- and so is the second half. -/
theorem off5_far : k0_off5 c = ![512 * far c + 256 * 1, 0] := (k0_off5_eq c).trans (by revert c; decide)

/-- The first maximum is put in the device's own table and sent. -/
theorem run_pt16 {v2 : BitVec 32} {v429 : Vec F S1x1x128 .f32} {Q : _ → sProp 𝕄} :
    iprop(records m K ∗ ows c 10 ∗ tok c (D 18) 0 ∗ tok (pl c 1) (D 33) 0 ∗ tok c (D 19) 0 ∗ tok (pl c 2) (D 34) 0 ∗ any (rowM gM1 1) (pl c 1) fullShare ∗ any (rowM gM1 2) (pl c 2) fullShare ∗ has (srcM 0) c (rest 0) (row (am1 m c)) ∗ any (rowM gM1 0) c fullShare)
      ⊢ iprop((∀ w w' w'', (ows c 12 ∗ crd c (D 18) ∗ crd c (D 19) ∗ has (srcM 0) c (rest 2) (row (am1 m c)) ∗ has (rowM gM1 0) c fullShare (row (am1 m c))) -∗ Q ⟨w, w', w''⟩) -∗ run c (pt16 (F := F) c v2 (k0_pay50 (am1 m c)) v429) Q) := by
  unfold pt16 k0_part16_skel
  simp only [semSignalWord, semWaitWord, Prog.lift, Prog.bind_op, Prog.bind_ret, Prog.pure_eq_ret]
  iintro ⟨#HR, HO, Ht18, Ht33, Ht19, Ht34, Hg1, Hg2, Ham, Hgm⟩ Hk
  iapply (step_stRow c (pay51_eq _)) $$ Hgm; iintro Hgm
  iapply (snd_am0 m K c 1 (by decide) (dev_eq c 1 _ _ (k0_dev11_eq c)) rfl rfl) $$ [HO Ht18 Ht33 Ham Hg1]
  · isplitr; · iexact HR
    isplitl [HO]; · iexact HO
    isplitl [Ht18]; · iexact Ht18
    isplitl [Ht33]; · iexact Ht33
    isplitl [Ham]; · iexact Ham
    iexact Hg1
  iintro ⟨HO, Hk18, Ham⟩
  iapply (snd_am0 m K c 2 (by decide) (dev_eq c 2 _ _ (k0_dev12_eq c)) rfl rfl) $$ [HO Ht19 Ht34 Ham Hg2]
  · isplitr; · iexact HR
    isplitl [HO]; · iexact HO
    isplitl [Ht19]; · iexact Ht19
    isplitl [Ht34]; · iexact Ht34
    isplitl [Ham]; · iexact Ham
    iexact Hg2
  iintro ⟨HO, Hk19, Ham⟩
  iapply (step_ret c)
  iapply Hk
  isplitl [HO]; · iexact HO
  isplitl [Hk18]; · iexact Hk18
  isplitl [Hk19]; · iexact Hk19
  isplitl [Ham]; · iexact Ham
  iexact Hgm

/-- More sends of the first maximum. -/
theorem run_pt17 {v2 w0 : BitVec 32} {Q : _ → sProp 𝕄} :
    iprop(records m K ∗ ows c 12 ∗ tok c (D 20) 0 ∗ tok (pl c 3) (D 35) 0 ∗ tok c (D 21) 0 ∗ tok (pl c 4) (D 36) 0 ∗ any (rowM gM1 3) (pl c 3) fullShare ∗ any (rowM gM1 4) (pl c 4) fullShare ∗ has (srcM 0) c (rest 2) (row (am1 m c)))
      ⊢ iprop((∀ w w', (ows c 14 ∗ crd c (D 20) ∗ crd c (D 21) ∗ has (srcM 0) c (rest 4) (row (am1 m c))) -∗ Q ⟨w, w'⟩) -∗ run c (pt17 (F := F) c v2 w0) Q) := by
  unfold pt17 k0_part17_skel
  simp only [semSignalWord, semWaitWord, Prog.lift, Prog.bind_op, Prog.bind_ret, Prog.pure_eq_ret]
  iintro ⟨#HR, HO, Ht20, Ht35, Ht21, Ht36, Hg3, Hg4, Ham⟩ Hk
  iapply (snd_am0 m K c 3 (by decide) (dev_eq c 3 _ _ (k0_dev13_eq c)) rfl rfl) $$ [HO Ht20 Ht35 Ham Hg3]
  · isplitr; · iexact HR
    isplitl [HO]; · iexact HO
    isplitl [Ht20]; · iexact Ht20
    isplitl [Ht35]; · iexact Ht35
    isplitl [Ham]; · iexact Ham
    iexact Hg3
  iintro ⟨HO, Hk20, Ham⟩
  iapply (snd_am0 m K c 4 (by decide) (dev_eq c 4 _ _ (k0_dev14_eq c)) rfl rfl) $$ [HO Ht21 Ht36 Ham Hg4]
  · isplitr; · iexact HR
    isplitl [HO]; · iexact HO
    isplitl [Ht21]; · iexact Ht21
    isplitl [Ht36]; · iexact Ht36
    isplitl [Ham]; · iexact Ham
    iexact Hg4
  iintro ⟨HO, Hk21, Ham⟩
  iapply (step_ret c)
  iapply Hk
  isplitl [HO]; · iexact HO
  isplitl [Hk20]; · iexact Hk20
  isplitl [Hk21]; · iexact Hk21
  iexact Ham

/-- The last sends of the first maximum. -/
theorem run_pt18 {v2 : BitVec 32} {Q : _ → sProp 𝕄} :
    iprop(records m K ∗ ows c 14 ∗ tok c (D 22) 0 ∗ tok (pl c 5) (D 37) 0 ∗ tok c (D 23) 0 ∗ tok (pl c 6) (D 38) 0 ∗ tok c (D 24) 0 ∗ tok (pl c 7) (D 39) 0 ∗ any (rowM gM1 5) (pl c 5) fullShare ∗ any (rowM gM1 6) (pl c 6) fullShare ∗ any (rowM gM1 7) (pl c 7) fullShare ∗ has (srcM 0) c (rest 4) (row (am1 m c)))
      ⊢ iprop((∀ w w', (ows c 17 ∗ crd c (D 22) ∗ crd c (D 23) ∗ crd c (D 24) ∗ has (srcM 0) c (rest 7) (row (am1 m c))) -∗ Q ⟨w, w'⟩) -∗ run c (pt18 (F := F) c v2) Q) := by
  unfold pt18 k0_part18_skel
  simp only [semSignalWord, semWaitWord, Prog.lift, Prog.bind_op, Prog.bind_ret, Prog.pure_eq_ret]
  iintro ⟨#HR, HO, Ht22, Ht37, Ht23, Ht38, Ht24, Ht39, Hg5, Hg6, Hg7, Ham⟩ Hk
  iapply (snd_am0 m K c 5 (by decide) (dev_eq c 5 _ _ (k0_dev15_eq c)) rfl rfl) $$ [HO Ht22 Ht37 Ham Hg5]
  · isplitr; · iexact HR
    isplitl [HO]; · iexact HO
    isplitl [Ht22]; · iexact Ht22
    isplitl [Ht37]; · iexact Ht37
    isplitl [Ham]; · iexact Ham
    iexact Hg5
  iintro ⟨HO, Hk22, Ham⟩
  iapply (snd_am0 m K c 6 (by decide) (dev_eq c 6 _ _ (k0_dev16_eq c)) rfl rfl) $$ [HO Ht23 Ht38 Ham Hg6]
  · isplitr; · iexact HR
    isplitl [HO]; · iexact HO
    isplitl [Ht23]; · iexact Ht23
    isplitl [Ht38]; · iexact Ht38
    isplitl [Ham]; · iexact Ham
    iexact Hg6
  iintro ⟨HO, Hk23, Ham⟩
  iapply (snd_am0 m K c 7 (by decide) (dev_eq c 7 _ _ (k0_dev17_eq c)) rfl rfl) $$ [HO Ht24 Ht39 Ham Hg7]
  · isplitr; · iexact HR
    isplitl [HO]; · iexact HO
    isplitl [Ht24]; · iexact Ht24
    isplitl [Ht39]; · iexact Ht39
    isplitl [Ham]; · iexact Ham
    iexact Hg7
  iintro ⟨HO, Hk24, Ham⟩
  iapply (step_ret c)
  iapply Hk
  isplitl [HO]; · iexact HO
  isplitl [Hk22]; · iexact Hk22
  isplitl [Hk23]; · iexact Hk23
  isplitl [Hk24]; · iexact Hk24
  iexact Ham

/-- The first three maxima arrive. -/
theorem run_pt19 {w0 w1 w2 : BitVec 32} {Q : _ → sProp 𝕄} :
    iprop(records m K ∗ ows c 17 ∗ fresh c (D 33) ∗ crd c (D 33) ∗ fresh c (D 34) ∗ crd c (D 34) ∗ fresh c (D 35) ∗ crd c (D 35))
      ⊢ iprop((∀ w, (ows c 17 ∗ over c (D 33) ∗ over c (D 34) ∗ over c (D 35) ∗ has (rowM gM1 1) c fullShare (row (am1 m (pl c (8 - 1)))) ∗ has (rowM gM1 2) c fullShare (row (am1 m (pl c (8 - 2)))) ∗ has (rowM gM1 3) c fullShare (row (am1 m (pl c (8 - 3))))) -∗ Q w) -∗ run c (pt19 (F := F) w0 w1 w2) Q) := by
  unfold pt19 k0_part19_skel
  simp only [semSignalWord, semWaitWord, Prog.lift, Prog.bind_op, Prog.bind_ret, Prog.pure_eq_ret]
  iintro ⟨#HR, HO, Hf33, Hc33, Hf34, Hc34, Hf35, Hc35⟩ Hk
  iapply (step_wait m K c 17 33 rfl rfl rfl (by decide) rfl) $$ [HO Hf33 Hc33]
  · isplitr; · iexact HR
    isplitl [HO]; · iexact HO
    isplitl [Hf33]; · iexact Hf33
    iexact Hc33
  iintro ⟨HO, Ho33, Hp⟩
  ihave Hm1 := (Entails.of_eq (show pay m c (D 33) 0 = has (rowM gM1 1) c fullShare (row (am1 m (pl c (8 - 1)))) from got_amR0 m c 1)) $$ Hp
  iapply (step_wait m K c 17 34 rfl rfl rfl (by decide) rfl) $$ [HO Hf34 Hc34]
  · isplitr; · iexact HR
    isplitl [HO]; · iexact HO
    isplitl [Hf34]; · iexact Hf34
    iexact Hc34
  iintro ⟨HO, Ho34, Hp⟩
  ihave Hm2 := (Entails.of_eq (show pay m c (D 34) 0 = has (rowM gM1 2) c fullShare (row (am1 m (pl c (8 - 2)))) from got_amR0 m c 2)) $$ Hp
  iapply (step_wait m K c 17 35 rfl rfl rfl (by decide) rfl) $$ [HO Hf35 Hc35]
  · isplitr; · iexact HR
    isplitl [HO]; · iexact HO
    isplitl [Hf35]; · iexact Hf35
    iexact Hc35
  iintro ⟨HO, Ho35, Hp⟩
  ihave Hm3 := (Entails.of_eq (show pay m c (D 35) 0 = has (rowM gM1 3) c fullShare (row (am1 m (pl c (8 - 3)))) from got_amR0 m c 3)) $$ Hp
  iapply (step_ret c)
  iapply Hk
  isplitl [HO]; · iexact HO
  isplitl [Ho33]; · iexact Ho33
  isplitl [Ho34]; · iexact Ho34
  isplitl [Ho35]; · iexact Ho35
  isplitl [Hm1]; · iexact Hm1
  isplitl [Hm2]; · iexact Hm2
  iexact Hm3

/-- Three more maxima arrive. -/
theorem run_pt20 {w0 w1 w2 w3 w4 : BitVec 32} {Q : _ → sProp 𝕄} :
    iprop(records m K ∗ ows c 17 ∗ fresh c (D 36) ∗ crd c (D 36) ∗ fresh c (D 37) ∗ crd c (D 37) ∗ fresh c (D 38) ∗ crd c (D 38))
      ⊢ iprop(((ows c 17 ∗ over c (D 36) ∗ over c (D 37) ∗ over c (D 38) ∗ has (rowM gM1 4) c fullShare (row (am1 m (pl c (8 - 4)))) ∗ has (rowM gM1 5) c fullShare (row (am1 m (pl c (8 - 5)))) ∗ has (rowM gM1 6) c fullShare (row (am1 m (pl c (8 - 6))))) -∗ Q ⟨⟩) -∗ run c (pt20 (F := F) w0 w1 w2 w3 w4) Q) := by
  unfold pt20 k0_part20_skel
  simp only [semSignalWord, semWaitWord, Prog.lift, Prog.bind_op, Prog.bind_ret, Prog.pure_eq_ret]
  iintro ⟨#HR, HO, Hf36, Hc36, Hf37, Hc37, Hf38, Hc38⟩ Hk
  iapply (step_wait m K c 17 36 rfl rfl rfl (by decide) rfl) $$ [HO Hf36 Hc36]
  · isplitr; · iexact HR
    isplitl [HO]; · iexact HO
    isplitl [Hf36]; · iexact Hf36
    iexact Hc36
  iintro ⟨HO, Ho36, Hp⟩
  ihave Hm4 := (Entails.of_eq (show pay m c (D 36) 0 = has (rowM gM1 4) c fullShare (row (am1 m (pl c (8 - 4)))) from got_amR0 m c 4)) $$ Hp
  iapply (step_wait m K c 17 37 rfl rfl rfl (by decide) rfl) $$ [HO Hf37 Hc37]
  · isplitr; · iexact HR
    isplitl [HO]; · iexact HO
    isplitl [Hf37]; · iexact Hf37
    iexact Hc37
  iintro ⟨HO, Ho37, Hp⟩
  ihave Hm5 := (Entails.of_eq (show pay m c (D 37) 0 = has (rowM gM1 5) c fullShare (row (am1 m (pl c (8 - 5)))) from got_amR0 m c 5)) $$ Hp
  iapply (step_wait m K c 17 38 rfl rfl rfl (by decide) rfl) $$ [HO Hf38 Hc38]
  · isplitr; · iexact HR
    isplitl [HO]; · iexact HO
    isplitl [Hf38]; · iexact Hf38
    iexact Hc38
  iintro ⟨HO, Ho38, Hp⟩
  ihave Hm6 := (Entails.of_eq (show pay m c (D 38) 0 = has (rowM gM1 6) c fullShare (row (am1 m (pl c (8 - 6)))) from got_amR0 m c 6)) $$ Hp
  iapply (step_ret c)
  iapply Hk
  isplitl [HO]; · iexact HO
  isplitl [Ho36]; · iexact Ho36
  isplitl [Ho37]; · iexact Ho37
  isplitl [Ho38]; · iexact Ho38
  isplitl [Hm4]; · iexact Hm4
  isplitl [Hm5]; · iexact Hm5
  iexact Hm6

/-- A block quantised for the first time, unless it is left out. -/
theorem cond_B (bk n n' : ℕ) (hn : n = 2 * bk) (hn' : n' = n + 2) {C : Prop} [Decidable C] {α : Type} {Q : α → sProp 𝕄} {k : Prog (TpuEff nD τ sig (Elt F) Λ₀ .tc) α}
    (hC : ¬ C → far c = bk) {w₁ w₂ : (S256x1024.Idx → Elt F .f32) → S256x1024.Idx → Elt F .f32}
    (hw₁ : ∀ v j, w₁ v j = q1 m c (v j)) (hw₂ : ∀ v j, w₂ v j = q1 m c (v j))
    {o₁ : Fin 2 → ℕ} {inb₁ : ∀ a, o₁ a + S256x1024.size a ≤ S4096x1024.size a} (ho₁ : o₁ = ![256 * n, 0])
    {o₂ : Fin 2 → ℕ} {inb₂ : ∀ a, o₂ a + S256x1024.size a ≤ S4096x1024.size a} (ho₂ : o₂ = ![256 * (n + 1), 0])
    {hx₁ : (oM.access (Rect.unit (s := S4096x1024) o₁ S256x1024.size inb₁)).Stores Finset.univ} {hm₁ : (Finset.univ : Finset (Rect.unit (s := S4096x1024) o₁ S256x1024.size inb₁).shape.Idx) = Finset.univ ∨ ∀ a, (Rect.unit (s := S4096x1024) o₁ S256x1024.size inb₁).stride a = 1} {hl₁ hl₁' : oM.view.LoadsAt (Rect.unit (s := S4096x1024) o₁ S256x1024.size inb₁).toLoadRect}
    {hx₂ : (oM.access (Rect.unit (s := S4096x1024) o₂ S256x1024.size inb₂)).Stores Finset.univ} {hm₂ : (Finset.univ : Finset (Rect.unit (s := S4096x1024) o₂ S256x1024.size inb₂).shape.Idx) = Finset.univ ∨ ∀ a, (Rect.unit (s := S4096x1024) o₂ S256x1024.size inb₂).stride a = 1} {hl₂ hl₂' : oM.view.LoadsAt (Rect.unit (s := S4096x1024) o₂ S256x1024.size inb₂).toLoadRect} :
    buf oM c fullShare (SB m c n) ⊢ iprop((buf oM c fullShare (SB m c n') -∗ run c k Q)
      -∗ run c (if C then .op (.load oM (Rect.unit (s := S4096x1024) o₁ S256x1024.size inb₁).toLoadRect hl₁) fun v => .op (.load oM (Rect.unit (s := S4096x1024) o₁ S256x1024.size inb₁).toLoadRect hl₁') fun _ => .op (.store oM (Rect.unit (s := S4096x1024) o₁ S256x1024.size inb₁) (w₁ v) Finset.univ hx₁ hm₁) fun _ =>
          .op (.load oM (Rect.unit (s := S4096x1024) o₂ S256x1024.size inb₂).toLoadRect hl₂) fun v => .op (.load oM (Rect.unit (s := S4096x1024) o₂ S256x1024.size inb₂).toLoadRect hl₂') fun _ => .op (.store oM (Rect.unit (s := S4096x1024) o₂ S256x1024.size inb₂) (w₂ v) Finset.univ hx₂ hm₂) fun _ => k
        else k) Q) := by
  subst hn'
  exact step_cond c (fun _ => SB_put m c n ho₁ hw₁) (fun _ => SB_put m c (n + 1) ho₂ hw₂)
    (fun h => by subst hn; exact SB_skip m c bk (hC h))

/-- A block quantised again, unless it is left out. -/
theorem cond_E (bk n n' : ℕ) (hn : n = 2 * bk) (hn' : n' = n + 2) {C : Prop} [Decidable C] {α : Type} {Q : α → sProp 𝕄} {k : Prog (TpuEff nD τ sig (Elt F) Λ₀ .tc) α}
    (hC : C ↔ upd m c ∧ far c ≠ bk) {w₁ w₂ : (S256x1024.Idx → Elt F .f32) → S256x1024.Idx → Elt F .f32}
    (hw₁ : ∀ v j, w₁ v j = q2 m c (v j)) (hw₂ : ∀ v j, w₂ v j = q2 m c (v j))
    {o₁ : Fin 2 → ℕ} {inb₁ : ∀ a, o₁ a + S256x1024.size a ≤ S4096x1024.size a} (ho₁ : o₁ = ![256 * n, 0])
    {o₂ : Fin 2 → ℕ} {inb₂ : ∀ a, o₂ a + S256x1024.size a ≤ S4096x1024.size a} (ho₂ : o₂ = ![256 * (n + 1), 0])
    {hx₁ : (oM.access (Rect.unit (s := S4096x1024) o₁ S256x1024.size inb₁)).Stores Finset.univ} {hm₁ : (Finset.univ : Finset (Rect.unit (s := S4096x1024) o₁ S256x1024.size inb₁).shape.Idx) = Finset.univ ∨ ∀ a, (Rect.unit (s := S4096x1024) o₁ S256x1024.size inb₁).stride a = 1} {hl₁ hl₁' : oM.view.LoadsAt (Rect.unit (s := S4096x1024) o₁ S256x1024.size inb₁).toLoadRect}
    {hx₂ : (oM.access (Rect.unit (s := S4096x1024) o₂ S256x1024.size inb₂)).Stores Finset.univ} {hm₂ : (Finset.univ : Finset (Rect.unit (s := S4096x1024) o₂ S256x1024.size inb₂).shape.Idx) = Finset.univ ∨ ∀ a, (Rect.unit (s := S4096x1024) o₂ S256x1024.size inb₂).stride a = 1} {hl₂ hl₂' : oM.view.LoadsAt (Rect.unit (s := S4096x1024) o₂ S256x1024.size inb₂).toLoadRect} :
    buf oM c fullShare (SE m c n) ⊢ iprop((buf oM c fullShare (SE m c n') -∗ run c k Q)
      -∗ run c (if C then .op (.load oM (Rect.unit (s := S4096x1024) o₁ S256x1024.size inb₁).toLoadRect hl₁) fun v => .op (.load oM (Rect.unit (s := S4096x1024) o₁ S256x1024.size inb₁).toLoadRect hl₁') fun _ => .op (.store oM (Rect.unit (s := S4096x1024) o₁ S256x1024.size inb₁) (w₁ v) Finset.univ hx₁ hm₁) fun _ =>
          .op (.load oM (Rect.unit (s := S4096x1024) o₂ S256x1024.size inb₂).toLoadRect hl₂) fun v => .op (.load oM (Rect.unit (s := S4096x1024) o₂ S256x1024.size inb₂).toLoadRect hl₂') fun _ => .op (.store oM (Rect.unit (s := S4096x1024) o₂ S256x1024.size inb₂) (w₂ v) Finset.univ hx₂ hm₂) fun _ => k
        else k) Q) := by
  subst hn'
  exact step_cond c (fun h => SE_put m c n (hC.1 h).1 (by have := (hC.1 h).2; omega) ho₁ hw₁) (fun h => SE_put m c (n + 1) (hC.1 h).1 (by have := (hC.1 h).2; omega) ho₂ hw₂)
    (fun h => by subst hn; exact SE_skip m c bk fun h' => h (hC.2 h'))
/-- This half block is quantised with the first scale, place by place. -/
theorem pay55_q (v : S256x1024.Idx → Elt F .f32) (j : S256x1024.Idx) : k0_pay55 (T1 m c) v j = q1 m c (v j) := quant_eq _ _ v _ j
/-- This half block is quantised with the first scale, place by place. -/
theorem pay56_q (v : S256x1024.Idx → Elt F .f32) (j : S256x1024.Idx) : k0_pay56 (T1 m c) v j = q1 m c (v j) := quant_eq _ _ v _ j
/-- This half block is quantised with the first scale, place by place. -/
theorem pay57_q (v : S256x1024.Idx → Elt F .f32) (j : S256x1024.Idx) : k0_pay57 (T1 m c) v j = q1 m c (v j) := quant_eq _ _ v _ j
/-- This half block is quantised with the first scale, place by place. -/
theorem pay58_q (v : S256x1024.Idx → Elt F .f32) (j : S256x1024.Idx) : k0_pay58 (T1 m c) v j = q1 m c (v j) := quant_eq _ _ v _ j
/-- This half block is quantised with the first scale, place by place. -/
theorem pay59_q (v : S256x1024.Idx → Elt F .f32) (j : S256x1024.Idx) : k0_pay59 (T1 m c) v j = q1 m c (v j) := quant_eq _ _ v _ j
/-- This half block is quantised with the first scale, place by place. -/
theorem pay60_q (v : S256x1024.Idx → Elt F .f32) (j : S256x1024.Idx) : k0_pay60 (T1 m c) v j = q1 m c (v j) := quant_eq _ _ v _ j
/-- This half block is quantised with the first scale, place by place. -/
theorem pay61_q (v : S256x1024.Idx → Elt F .f32) (j : S256x1024.Idx) : k0_pay61 (T1 m c) v j = q1 m c (v j) := quant_eq _ _ v _ j
/-- This half block is quantised with the first scale, place by place. -/
theorem pay62_q (v : S256x1024.Idx → Elt F .f32) (j : S256x1024.Idx) : k0_pay62 (T1 m c) v j = q1 m c (v j) := quant_eq _ _ v _ j
/-- This half block is quantised with the first scale, place by place. -/
theorem pay63_q (v : S256x1024.Idx → Elt F .f32) (j : S256x1024.Idx) : k0_pay63 (T1 m c) v j = q1 m c (v j) := quant_eq _ _ v _ j
/-- This half block is quantised with the first scale, place by place. -/
theorem pay64_q (v : S256x1024.Idx → Elt F .f32) (j : S256x1024.Idx) : k0_pay64 (T1 m c) v j = q1 m c (v j) := quant_eq _ _ v _ j
/-- This half block is quantised with the first scale, place by place. -/
theorem pay65_q (v : S256x1024.Idx → Elt F .f32) (j : S256x1024.Idx) : k0_pay65 (T1 m c) v j = q1 m c (v j) := quant_eq _ _ v _ j
/-- This half block is quantised with the first scale, place by place. -/
theorem pay66_q (v : S256x1024.Idx → Elt F .f32) (j : S256x1024.Idx) : k0_pay66 (T1 m c) v j = q1 m c (v j) := quant_eq _ _ v _ j
/-- This half block is quantised with the first scale, place by place. -/
theorem pay67_q (v : S256x1024.Idx → Elt F .f32) (j : S256x1024.Idx) : k0_pay67 (k0_pay53 (T1 m c)) (k0_pay54 (T1 m c)) v j = q1 m c (v j) := quant_eq _ _ v _ j
/-- This half block is quantised with the first scale, place by place. -/
theorem pay68_q (v : S256x1024.Idx → Elt F .f32) (j : S256x1024.Idx) : k0_pay68 (k0_pay53 (T1 m c)) (k0_pay54 (T1 m c)) v j = q1 m c (v j) := quant_eq _ _ v _ j
/-- This half block is quantised with the first scale, place by place. -/
theorem pay69_q (v : S256x1024.Idx → Elt F .f32) (j : S256x1024.Idx) : k0_pay69 (k0_pay53 (T1 m c)) (k0_pay54 (T1 m c)) v j = q1 m c (v j) := quant_eq _ _ v _ j
/-- This half block is quantised with the first scale, place by place. -/
theorem pay70_q (v : S256x1024.Idx → Elt F .f32) (j : S256x1024.Idx) : k0_pay70 (k0_pay53 (T1 m c)) (k0_pay54 (T1 m c)) v j = q1 m c (v j) := quant_eq _ _ v _ j
/-- This half block is quantised with the second scale, place by place. -/
theorem pay79_q (v : S256x1024.Idx → Elt F .f32) (j : S256x1024.Idx) : k0_pay79 (g1 m c) (T2 m c) v j = q2 m c (v j) := quant_eq _ _ v _ j
/-- This half block is quantised with the second scale, place by place. -/
theorem pay80_q (v : S256x1024.Idx → Elt F .f32) (j : S256x1024.Idx) : k0_pay80 (g1 m c) (T2 m c) v j = q2 m c (v j) := quant_eq _ _ v _ j
/-- This half block is quantised with the second scale, place by place. -/
theorem pay81_q (v : S256x1024.Idx → Elt F .f32) (j : S256x1024.Idx) : k0_pay81 (g1 m c) (T2 m c) v j = q2 m c (v j) := quant_eq _ _ v _ j
/-- This half block is quantised with the second scale, place by place. -/
theorem pay82_q (v : S256x1024.Idx → Elt F .f32) (j : S256x1024.Idx) : k0_pay82 (g1 m c) (T2 m c) v j = q2 m c (v j) := quant_eq _ _ v _ j
/-- This half block is quantised with the second scale, place by place. -/
theorem pay83_q (v : S256x1024.Idx → Elt F .f32) (j : S256x1024.Idx) : k0_pay83 (k0_pay77 (g1 m c) (T2 m c)) (k0_pay78 (g1 m c) (T2 m c)) v j = q2 m c (v j) := quant_eq _ _ v _ j
/-- This half block is quantised with the second scale, place by place. -/
theorem pay84_q (v : S256x1024.Idx → Elt F .f32) (j : S256x1024.Idx) : k0_pay84 (k0_pay77 (g1 m c) (T2 m c)) (k0_pay78 (g1 m c) (T2 m c)) v j = q2 m c (v j) := quant_eq _ _ v _ j
/-- This half block is quantised with the second scale, place by place. -/
theorem pay85_q (v : S256x1024.Idx → Elt F .f32) (j : S256x1024.Idx) : k0_pay85 (k0_pay77 (g1 m c) (T2 m c)) (k0_pay78 (g1 m c) (T2 m c)) v j = q2 m c (v j) := quant_eq _ _ v _ j
/-- This half block is quantised with the second scale, place by place. -/
theorem pay86_q (v : S256x1024.Idx → Elt F .f32) (j : S256x1024.Idx) : k0_pay86 (k0_pay77 (g1 m c) (T2 m c)) (k0_pay78 (g1 m c) (T2 m c)) v j = q2 m c (v j) := quant_eq _ _ v _ j
/-- This half block is quantised with the second scale, place by place. -/
theorem pay87_q (v : S256x1024.Idx → Elt F .f32) (j : S256x1024.Idx) : k0_pay87 (k0_pay77 (g1 m c) (T2 m c)) (k0_pay78 (g1 m c) (T2 m c)) v j = q2 m c (v j) := quant_eq _ _ v _ j
/-- This half block is quantised with the second scale, place by place. -/
theorem pay88_q (v : S256x1024.Idx → Elt F .f32) (j : S256x1024.Idx) : k0_pay88 (k0_pay77 (g1 m c) (T2 m c)) (k0_pay78 (g1 m c) (T2 m c)) v j = q2 m c (v j) := quant_eq _ _ v _ j
/-- This half block is quantised with the second scale, place by place. -/
theorem pay89_q (v : S256x1024.Idx → Elt F .f32) (j : S256x1024.Idx) : k0_pay89 (k0_pay77 (g1 m c) (T2 m c)) (k0_pay78 (g1 m c) (T2 m c)) v j = q2 m c (v j) := quant_eq _ _ v _ j
/-- This half block is quantised with the second scale, place by place. -/
theorem pay90_q (v : S256x1024.Idx → Elt F .f32) (j : S256x1024.Idx) : k0_pay90 (k0_pay77 (g1 m c) (T2 m c)) (k0_pay78 (g1 m c) (T2 m c)) v j = q2 m c (v j) := quant_eq _ _ v _ j
/-- This half block is quantised with the second scale, place by place. -/
theorem pay91_q (v : S256x1024.Idx → Elt F .f32) (j : S256x1024.Idx) : k0_pay91 (k0_pay77 (g1 m c) (T2 m c)) (k0_pay78 (g1 m c) (T2 m c)) v j = q2 m c (v j) := quant_eq _ _ v _ j
/-- This half block is quantised with the second scale, place by place. -/
theorem pay92_q (v : S256x1024.Idx → Elt F .f32) (j : S256x1024.Idx) : k0_pay92 (k0_pay77 (g1 m c) (T2 m c)) (k0_pay78 (g1 m c) (T2 m c)) v j = q2 m c (v j) := quant_eq _ _ v _ j
/-- This half block is quantised with the second scale, place by place. -/
theorem pay93_q (v : S256x1024.Idx → Elt F .f32) (j : S256x1024.Idx) : k0_pay93 (k0_pay77 (g1 m c) (T2 m c)) (k0_pay78 (g1 m c) (T2 m c)) v j = q2 m c (v j) := quant_eq _ _ v _ j
/-- This half block is quantised with the second scale, place by place. -/
theorem pay94_q (v : S256x1024.Idx → Elt F .f32) (j : S256x1024.Idx) : k0_pay94 (k0_pay77 (g1 m c) (T2 m c)) (k0_pay78 (g1 m c) (T2 m c)) v j = q2 m c (v j) := quant_eq _ _ v _ j
/-- This half block is quantised with the second scale, place by place. -/
theorem pay95_q (v : S256x1024.Idx → Elt F .f32) (j : S256x1024.Idx) : k0_pay95 (k0_pay77 (g1 m c) (T2 m c)) (k0_pay78 (g1 m c) (T2 m c)) v j = q2 m c (v j) := quant_eq _ _ v _ j
/-- This half block is quantised with the second scale, place by place. -/
theorem pay96_q (v : S256x1024.Idx → Elt F .f32) (j : S256x1024.Idx) : k0_pay96 (k0_pay77 (g1 m c) (T2 m c)) (k0_pay78 (g1 m c) (T2 m c)) v j = q2 m c (v j) := quant_eq _ _ v _ j

/-- The zero offset of a three-axis array. -/
theorem z3 (a : Fin 3) : (![0, 0, 0] : Fin 3 → ℕ) a = 0 := by revert a; decide
/-- A device's own row in the first table is the one from zero places away, -/
theorem row_zero1 : has (rowM gM1 0) c fullShare (row (am1 m c)) = has (rowM gM1 0) c fullShare (row (am1 m (pl c (8 - (0 : Fin 8).val)))) := by
  show _ = has (rowM gM1 0) c fullShare (row (am1 m (pl c 8))); rw [pl_eight]
/-- and so in the second table. -/
theorem row_zero2 : has (rowM gM2 0) c fullShare (row (am2 m c)) = has (rowM gM2 0) c fullShare (row (am2 m (pl c (8 - (0 : Fin 8).val)))) := by
  show _ = has (rowM gM2 0) c fullShare (row (am2 m (pl c 8))); rw [pl_eight]

/-- The rows of table 1 make the table. -/
theorem rows1 : iprop(has (rowM gM1 0) c fullShare (row (am1 m c)) ∗ has (rowM gM1 1) c fullShare (row (am1 m (pl c (8 - 1)))) ∗ has (rowM gM1 2) c fullShare (row (am1 m (pl c (8 - 2)))) ∗ has (rowM gM1 3) c fullShare (row (am1 m (pl c (8 - 3)))) ∗ has (rowM gM1 4) c fullShare (row (am1 m (pl c (8 - 4)))) ∗ has (rowM gM1 5) c fullShare (row (am1 m (pl c (8 - 5)))) ∗ has (rowM gM1 6) c fullShare (row (am1 m (pl c (8 - 6)))) ∗ has (rowM gM1 7) c fullShare (row (am1 m (pl c (8 - 7)))))
    ⊢ has gM1 c fullShare (T1 m c) := by
  rw [row_zero1]; exact rows_join c gM1 (fun d => am1 m (pl c (8 - d.val)))

/-- The rows of table 2 make the table. -/
theorem rows2 : iprop(has (rowM gM2 0) c fullShare (row (am2 m c)) ∗ has (rowM gM2 1) c fullShare (row (am2 m (pl c (8 - 1)))) ∗ has (rowM gM2 2) c fullShare (row (am2 m (pl c (8 - 2)))) ∗ has (rowM gM2 3) c fullShare (row (am2 m (pl c (8 - 3)))) ∗ has (rowM gM2 4) c fullShare (row (am2 m (pl c (8 - 4)))) ∗ has (rowM gM2 5) c fullShare (row (am2 m (pl c (8 - 5)))) ∗ has (rowM gM2 6) c fullShare (row (am2 m (pl c (8 - 6)))) ∗ has (rowM gM2 7) c fullShare (row (am2 m (pl c (8 - 7)))))
    ⊢ has gM2 c fullShare (T2 m c) := by
  rw [row_zero2]; exact rows_join c gM2 (fun d => am2 m (pl c (8 - d.val)))

/-- The last maximum arrives; the blocks that are there are quantised, six of eight here. -/
theorem run_pt21  {Q : _ → sProp 𝕄} :
    iprop(records m K ∗ ows c 17 ∗ fresh c (D 39) ∗ crd c (D 39) ∗ has (rowM gM1 1) c fullShare (row (am1 m (pl c (8 - 1)))) ∗ has (rowM gM1 2) c fullShare (row (am1 m (pl c (8 - 2)))) ∗ has (rowM gM1 3) c fullShare (row (am1 m (pl c (8 - 3)))) ∗ has (rowM gM1 4) c fullShare (row (am1 m (pl c (8 - 4)))) ∗ has (rowM gM1 5) c fullShare (row (am1 m (pl c (8 - 5)))) ∗ has (rowM gM1 6) c fullShare (row (am1 m (pl c (8 - 6)))) ∗ has (rowM gM1 0) c fullShare (row (am1 m c)) ∗ buf oM c fullShare (SA m c [(pl c 3).val, (pl c 5).val, (pl c 2).val, (pl c 6).val, (pl c 1).val, (pl c 7).val, c.val]))
      ⊢ iprop(((ows c 17 ∗ over c (D 39) ∗ has gM1 c fullShare (T1 m c) ∗ buf oM c fullShare (SB m c 12)) -∗ Q ⟨k0_pay52 (T1 m c), k0_pay53 (T1 m c), k0_pay54 (T1 m c)⟩) -∗ run c (pt21 (F := F) (farw c)) Q) := by
  unfold pt21 k0_part21_skel
  simp (config := {zeta := false, zetaHave := false}) only [dite_eq_ite, semSignalWord, semWaitWord, Prog.lift, Prog.bind_op, Prog.bind_ret, Prog.pure_eq_ret]
  iintro ⟨#HR, HO, Hf39, Hc39, Hm1, Hm2, Hm3, Hm4, Hm5, Hm6, Hgm, Hom⟩ Hk
  iapply (step_wait m K c 17 39 rfl rfl rfl (by decide) rfl) $$ [HO Hf39 Hc39]
  · isplitr; · iexact HR
    isplitl [HO]; · iexact HO
    isplitl [Hf39]; · iexact Hf39
    iexact Hc39
  iintro ⟨HO, Ho39, Hp⟩
  ihave Hm7 := (Entails.of_eq (show pay m c (D 39) 0 = has (rowM gM1 7) c fullShare (row (am1 m (pl c (8 - 7)))) from got_amR0 m c 7)) $$ Hp
  ihave Hgm := (rows1 m c) $$ [Hgm Hm1 Hm2 Hm3 Hm4 Hm5 Hm6 Hm7]
  · isplitl [Hgm]; · iexact Hgm
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    iexact Hm7
  iapply (step_ldWhole c z3) $$ Hgm; iintro Hgm
  ihave Hom := (buf_mono (SA_all m c)) $$ Hom
  extract_lets a0 b0 d0 a1 b1 d1 a2 b2 d2 a3 b3 d3 a4 b4 d4 a5 b5 d5 j6 j5 j4 j3 j2 j1
  have hd0 : ¬ d0 = 1#1 → far c = 0 := fun h => not_not.mp fun h' => h ((farw_ne c 0).2 h')
  have hd1 : ¬ d1 = 1#1 → far c = 1 := fun h => not_not.mp fun h' => h ((farw_ne c 1).2 h')
  have hd2 : ¬ d2 = 1#1 → far c = 2 := fun h => not_not.mp fun h' => h ((farw_ne c 2).2 h')
  have hd3 : ¬ d3 = 1#1 → far c = 3 := fun h => not_not.mp fun h' => h ((farw_ne c 3).2 h')
  have hd4 : ¬ d4 = 1#1 → far c = 4 := fun h => not_not.mp fun h' => h ((farw_ne c 4).2 h')
  have hd5 : ¬ d5 = 1#1 → far c = 5 := fun h => not_not.mp fun h' => h ((farw_ne c 5).2 h')
  clear_value d0 d1 d2 d3 d4 d5
  iapply (cond_B m c 0 0 2 rfl rfl (C := d0 = 1#1) (k := j1 ⟨⟩) hd0 (pay55_q m c) (pay56_q m c) (o₁ := ![0, 0]) rfl (o₂ := ![256, 0]) rfl) $$ Hom; iintro Hom
  dsimp only [j1]
  iapply (cond_B m c 1 2 4 rfl rfl (C := d1 = 1#1) (k := j2 ⟨⟩) hd1 (pay57_q m c) (pay58_q m c) (o₁ := ![512, 0]) rfl (o₂ := ![768, 0]) rfl) $$ Hom; iintro Hom
  dsimp only [j2]
  iapply (cond_B m c 2 4 6 rfl rfl (C := d2 = 1#1) (k := j3 ⟨⟩) hd2 (pay59_q m c) (pay60_q m c) (o₁ := ![1024, 0]) rfl (o₂ := ![1280, 0]) rfl) $$ Hom; iintro Hom
  dsimp only [j3]
  iapply (cond_B m c 3 6 8 rfl rfl (C := d3 = 1#1) (k := j4 ⟨⟩) hd3 (pay61_q m c) (pay62_q m c) (o₁ := ![1536, 0]) rfl (o₂ := ![1792, 0]) rfl) $$ Hom; iintro Hom
  dsimp only [j4]
  iapply (cond_B m c 4 8 10 rfl rfl (C := d4 = 1#1) (k := j5 ⟨⟩) hd4 (pay63_q m c) (pay64_q m c) (o₁ := ![2048, 0]) rfl (o₂ := ![2304, 0]) rfl) $$ Hom; iintro Hom
  dsimp only [j5]
  iapply (cond_B m c 5 10 12 rfl rfl (C := d5 = 1#1) (k := j6 ⟨⟩) hd5 (pay65_q m c) (pay66_q m c) (o₁ := ![2560, 0]) rfl (o₂ := ![2816, 0]) rfl) $$ Hom; iintro Hom
  dsimp only [j6]
  iapply (step_ret c)
  iapply Hk
  isplitl [HO]; · iexact HO
  isplitl [Ho39]; · iexact Ho39
  isplitl [Hgm]; · iexact Hgm
  iexact Hom

/-- The last two blocks are quantised; the two halves of the block opposite arrive, and the first is multiplied. -/
theorem run_pt22 {v5 v7 : BitVec 32} {Q : _ → sProp 𝕄} :
    iprop(records m K ∗ ows c 17 ∗ fresh c (D 9) ∗ crd c (D 9) ∗ fresh c (D 17) ∗ crd c (D 17) ∗ has wbM c fullShare (wb m c) ∗ buf oM c fullShare (SB m c 12))
      ⊢ iprop(((ows c 17 ∗ over c (D 9) ∗ over c (D 17) ∗ has wbM c fullShare (wb m c) ∗ has cwH c fullShare (xh 0 (xs m (pl c 4))) ∗ has ccH c fullShare (xh 1 (xs m (pl c 4))) ∗ buf oM c fullShare (ST m c 1)) -∗ Q (k0_pay72 (xh 0 (xs m (pl c 4))) (wb m c))) -∗ run c (pt22 (F := F) c v5 v7 (farw c) (k0_pay53 (T1 m c)) (k0_pay54 (T1 m c))) Q) := by
  unfold pt22 k0_part22_skel
  simp (config := {zeta := false, zetaHave := false}) only [dite_eq_ite, semSignalWord, semWaitWord, Prog.lift, Prog.bind_op, Prog.bind_ret, Prog.pure_eq_ret]
  iintro ⟨#HR, HO, Hf9, Hc9, Hf17, Hc17, Hwb, Hom⟩ Hk
  extract_lets a6 b6 d6 a7 b7 d7 s1 s2 s3 s4 s5 s6 s7 s8 j2 j1
  have hd6 : ¬ d6 = 1#1 → far c = 6 := fun h => not_not.mp fun h' => h ((farw_ne c 6).2 h')
  have hd7 : ¬ d7 = 1#1 → far c = 7 := fun h => not_not.mp fun h' => h ((farw_ne c 7).2 h')
  clear_value d6 d7
  iapply (cond_B m c 6 12 14 rfl rfl (C := d6 = 1#1) (k := j1 ⟨⟩) hd6 (pay67_q m c) (pay68_q m c) (o₁ := ![3072, 0]) rfl (o₂ := ![3328, 0]) rfl) $$ Hom; iintro Hom
  dsimp only [j1]
  iapply (cond_B m c 7 14 16 rfl rfl (C := d7 = 1#1) (k := j2 ⟨⟩) hd7 (pay69_q m c) (pay70_q m c) (o₁ := ![3584, 0]) rfl (o₂ := ![3840, 0]) rfl) $$ Hom; iintro Hom
  dsimp only [j2]
  ihave Hom := (buf_mono (P' := ST m c 0) (SB_all m c)) $$ Hom
  iapply (step_wait m K c 17 9 rfl rfl rfl (by decide) rfl) $$ [HO Hf9 Hc9]
  · isplitr; · iexact HR
    isplitl [HO]; · iexact HO
    isplitl [Hf9]; · iexact Hf9
    iexact Hc9
  iintro ⟨HO, Ho9, Hp⟩
  ihave Hp := (Entails.of_eq (got9 m c)) $$ Hp
  icases Hp with ⟨HcH, -⟩
  iapply (step_wait m K c 17 17 rfl rfl rfl (by decide) rfl) $$ [HO Hf17 Hc17]
  · isplitr; · iexact HR
    isplitl [HO]; · iexact HO
    isplitl [Hf17]; · iexact Hf17
    iexact Hc17
  iintro ⟨HO, Ho17, Hp⟩
  ihave Hp := (Entails.of_eq (got17 m c)) $$ Hp
  icases Hp with ⟨HdH, -⟩
  iapply (step_ldWhole c z2) $$ HcH; iintro HcH
  iapply (step_ldWhole c z2) $$ Hwb; iintro Hwb
  iapply (step_ldAny c) $$ Hom; iintro %v Hom
  iapply (step_st c (P := ST m c 0) (P' := ST m c 1) (ST_put m c 0 (off4_far c) (w := k0_pay71 (xh 0 (xs m (pl c 4))) (wb m c)) rfl)) $$ Hom; iintro Hom
  iapply (step_ret c)
  iapply Hk
  isplitl [HO]; · iexact HO
  isplitl [Ho9]; · iexact Ho9
  isplitl [Ho17]; · iexact Ho17
  isplitl [Hwb]; · iexact Hwb
  isplitl [HcH]; · iexact HcH
  isplitl [HdH]; · iexact HdH
  iexact Hom

/-- The second half is multiplied; the maximum of the block opposite is put in the table. -/
theorem run_pt23 {v2 w0 : BitVec 32} {Q : _ → sProp 𝕄} :
    iprop(records m K ∗ has wbM c fullShare (wb m c) ∗ has ccH c fullShare (xh 1 (xs m (pl c 4))) ∗ buf oM c fullShare (ST m c 1) ∗ any (srcM 1) c fullShare ∗ any (rowM gM2 0) c fullShare)
      ⊢ iprop((∀ w w' w'', (has wbM c fullShare (wb m c) ∗ has ccH c fullShare (xh 1 (xs m (pl c 4))) ∗ buf oM c fullShare (ST m c 2) ∗ has (srcM 1) c fullShare (row (am2 m c)) ∗ has (rowM gM2 0) c fullShare (row (am2 m c))) -∗ Q ⟨w, w', w''⟩) -∗ run c (pt23 (F := F) c v2 w0 (k0_pay72 (xh 0 (xs m (pl c 4))) (wb m c))) Q) := by
  unfold pt23 k0_part23_skel
  simp only [semSignalWord, semWaitWord, Prog.lift, Prog.bind_op, Prog.bind_ret, Prog.pure_eq_ret]
  iintro ⟨#HR, Hwb, HdH, Hom, Ham, Hgm⟩ Hk
  iapply (step_ldWhole c z2) $$ HdH; iintro HdH
  iapply (step_ldWhole c z2) $$ Hwb; iintro Hwb
  iapply (step_ldAny c) $$ Hom; iintro %v Hom
  iapply (step_st c (P := ST m c 1) (P' := ST m c 2) (ST_put m c 1 (off5_far c) (w := k0_pay73 (xh 1 (xs m (pl c 4))) (wb m c)) rfl)) $$ Hom; iintro Hom
  iapply (step_ldSrcAny c) $$ Ham; iintro %v0 Ham
  iapply (step_stSrcEq c (a := am2 m c) rfl) $$ Ham; iintro Ham
  iapply (step_ldSrc c) $$ Ham; iintro Ham
  iapply (step_ldRowAny c) $$ Hgm; iintro %v1 Hgm
  iapply (step_stRow c (pay75_eq _)) $$ Hgm; iintro Hgm
  iapply (step_ret c)
  iapply Hk
  isplitl [Hwb]; · iexact Hwb
  isplitl [HdH]; · iexact HdH
  isplitl [Hom]; · iexact Hom
  isplitl [Ham]; · iexact Ham
  iexact Hgm

/-- The second maximum is sent. -/
theorem run_pt24 {v2 w0 w1 : BitVec 32} {Q : _ → sProp 𝕄} :
    iprop(records m K ∗ ows c 17 ∗ tok c (D 25) 0 ∗ tok (pl c 1) (D 41) 0 ∗ tok c (D 26) 0 ∗ tok (pl c 2) (D 42) 0 ∗ any (rowM gM2 1) (pl c 1) fullShare ∗ any (rowM gM2 2) (pl c 2) fullShare ∗ has (srcM 1) c (rest 0) (row (am2 m c)))
      ⊢ iprop((∀ w w', (ows c 19 ∗ crd c (D 25) ∗ crd c (D 26) ∗ has (srcM 1) c (rest 2) (row (am2 m c))) -∗ Q ⟨w, w'⟩) -∗ run c (pt24 (F := F) c v2 w0 w1) Q) := by
  unfold pt24 k0_part24_skel
  simp only [semSignalWord, semWaitWord, Prog.lift, Prog.bind_op, Prog.bind_ret, Prog.pure_eq_ret]
  iintro ⟨#HR, HO, Ht25, Ht41, Ht26, Ht42, Hg1, Hg2, Ham⟩ Hk
  iapply (snd_am1 m K c 1 (by decide) (dev_eq c 1 _ _ (k0_dev18_eq c)) rfl rfl) $$ [HO Ht25 Ht41 Ham Hg1]
  · isplitr; · iexact HR
    isplitl [HO]; · iexact HO
    isplitl [Ht25]; · iexact Ht25
    isplitl [Ht41]; · iexact Ht41
    isplitl [Ham]; · iexact Ham
    iexact Hg1
  iintro ⟨HO, Hk25, Ham⟩
  iapply (snd_am1 m K c 2 (by decide) (dev_eq c 2 _ _ (k0_dev19_eq c)) rfl rfl) $$ [HO Ht26 Ht42 Ham Hg2]
  · isplitr; · iexact HR
    isplitl [HO]; · iexact HO
    isplitl [Ht26]; · iexact Ht26
    isplitl [Ht42]; · iexact Ht42
    isplitl [Ham]; · iexact Ham
    iexact Hg2
  iintro ⟨HO, Hk26, Ham⟩
  iapply (step_ret c)
  iapply Hk
  isplitl [HO]; · iexact HO
  isplitl [Hk25]; · iexact Hk25
  isplitl [Hk26]; · iexact Hk26
  iexact Ham

/-- More sends of the second maximum. -/
theorem run_pt25 {v2 : BitVec 32} {Q : _ → sProp 𝕄} :
    iprop(records m K ∗ ows c 19 ∗ tok c (D 27) 0 ∗ tok (pl c 3) (D 43) 0 ∗ tok c (D 28) 0 ∗ tok (pl c 4) (D 44) 0 ∗ tok c (D 29) 0 ∗ tok (pl c 5) (D 45) 0 ∗ any (rowM gM2 3) (pl c 3) fullShare ∗ any (rowM gM2 4) (pl c 4) fullShare ∗ any (rowM gM2 5) (pl c 5) fullShare ∗ has (srcM 1) c (rest 2) (row (am2 m c)))
      ⊢ iprop((∀ w w' w'', (ows c 22 ∗ crd c (D 27) ∗ crd c (D 28) ∗ crd c (D 29) ∗ has (srcM 1) c (rest 5) (row (am2 m c))) -∗ Q ⟨w, w', w''⟩) -∗ run c (pt25 (F := F) c v2) Q) := by
  unfold pt25 k0_part25_skel
  simp only [semSignalWord, semWaitWord, Prog.lift, Prog.bind_op, Prog.bind_ret, Prog.pure_eq_ret]
  iintro ⟨#HR, HO, Ht27, Ht43, Ht28, Ht44, Ht29, Ht45, Hg3, Hg4, Hg5, Ham⟩ Hk
  iapply (snd_am1 m K c 3 (by decide) (dev_eq c 3 _ _ (k0_dev20_eq c)) rfl rfl) $$ [HO Ht27 Ht43 Ham Hg3]
  · isplitr; · iexact HR
    isplitl [HO]; · iexact HO
    isplitl [Ht27]; · iexact Ht27
    isplitl [Ht43]; · iexact Ht43
    isplitl [Ham]; · iexact Ham
    iexact Hg3
  iintro ⟨HO, Hk27, Ham⟩
  iapply (snd_am1 m K c 4 (by decide) (dev_eq c 4 _ _ (k0_dev21_eq c)) rfl rfl) $$ [HO Ht28 Ht44 Ham Hg4]
  · isplitr; · iexact HR
    isplitl [HO]; · iexact HO
    isplitl [Ht28]; · iexact Ht28
    isplitl [Ht44]; · iexact Ht44
    isplitl [Ham]; · iexact Ham
    iexact Hg4
  iintro ⟨HO, Hk28, Ham⟩
  iapply (snd_am1 m K c 5 (by decide) (dev_eq c 5 _ _ (k0_dev22_eq c)) rfl rfl) $$ [HO Ht29 Ht45 Ham Hg5]
  · isplitr; · iexact HR
    isplitl [HO]; · iexact HO
    isplitl [Ht29]; · iexact Ht29
    isplitl [Ht45]; · iexact Ht45
    isplitl [Ham]; · iexact Ham
    iexact Hg5
  iintro ⟨HO, Hk29, Ham⟩
  iapply (step_ret c)
  iapply Hk
  isplitl [HO]; · iexact HO
  isplitl [Hk27]; · iexact Hk27
  isplitl [Hk28]; · iexact Hk28
  isplitl [Hk29]; · iexact Hk29
  iexact Ham

/-- The last sends of the second maximum. -/
theorem run_pt26 {v2 w0 w1 : BitVec 32} {Q : _ → sProp 𝕄} :
    iprop(records m K ∗ ows c 22 ∗ tok c (D 30) 0 ∗ tok (pl c 6) (D 46) 0 ∗ tok c (D 31) 0 ∗ tok (pl c 7) (D 47) 0 ∗ any (rowM gM2 6) (pl c 6) fullShare ∗ any (rowM gM2 7) (pl c 7) fullShare ∗ has (srcM 1) c (rest 5) (row (am2 m c)))
      ⊢ iprop((∀ w, (ows c 24 ∗ crd c (D 30) ∗ crd c (D 31) ∗ has (srcM 1) c (rest 7) (row (am2 m c))) -∗ Q w) -∗ run c (pt26 (F := F) c v2 w0 w1) Q) := by
  unfold pt26 k0_part26_skel
  simp only [semSignalWord, semWaitWord, Prog.lift, Prog.bind_op, Prog.bind_ret, Prog.pure_eq_ret]
  iintro ⟨#HR, HO, Ht30, Ht46, Ht31, Ht47, Hg6, Hg7, Ham⟩ Hk
  iapply (snd_am1 m K c 6 (by decide) (dev_eq c 6 _ _ (k0_dev23_eq c)) rfl rfl) $$ [HO Ht30 Ht46 Ham Hg6]
  · isplitr; · iexact HR
    isplitl [HO]; · iexact HO
    isplitl [Ht30]; · iexact Ht30
    isplitl [Ht46]; · iexact Ht46
    isplitl [Ham]; · iexact Ham
    iexact Hg6
  iintro ⟨HO, Hk30, Ham⟩
  iapply (snd_am1 m K c 7 (by decide) (dev_eq c 7 _ _ (k0_dev24_eq c)) rfl rfl) $$ [HO Ht31 Ht47 Ham Hg7]
  · isplitr; · iexact HR
    isplitl [HO]; · iexact HO
    isplitl [Ht31]; · iexact Ht31
    isplitl [Ht47]; · iexact Ht47
    isplitl [Ham]; · iexact Ham
    iexact Hg7
  iintro ⟨HO, Hk31, Ham⟩
  iapply (step_ret c)
  iapply Hk
  isplitl [HO]; · iexact HO
  isplitl [Hk30]; · iexact Hk30
  isplitl [Hk31]; · iexact Hk31
  iexact Ham

/-- Four second maxima arrive. -/
theorem run_pt27 {w0 w1 w2 : BitVec 32} {Q : _ → sProp 𝕄} :
    iprop(records m K ∗ ows c 24 ∗ fresh c (D 41) ∗ crd c (D 41) ∗ fresh c (D 42) ∗ crd c (D 42) ∗ fresh c (D 43) ∗ crd c (D 43) ∗ fresh c (D 44) ∗ crd c (D 44))
      ⊢ iprop(((ows c 24 ∗ over c (D 41) ∗ over c (D 42) ∗ over c (D 43) ∗ over c (D 44) ∗ has (rowM gM2 1) c fullShare (row (am2 m (pl c (8 - 1)))) ∗ has (rowM gM2 2) c fullShare (row (am2 m (pl c (8 - 2)))) ∗ has (rowM gM2 3) c fullShare (row (am2 m (pl c (8 - 3)))) ∗ has (rowM gM2 4) c fullShare (row (am2 m (pl c (8 - 4))))) -∗ Q ⟨⟩) -∗ run c (pt27 (F := F) w0 w1 w2) Q) := by
  unfold pt27 k0_part27_skel
  simp only [semSignalWord, semWaitWord, Prog.lift, Prog.bind_op, Prog.bind_ret, Prog.pure_eq_ret]
  iintro ⟨#HR, HO, Hf41, Hc41, Hf42, Hc42, Hf43, Hc43, Hf44, Hc44⟩ Hk
  iapply (step_wait m K c 24 41 rfl rfl rfl (by decide) rfl) $$ [HO Hf41 Hc41]
  · isplitr; · iexact HR
    isplitl [HO]; · iexact HO
    isplitl [Hf41]; · iexact Hf41
    iexact Hc41
  iintro ⟨HO, Ho41, Hp⟩
  ihave Hm1 := (Entails.of_eq (show pay m c (D 41) 0 = has (rowM gM2 1) c fullShare (row (am2 m (pl c (8 - 1)))) from got_amR1 m c 1)) $$ Hp
  iapply (step_wait m K c 24 42 rfl rfl rfl (by decide) rfl) $$ [HO Hf42 Hc42]
  · isplitr; · iexact HR
    isplitl [HO]; · iexact HO
    isplitl [Hf42]; · iexact Hf42
    iexact Hc42
  iintro ⟨HO, Ho42, Hp⟩
  ihave Hm2 := (Entails.of_eq (show pay m c (D 42) 0 = has (rowM gM2 2) c fullShare (row (am2 m (pl c (8 - 2)))) from got_amR1 m c 2)) $$ Hp
  iapply (step_wait m K c 24 43 rfl rfl rfl (by decide) rfl) $$ [HO Hf43 Hc43]
  · isplitr; · iexact HR
    isplitl [HO]; · iexact HO
    isplitl [Hf43]; · iexact Hf43
    iexact Hc43
  iintro ⟨HO, Ho43, Hp⟩
  ihave Hm3 := (Entails.of_eq (show pay m c (D 43) 0 = has (rowM gM2 3) c fullShare (row (am2 m (pl c (8 - 3)))) from got_amR1 m c 3)) $$ Hp
  iapply (step_wait m K c 24 44 rfl rfl rfl (by decide) rfl) $$ [HO Hf44 Hc44]
  · isplitr; · iexact HR
    isplitl [HO]; · iexact HO
    isplitl [Hf44]; · iexact Hf44
    iexact Hc44
  iintro ⟨HO, Ho44, Hp⟩
  ihave Hm4 := (Entails.of_eq (show pay m c (D 44) 0 = has (rowM gM2 4) c fullShare (row (am2 m (pl c (8 - 4)))) from got_amR1 m c 4)) $$ Hp
  iapply (step_ret c)
  iapply Hk
  isplitl [HO]; · iexact HO
  isplitl [Ho41]; · iexact Ho41
  isplitl [Ho42]; · iexact Ho42
  isplitl [Ho43]; · iexact Ho43
  isplitl [Ho44]; · iexact Ho44
  isplitl [Hm1]; · iexact Hm1
  isplitl [Hm2]; · iexact Hm2
  isplitl [Hm3]; · iexact Hm3
  iexact Hm4

/-- The other three arrive. -/
theorem run_pt28 {w0 w1 w2 : BitVec 32} {Q : _ → sProp 𝕄} :
    iprop(records m K ∗ ows c 24 ∗ fresh c (D 45) ∗ crd c (D 45) ∗ fresh c (D 46) ∗ crd c (D 46) ∗ fresh c (D 47) ∗ crd c (D 47))
      ⊢ iprop(((ows c 24 ∗ over c (D 45) ∗ over c (D 46) ∗ over c (D 47) ∗ has (rowM gM2 5) c fullShare (row (am2 m (pl c (8 - 5)))) ∗ has (rowM gM2 6) c fullShare (row (am2 m (pl c (8 - 6)))) ∗ has (rowM gM2 7) c fullShare (row (am2 m (pl c (8 - 7))))) -∗ Q ⟨⟩) -∗ run c (pt28 (F := F) w0 w1 w2) Q) := by
  unfold pt28 k0_part28_skel
  simp only [semSignalWord, semWaitWord, Prog.lift, Prog.bind_op, Prog.bind_ret, Prog.pure_eq_ret]
  iintro ⟨#HR, HO, Hf45, Hc45, Hf46, Hc46, Hf47, Hc47⟩ Hk
  iapply (step_wait m K c 24 45 rfl rfl rfl (by decide) rfl) $$ [HO Hf45 Hc45]
  · isplitr; · iexact HR
    isplitl [HO]; · iexact HO
    isplitl [Hf45]; · iexact Hf45
    iexact Hc45
  iintro ⟨HO, Ho45, Hp⟩
  ihave Hm5 := (Entails.of_eq (show pay m c (D 45) 0 = has (rowM gM2 5) c fullShare (row (am2 m (pl c (8 - 5)))) from got_amR1 m c 5)) $$ Hp
  iapply (step_wait m K c 24 46 rfl rfl rfl (by decide) rfl) $$ [HO Hf46 Hc46]
  · isplitr; · iexact HR
    isplitl [HO]; · iexact HO
    isplitl [Hf46]; · iexact Hf46
    iexact Hc46
  iintro ⟨HO, Ho46, Hp⟩
  ihave Hm6 := (Entails.of_eq (show pay m c (D 46) 0 = has (rowM gM2 6) c fullShare (row (am2 m (pl c (8 - 6)))) from got_amR1 m c 6)) $$ Hp
  iapply (step_wait m K c 24 47 rfl rfl rfl (by decide) rfl) $$ [HO Hf47 Hc47]
  · isplitr; · iexact HR
    isplitl [HO]; · iexact HO
    isplitl [Hf47]; · iexact Hf47
    iexact Hc47
  iintro ⟨HO, Ho47, Hp⟩
  ihave Hm7 := (Entails.of_eq (show pay m c (D 47) 0 = has (rowM gM2 7) c fullShare (row (am2 m (pl c (8 - 7)))) from got_amR1 m c 7)) $$ Hp
  iapply (step_ret c)
  iapply Hk
  isplitl [HO]; · iexact HO
  isplitl [Ho45]; · iexact Ho45
  isplitl [Ho46]; · iexact Ho46
  isplitl [Ho47]; · iexact Ho47
  isplitl [Hm5]; · iexact Hm5
  isplitl [Hm6]; · iexact Hm6
  iexact Hm7

end Cert.KernelIdeal.Ring

end
-- ==== Proof.Run4.lean ====
/-

The run's second quantising, the ends of its sends, and the acknowledgements.

-/
module

public import proofs.«01_k».proof.Proof.Run3

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 48 → ℕ) (c : Dev nD)

/-- The second table is whole; the block opposite is quantised with the larger maximum, and block 0 again if the maximum grew. -/
theorem run_pt29  {Q : _ → sProp 𝕄} :
    iprop(records m K ∗ has (rowM gM2 0) c fullShare (row (am2 m c)) ∗ has (rowM gM2 1) c fullShare (row (am2 m (pl c (8 - 1)))) ∗ has (rowM gM2 2) c fullShare (row (am2 m (pl c (8 - 2)))) ∗ has (rowM gM2 3) c fullShare (row (am2 m (pl c (8 - 3)))) ∗ has (rowM gM2 4) c fullShare (row (am2 m (pl c (8 - 4)))) ∗ has (rowM gM2 5) c fullShare (row (am2 m (pl c (8 - 5)))) ∗ has (rowM gM2 6) c fullShare (row (am2 m (pl c (8 - 6)))) ∗ has (rowM gM2 7) c fullShare (row (am2 m (pl c (8 - 7)))) ∗ buf oM c fullShare (ST m c 2))
      ⊢ iprop((∀ w, (⌜w = 1#1 ↔ upd m c ∧ far c ≠ 1⌝ ∗ has gM2 c fullShare (T2 m c) ∗ buf oM c fullShare (SE m c 2)) -∗ Q ⟨k0_pay76 (g1 m c) (T2 m c), k0_pay77 (g1 m c) (T2 m c), k0_pay78 (g1 m c) (T2 m c), w⟩) -∗ run c (pt29 (F := F) c (farw c) (g1 m c)) Q) := by
  unfold pt29 k0_part29_skel
  simp (config := {zeta := false, zetaHave := false}) only [dite_eq_ite, semSignalWord, semWaitWord, Prog.lift, Prog.bind_op, Prog.bind_ret, Prog.pure_eq_ret]
  iintro ⟨#HR, Hgm, Hm1, Hm2, Hm3, Hm4, Hm5, Hm6, Hm7, Hom⟩ Hk
  ihave Hom := (buf_mono (P' := SD m c 0) (ST_all m c)) $$ Hom
  ihave Hgm := (rows2 m c) $$ [Hgm Hm1 Hm2 Hm3 Hm4 Hm5 Hm6 Hm7]
  · isplitl [Hgm]; · iexact Hgm
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    iexact Hm7
  iapply (step_ldWhole c z3) $$ Hgm; iintro Hgm
  iapply (step_rmw c (P := SD m c 0) (P' := SD m c 1) (SD_put m c 0 (by decide) (off4_far c) (pay79_q m c))) $$ Hom; iintro Hom
  iapply (step_rmw c (P := SD m c 1) (P' := SD m c 2) (SD_put m c 1 (by decide) (off5_far c) (pay80_q m c))) $$ Hom; iintro Hom
  ihave Hom := (buf_mono (P' := SE m c 0) (SD_all m c)) $$ Hom
  extract_lets a0 b0 e0 f0 d0 b1 e1 f1 d1 j1
  have hd0 : d0 = 1#1 ↔ upd m c ∧ far c ≠ 0 := farw_and c 0 _
  have hd1 : d1 = 1#1 ↔ upd m c ∧ far c ≠ 1 := farw_and c 1 _
  clear_value d0 d1
  iapply (cond_E m c 0 0 2 rfl rfl (C := d0 = 1#1) (k := j1 ⟨⟩) hd0 (pay81_q m c) (pay82_q m c) (o₁ := ![0, 0]) rfl (o₂ := ![256, 0]) rfl) $$ Hom; iintro Hom
  dsimp only [j1]
  iapply (step_ret c)
  iapply Hk
  isplitr; · ipureintro; exact hd1
  isplitl [Hgm]; · iexact Hgm
  iexact Hom

/-- The other blocks are quantised again if the maximum grew. -/
theorem run_pt30 {d1 : BitVec 1} (hd1 : d1 = 1#1 ↔ upd m c ∧ far c ≠ 1) {Q : _ → sProp 𝕄} :
    iprop(records m K ∗ ows c 24 ∗ fresh c (D 2) ∗ crd c (D 2) ∗ buf oM c fullShare (SE m c 2))
      ⊢ iprop(((ows c 24 ∗ over c (D 2) ∗ any xM c (piece 0) ∗ buf oM c fullShare (SE m c 16)) -∗ Q ⟨⟩) -∗ run c (pt30 (F := F) (farw c) (g1 m c) (k0_pay76 (g1 m c) (T2 m c)) (k0_pay77 (g1 m c) (T2 m c)) (k0_pay78 (g1 m c) (T2 m c)) d1) Q) := by
  unfold pt30 k0_part30_skel
  simp (config := {zeta := false, zetaHave := false}) only [dite_eq_ite, semSignalWord, semWaitWord, Prog.lift, Prog.bind_op, Prog.bind_ret, Prog.pure_eq_ret]
  iintro ⟨#HR, HO, Hf2, Hc2, Hom⟩ Hk
  extract_lets a2 b2 e2 f2 d2 b3 e3 f3 d3 b4 e4 f4 d4 b5 e5 f5 d5 b6 e6 f6 d6 b7 e7 f7 d7 s1 s2 s3 s4 j7 j6 j5 j4 j3 j2 j1
  have hd2 : d2 = 1#1 ↔ upd m c ∧ far c ≠ 2 := farw_and c 2 _
  have hd3 : d3 = 1#1 ↔ upd m c ∧ far c ≠ 3 := farw_and c 3 _
  have hd4 : d4 = 1#1 ↔ upd m c ∧ far c ≠ 4 := farw_and c 4 _
  have hd5 : d5 = 1#1 ↔ upd m c ∧ far c ≠ 5 := farw_and c 5 _
  have hd6 : d6 = 1#1 ↔ upd m c ∧ far c ≠ 6 := farw_and c 6 _
  have hd7 : d7 = 1#1 ↔ upd m c ∧ far c ≠ 7 := farw_and c 7 _
  clear_value d2 d3 d4 d5 d6 d7
  iapply (cond_E m c 1 2 4 rfl rfl (C := d1 = 1#1) (k := j1 ⟨⟩) hd1 (pay83_q m c) (pay84_q m c) (o₁ := ![512, 0]) rfl (o₂ := ![768, 0]) rfl) $$ Hom; iintro Hom
  dsimp only [j1]
  iapply (cond_E m c 2 4 6 rfl rfl (C := d2 = 1#1) (k := j2 ⟨⟩) hd2 (pay85_q m c) (pay86_q m c) (o₁ := ![1024, 0]) rfl (o₂ := ![1280, 0]) rfl) $$ Hom; iintro Hom
  dsimp only [j2]
  iapply (cond_E m c 3 6 8 rfl rfl (C := d3 = 1#1) (k := j3 ⟨⟩) hd3 (pay87_q m c) (pay88_q m c) (o₁ := ![1536, 0]) rfl (o₂ := ![1792, 0]) rfl) $$ Hom; iintro Hom
  dsimp only [j3]
  iapply (cond_E m c 4 8 10 rfl rfl (C := d4 = 1#1) (k := j4 ⟨⟩) hd4 (pay89_q m c) (pay90_q m c) (o₁ := ![2048, 0]) rfl (o₂ := ![2304, 0]) rfl) $$ Hom; iintro Hom
  dsimp only [j4]
  iapply (cond_E m c 5 10 12 rfl rfl (C := d5 = 1#1) (k := j5 ⟨⟩) hd5 (pay91_q m c) (pay92_q m c) (o₁ := ![2560, 0]) rfl (o₂ := ![2816, 0]) rfl) $$ Hom; iintro Hom
  dsimp only [j5]
  iapply (cond_E m c 6 12 14 rfl rfl (C := d6 = 1#1) (k := j6 ⟨⟩) hd6 (pay93_q m c) (pay94_q m c) (o₁ := ![3072, 0]) rfl (o₂ := ![3328, 0]) rfl) $$ Hom; iintro Hom
  dsimp only [j6]
  iapply (cond_E m c 7 14 16 rfl rfl (C := d7 = 1#1) (k := j7 ⟨⟩) hd7 (pay95_q m c) (pay96_q m c) (o₁ := ![3584, 0]) rfl (o₂ := ![3840, 0]) rfl) $$ Hom; iintro Hom
  dsimp only [j7]
  iapply (step_wait m K c 24 2 rfl rfl rfl (by decide) rfl) $$ [HO Hf2 Hc2]
  · isplitr; · iexact HR
    isplitl [HO]; · iexact HO
    isplitl [Hf2]; · iexact Hf2
    iexact Hc2
  iintro ⟨HO, Ho2, Hp⟩
  ihave Hp := (Entails.of_eq (got2 m c)) $$ Hp
  icases Hp with ⟨Hs2, -⟩
  iapply (step_ret c)
  iapply Hk
  isplitl [HO]; · iexact HO
  isplitl [Ho2]; · iexact Ho2
  isplitl [Hs2]; · iexact Hs2
  iexact Hom

/-- Sends of this device are over. -/
theorem run_pt31  {Q : _ → sProp 𝕄} :
    iprop(records m K ∗ ows c 24 ∗ fresh c (D 3) ∗ crd c (D 3) ∗ fresh c (D 4) ∗ crd c (D 4) ∗ fresh c (D 5) ∗ crd c (D 5) ∗ fresh c (D 10) ∗ crd c (D 10))
      ⊢ iprop(((ows c 24 ∗ over c (D 3) ∗ any (slotM cwM 0) c (piece 0) ∗ over c (D 4) ∗ any (slotM cwM 1) c (piece 0) ∗ over c (D 5) ∗ any (halfM cwM 0) c (piece 0) ∗ over c (D 10) ∗ any xM c (piece 1)) -∗ Q ⟨⟩) -∗ run c (pt31 (F := F)) Q) := by
  unfold pt31 k0_part31_skel
  simp only [semSignalWord, semWaitWord, Prog.lift, Prog.bind_op, Prog.bind_ret, Prog.pure_eq_ret]
  iintro ⟨#HR, HO, Hf3, Hc3, Hf4, Hc4, Hf5, Hc5, Hf10, Hc10⟩ Hk
  iapply (step_wait m K c 24 3 rfl rfl rfl (by decide) rfl) $$ [HO Hf3 Hc3]
  · isplitr; · iexact HR
    isplitl [HO]; · iexact HO
    isplitl [Hf3]; · iexact Hf3
    iexact Hc3
  iintro ⟨HO, Ho3, Hp⟩
  ihave Hp := (Entails.of_eq (got3 m c)) $$ Hp
  icases Hp with ⟨Hs3, -⟩
  iapply (step_wait m K c 24 4 rfl rfl rfl (by decide) rfl) $$ [HO Hf4 Hc4]
  · isplitr; · iexact HR
    isplitl [HO]; · iexact HO
    isplitl [Hf4]; · iexact Hf4
    iexact Hc4
  iintro ⟨HO, Ho4, Hp⟩
  ihave Hp := (Entails.of_eq (got4 m c)) $$ Hp
  icases Hp with ⟨Hs4, -⟩
  iapply (step_wait m K c 24 5 rfl rfl rfl (by decide) rfl) $$ [HO Hf5 Hc5]
  · isplitr; · iexact HR
    isplitl [HO]; · iexact HO
    isplitl [Hf5]; · iexact Hf5
    iexact Hc5
  iintro ⟨HO, Ho5, Hp⟩
  ihave Hp := (Entails.of_eq (got5 m c)) $$ Hp
  icases Hp with ⟨Hs5, -⟩
  iapply (step_wait m K c 24 10 rfl rfl rfl (by decide) rfl) $$ [HO Hf10 Hc10]
  · isplitr; · iexact HR
    isplitl [HO]; · iexact HO
    isplitl [Hf10]; · iexact Hf10
    iexact Hc10
  iintro ⟨HO, Ho10, Hp⟩
  ihave Hp := (Entails.of_eq (got10 m c)) $$ Hp
  icases Hp with ⟨Hs10, -⟩
  iapply (step_ret c)
  iapply Hk
  isplitl [HO]; · iexact HO
  isplitl [Ho3]; · iexact Ho3
  isplitl [Hs3]; · iexact Hs3
  isplitl [Ho4]; · iexact Ho4
  isplitl [Hs4]; · iexact Hs4
  isplitl [Ho5]; · iexact Ho5
  isplitl [Hs5]; · iexact Hs5
  isplitl [Ho10]; · iexact Ho10
  iexact Hs10

/-- Sends of this device are over. -/
theorem run_pt32  {Q : _ → sProp 𝕄} :
    iprop(records m K ∗ ows c 24 ∗ fresh c (D 11) ∗ crd c (D 11) ∗ fresh c (D 12) ∗ crd c (D 12) ∗ fresh c (D 13) ∗ crd c (D 13) ∗ fresh c (D 18) ∗ crd c (D 18))
      ⊢ iprop(((ows c 24 ∗ over c (D 11) ∗ any (slotM ccM 0) c (piece 0) ∗ over c (D 12) ∗ any (slotM ccM 1) c (piece 0) ∗ over c (D 13) ∗ any (halfM ccM 1) c (piece 0) ∗ over c (D 18) ∗ any (srcM 0) c (piece 0)) -∗ Q ⟨⟩) -∗ run c (pt32 (F := F)) Q) := by
  unfold pt32 k0_part32_skel
  simp only [semSignalWord, semWaitWord, Prog.lift, Prog.bind_op, Prog.bind_ret, Prog.pure_eq_ret]
  iintro ⟨#HR, HO, Hf11, Hc11, Hf12, Hc12, Hf13, Hc13, Hf18, Hc18⟩ Hk
  iapply (step_wait m K c 24 11 rfl rfl rfl (by decide) rfl) $$ [HO Hf11 Hc11]
  · isplitr; · iexact HR
    isplitl [HO]; · iexact HO
    isplitl [Hf11]; · iexact Hf11
    iexact Hc11
  iintro ⟨HO, Ho11, Hp⟩
  ihave Hp := (Entails.of_eq (got11 m c)) $$ Hp
  icases Hp with ⟨Hs11, -⟩
  iapply (step_wait m K c 24 12 rfl rfl rfl (by decide) rfl) $$ [HO Hf12 Hc12]
  · isplitr; · iexact HR
    isplitl [HO]; · iexact HO
    isplitl [Hf12]; · iexact Hf12
    iexact Hc12
  iintro ⟨HO, Ho12, Hp⟩
  ihave Hp := (Entails.of_eq (got12 m c)) $$ Hp
  icases Hp with ⟨Hs12, -⟩
  iapply (step_wait m K c 24 13 rfl rfl rfl (by decide) rfl) $$ [HO Hf13 Hc13]
  · isplitr; · iexact HR
    isplitl [HO]; · iexact HO
    isplitl [Hf13]; · iexact Hf13
    iexact Hc13
  iintro ⟨HO, Ho13, Hp⟩
  ihave Hp := (Entails.of_eq (got13 m c)) $$ Hp
  icases Hp with ⟨Hs13, -⟩
  iapply (step_wait m K c 24 18 rfl rfl rfl (by decide) rfl) $$ [HO Hf18 Hc18]
  · isplitr; · iexact HR
    isplitl [HO]; · iexact HO
    isplitl [Hf18]; · iexact Hf18
    iexact Hc18
  iintro ⟨HO, Ho18, Hp⟩
  ihave Hs18 := (Entails.of_eq (show pay m c (D 18) 0 = (any (srcM 0) c (piece 0) : sProp 𝕄) from got_amS0 m c 1 (by decide))) $$ Hp
  iapply (step_ret c)
  iapply Hk
  isplitl [HO]; · iexact HO
  isplitl [Ho11]; · iexact Ho11
  isplitl [Hs11]; · iexact Hs11
  isplitl [Ho12]; · iexact Ho12
  isplitl [Hs12]; · iexact Hs12
  isplitl [Ho13]; · iexact Ho13
  isplitl [Hs13]; · iexact Hs13
  isplitl [Ho18]; · iexact Ho18
  iexact Hs18

/-- Sends of this device are over. -/
theorem run_pt33  {Q : _ → sProp 𝕄} :
    iprop(records m K ∗ ows c 24 ∗ fresh c (D 19) ∗ crd c (D 19) ∗ fresh c (D 20) ∗ crd c (D 20) ∗ fresh c (D 21) ∗ crd c (D 21) ∗ fresh c (D 22) ∗ crd c (D 22))
      ⊢ iprop(((ows c 24 ∗ over c (D 19) ∗ any (srcM 0) c (piece 1) ∗ over c (D 20) ∗ any (srcM 0) c (piece 2) ∗ over c (D 21) ∗ any (srcM 0) c (piece 3) ∗ over c (D 22) ∗ any (srcM 0) c (piece 4)) -∗ Q ⟨⟩) -∗ run c (pt33 (F := F)) Q) := by
  unfold pt33 k0_part33_skel
  simp only [semSignalWord, semWaitWord, Prog.lift, Prog.bind_op, Prog.bind_ret, Prog.pure_eq_ret]
  iintro ⟨#HR, HO, Hf19, Hc19, Hf20, Hc20, Hf21, Hc21, Hf22, Hc22⟩ Hk
  iapply (step_wait m K c 24 19 rfl rfl rfl (by decide) rfl) $$ [HO Hf19 Hc19]
  · isplitr; · iexact HR
    isplitl [HO]; · iexact HO
    isplitl [Hf19]; · iexact Hf19
    iexact Hc19
  iintro ⟨HO, Ho19, Hp⟩
  ihave Hs19 := (Entails.of_eq (show pay m c (D 19) 0 = (any (srcM 0) c (piece 1) : sProp 𝕄) from got_amS0 m c 2 (by decide))) $$ Hp
  iapply (step_wait m K c 24 20 rfl rfl rfl (by decide) rfl) $$ [HO Hf20 Hc20]
  · isplitr; · iexact HR
    isplitl [HO]; · iexact HO
    isplitl [Hf20]; · iexact Hf20
    iexact Hc20
  iintro ⟨HO, Ho20, Hp⟩
  ihave Hs20 := (Entails.of_eq (show pay m c (D 20) 0 = (any (srcM 0) c (piece 2) : sProp 𝕄) from got_amS0 m c 3 (by decide))) $$ Hp
  iapply (step_wait m K c 24 21 rfl rfl rfl (by decide) rfl) $$ [HO Hf21 Hc21]
  · isplitr; · iexact HR
    isplitl [HO]; · iexact HO
    isplitl [Hf21]; · iexact Hf21
    iexact Hc21
  iintro ⟨HO, Ho21, Hp⟩
  ihave Hs21 := (Entails.of_eq (show pay m c (D 21) 0 = (any (srcM 0) c (piece 3) : sProp 𝕄) from got_amS0 m c 4 (by decide))) $$ Hp
  iapply (step_wait m K c 24 22 rfl rfl rfl (by decide) rfl) $$ [HO Hf22 Hc22]
  · isplitr; · iexact HR
    isplitl [HO]; · iexact HO
    isplitl [Hf22]; · iexact Hf22
    iexact Hc22
  iintro ⟨HO, Ho22, Hp⟩
  ihave Hs22 := (Entails.of_eq (show pay m c (D 22) 0 = (any (srcM 0) c (piece 4) : sProp 𝕄) from got_amS0 m c 5 (by decide))) $$ Hp
  iapply (step_ret c)
  iapply Hk
  isplitl [HO]; · iexact HO
  isplitl [Ho19]; · iexact Ho19
  isplitl [Hs19]; · iexact Hs19
  isplitl [Ho20]; · iexact Ho20
  isplitl [Hs20]; · iexact Hs20
  isplitl [Ho21]; · iexact Ho21
  isplitl [Hs21]; · iexact Hs21
  isplitl [Ho22]; · iexact Ho22
  iexact Hs22

/-- Sends of this device are over. -/
theorem run_pt34  {Q : _ → sProp 𝕄} :
    iprop(records m K ∗ ows c 24 ∗ fresh c (D 23) ∗ crd c (D 23) ∗ fresh c (D 24) ∗ crd c (D 24) ∗ fresh c (D 25) ∗ crd c (D 25))
      ⊢ iprop(((ows c 24 ∗ over c (D 23) ∗ any (srcM 0) c (piece 5) ∗ over c (D 24) ∗ any (srcM 0) c (piece 6) ∗ over c (D 25) ∗ any (srcM 1) c (piece 0)) -∗ Q ⟨⟩) -∗ run c (pt34 (F := F)) Q) := by
  unfold pt34 k0_part34_skel
  simp only [semSignalWord, semWaitWord, Prog.lift, Prog.bind_op, Prog.bind_ret, Prog.pure_eq_ret]
  iintro ⟨#HR, HO, Hf23, Hc23, Hf24, Hc24, Hf25, Hc25⟩ Hk
  iapply (step_wait m K c 24 23 rfl rfl rfl (by decide) rfl) $$ [HO Hf23 Hc23]
  · isplitr; · iexact HR
    isplitl [HO]; · iexact HO
    isplitl [Hf23]; · iexact Hf23
    iexact Hc23
  iintro ⟨HO, Ho23, Hp⟩
  ihave Hs23 := (Entails.of_eq (show pay m c (D 23) 0 = (any (srcM 0) c (piece 5) : sProp 𝕄) from got_amS0 m c 6 (by decide))) $$ Hp
  iapply (step_wait m K c 24 24 rfl rfl rfl (by decide) rfl) $$ [HO Hf24 Hc24]
  · isplitr; · iexact HR
    isplitl [HO]; · iexact HO
    isplitl [Hf24]; · iexact Hf24
    iexact Hc24
  iintro ⟨HO, Ho24, Hp⟩
  ihave Hs24 := (Entails.of_eq (show pay m c (D 24) 0 = (any (srcM 0) c (piece 6) : sProp 𝕄) from got_amS0 m c 7 (by decide))) $$ Hp
  iapply (step_wait m K c 24 25 rfl rfl rfl (by decide) rfl) $$ [HO Hf25 Hc25]
  · isplitr; · iexact HR
    isplitl [HO]; · iexact HO
    isplitl [Hf25]; · iexact Hf25
    iexact Hc25
  iintro ⟨HO, Ho25, Hp⟩
  ihave Hs25 := (Entails.of_eq (show pay m c (D 25) 0 = (any (srcM 1) c (piece 0) : sProp 𝕄) from got_amS1 m c 1 (by decide))) $$ Hp
  iapply (step_ret c)
  iapply Hk
  isplitl [HO]; · iexact HO
  isplitl [Ho23]; · iexact Ho23
  isplitl [Hs23]; · iexact Hs23
  isplitl [Ho24]; · iexact Ho24
  isplitl [Hs24]; · iexact Hs24
  isplitl [Ho25]; · iexact Ho25
  iexact Hs25

/-- Sends of this device are over. -/
theorem run_pt35  {Q : _ → sProp 𝕄} :
    iprop(records m K ∗ ows c 24 ∗ fresh c (D 26) ∗ crd c (D 26) ∗ fresh c (D 27) ∗ crd c (D 27) ∗ fresh c (D 28) ∗ crd c (D 28) ∗ fresh c (D 29) ∗ crd c (D 29))
      ⊢ iprop(((ows c 24 ∗ over c (D 26) ∗ any (srcM 1) c (piece 1) ∗ over c (D 27) ∗ any (srcM 1) c (piece 2) ∗ over c (D 28) ∗ any (srcM 1) c (piece 3) ∗ over c (D 29) ∗ any (srcM 1) c (piece 4)) -∗ Q ⟨⟩) -∗ run c (pt35 (F := F)) Q) := by
  unfold pt35 k0_part35_skel
  simp only [semSignalWord, semWaitWord, Prog.lift, Prog.bind_op, Prog.bind_ret, Prog.pure_eq_ret]
  iintro ⟨#HR, HO, Hf26, Hc26, Hf27, Hc27, Hf28, Hc28, Hf29, Hc29⟩ Hk
  iapply (step_wait m K c 24 26 rfl rfl rfl (by decide) rfl) $$ [HO Hf26 Hc26]
  · isplitr; · iexact HR
    isplitl [HO]; · iexact HO
    isplitl [Hf26]; · iexact Hf26
    iexact Hc26
  iintro ⟨HO, Ho26, Hp⟩
  ihave Hs26 := (Entails.of_eq (show pay m c (D 26) 0 = (any (srcM 1) c (piece 1) : sProp 𝕄) from got_amS1 m c 2 (by decide))) $$ Hp
  iapply (step_wait m K c 24 27 rfl rfl rfl (by decide) rfl) $$ [HO Hf27 Hc27]
  · isplitr; · iexact HR
    isplitl [HO]; · iexact HO
    isplitl [Hf27]; · iexact Hf27
    iexact Hc27
  iintro ⟨HO, Ho27, Hp⟩
  ihave Hs27 := (Entails.of_eq (show pay m c (D 27) 0 = (any (srcM 1) c (piece 2) : sProp 𝕄) from got_amS1 m c 3 (by decide))) $$ Hp
  iapply (step_wait m K c 24 28 rfl rfl rfl (by decide) rfl) $$ [HO Hf28 Hc28]
  · isplitr; · iexact HR
    isplitl [HO]; · iexact HO
    isplitl [Hf28]; · iexact Hf28
    iexact Hc28
  iintro ⟨HO, Ho28, Hp⟩
  ihave Hs28 := (Entails.of_eq (show pay m c (D 28) 0 = (any (srcM 1) c (piece 3) : sProp 𝕄) from got_amS1 m c 4 (by decide))) $$ Hp
  iapply (step_wait m K c 24 29 rfl rfl rfl (by decide) rfl) $$ [HO Hf29 Hc29]
  · isplitr; · iexact HR
    isplitl [HO]; · iexact HO
    isplitl [Hf29]; · iexact Hf29
    iexact Hc29
  iintro ⟨HO, Ho29, Hp⟩
  ihave Hs29 := (Entails.of_eq (show pay m c (D 29) 0 = (any (srcM 1) c (piece 4) : sProp 𝕄) from got_amS1 m c 5 (by decide))) $$ Hp
  iapply (step_ret c)
  iapply Hk
  isplitl [HO]; · iexact HO
  isplitl [Ho26]; · iexact Ho26
  isplitl [Hs26]; · iexact Hs26
  isplitl [Ho27]; · iexact Ho27
  isplitl [Hs27]; · iexact Hs27
  isplitl [Ho28]; · iexact Ho28
  isplitl [Hs28]; · iexact Hs28
  isplitl [Ho29]; · iexact Ho29
  iexact Hs29

/-- The last sends are over; three acknowledgements. -/
theorem run_pt36 {v2 : BitVec 32} {Q : _ → sProp 𝕄} :
    iprop(records m K ∗ ows c 24 ∗ fresh c (D 30) ∗ crd c (D 30) ∗ fresh c (D 31) ∗ crd c (D 31) ∗ tok (pl c 1) (.reg ackS) 1 ∗ tok (pl c 2) (.reg ackS) 2 ∗ tok (pl c 3) (.reg ackS) 3)
      ⊢ iprop(((ows c 27 ∗ over c (D 30) ∗ any (srcM 1) c (piece 5) ∗ over c (D 31) ∗ any (srcM 1) c (piece 6)) -∗ Q ⟨⟩) -∗ run c (pt36 (F := F) c v2) Q) := by
  unfold pt36 k0_part36_skel
  simp only [semSignalWord, semWaitWord, Prog.lift, Prog.bind_op, Prog.bind_ret, Prog.pure_eq_ret]
  iintro ⟨#HR, HO, Hf30, Hc30, Hf31, Hc31, Ha1, Ha2, Ha3⟩ Hk
  iapply (step_wait m K c 24 30 rfl rfl rfl (by decide) rfl) $$ [HO Hf30 Hc30]
  · isplitr; · iexact HR
    isplitl [HO]; · iexact HO
    isplitl [Hf30]; · iexact Hf30
    iexact Hc30
  iintro ⟨HO, Ho30, Hp⟩
  ihave Hs30 := (Entails.of_eq (show pay m c (D 30) 0 = (any (srcM 1) c (piece 5) : sProp 𝕄) from got_amS1 m c 6 (by decide))) $$ Hp
  iapply (step_wait m K c 24 31 rfl rfl rfl (by decide) rfl) $$ [HO Hf31 Hc31]
  · isplitr; · iexact HR
    isplitl [HO]; · iexact HO
    isplitl [Hf31]; · iexact Hf31
    iexact Hc31
  iintro ⟨HO, Ho31, Hp⟩
  ihave Hs31 := (Entails.of_eq (show pay m c (D 31) 0 = (any (srcM 1) c (piece 6) : sProp 𝕄) from got_amS1 m c 7 (by decide))) $$ Hp
  iapply (step_signal m K c 24 rfl 1 ackS 1 rfl rfl (by decide) (dev_eq c 1 _ _ (k0_dev25_eq c))) $$ [HO Ha1]
  · isplitr; · iexact HR
    isplitl [HO]; · iexact HO
    isplitl [Ha1]; · iexact Ha1
    iempintro
  iintro HO
  iapply (step_signal m K c 25 rfl 2 ackS 2 rfl rfl (by decide) (dev_eq c 2 _ _ (k0_dev26_eq c))) $$ [HO Ha2]
  · isplitr; · iexact HR
    isplitl [HO]; · iexact HO
    isplitl [Ha2]; · iexact Ha2
    iempintro
  iintro HO
  iapply (step_signal m K c 26 rfl 3 ackS 3 rfl rfl (by decide) (dev_eq c 3 _ _ (k0_dev27_eq c))) $$ [HO Ha3]
  · isplitr; · iexact HR
    isplitl [HO]; · iexact HO
    isplitl [Ha3]; · iexact Ha3
    iempintro
  iintro HO
  iapply (step_ret c)
  iapply Hk
  isplitl [HO]; · iexact HO
  isplitl [Ho30]; · iexact Ho30
  isplitl [Hs30]; · iexact Hs30
  isplitl [Ho31]; · iexact Ho31
  iexact Hs31

end Cert.KernelIdeal.Ring

end
-- ==== Proof.Run5.lean ====
/-

The whole run of a device.

-/
module

public import proofs.«01_k».proof.Proof.Run4

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The cells of a device before anything arrived, -/
def frs (c : Dev nD) : sProp 𝕄 :=
  iprop(fresh c (D 2) ∗ fresh c (D 3) ∗ fresh c (D 4) ∗ fresh c (D 5) ∗ fresh c (D 6) ∗ fresh c (D 7) ∗ fresh c (D 8) ∗ fresh c (D 9) ∗ fresh c (D 10) ∗ fresh c (D 11) ∗ fresh c (D 12) ∗ fresh c (D 13) ∗ fresh c (D 14) ∗ fresh c (D 15) ∗ fresh c (D 16) ∗ fresh c (D 17) ∗ fresh c (D 18) ∗ fresh c (D 19) ∗ fresh c (D 20) ∗ fresh c (D 21) ∗ fresh c (D 22) ∗ fresh c (D 23) ∗ fresh c (D 24) ∗ fresh c (D 25) ∗ fresh c (D 26) ∗ fresh c (D 27) ∗ fresh c (D 28) ∗ fresh c (D 29) ∗ fresh c (D 30) ∗ fresh c (D 31) ∗ fresh c (D 32) ∗ fresh c (D 33) ∗ fresh c (D 34) ∗ fresh c (D 35) ∗ fresh c (D 36) ∗ fresh c (D 37) ∗ fresh c (D 38) ∗ fresh c (D 39) ∗ fresh c (D 40) ∗ fresh c (D 41) ∗ fresh c (D 42) ∗ fresh c (D 43) ∗ fresh c (D 44) ∗ fresh c (D 45) ∗ fresh c (D 46) ∗ fresh c (D 47) ∗ fresh c (.reg barS) ∗ fresh c (.reg ackS))

/-- and after everything did. -/
def ovs (c : Dev nD) : sProp 𝕄 :=
  iprop(over c (D 2) ∗ over c (D 3) ∗ over c (D 4) ∗ over c (D 5) ∗ over c (D 6) ∗ over c (D 7) ∗ over c (D 8) ∗ over c (D 9) ∗ over c (D 10) ∗ over c (D 11) ∗ over c (D 12) ∗ over c (D 13) ∗ over c (D 14) ∗ over c (D 15) ∗ over c (D 16) ∗ over c (D 17) ∗ over c (D 18) ∗ over c (D 19) ∗ over c (D 20) ∗ over c (D 21) ∗ over c (D 22) ∗ over c (D 23) ∗ over c (D 24) ∗ over c (D 25) ∗ over c (D 26) ∗ over c (D 27) ∗ over c (D 28) ∗ over c (D 29) ∗ over c (D 30) ∗ over c (D 31) ∗ fresh c (D 32) ∗ over c (D 33) ∗ over c (D 34) ∗ over c (D 35) ∗ over c (D 36) ∗ over c (D 37) ∗ over c (D 38) ∗ over c (D 39) ∗ fresh c (D 40) ∗ over c (D 41) ∗ over c (D 42) ∗ over c (D 43) ∗ over c (D 44) ∗ over c (D 45) ∗ over c (D 46) ∗ over c (D 47) ∗ over c (.reg barS) ∗ over c (.reg ackS))

/-- The credits a device starts with. -/
def crs (c : Dev nD) : sProp 𝕄 :=
  iprop(crd c (.reg barS) ∗ crd c (D 6) ∗ crd c (D 7) ∗ crd c (D 8) ∗ crd c (D 9) ∗ crd c (D 14) ∗ crd c (D 15) ∗ crd c (D 16) ∗ crd c (D 17) ∗ crd c (D 33) ∗ crd c (D 34) ∗ crd c (D 35) ∗ crd c (D 36) ∗ crd c (D 37) ∗ crd c (D 38) ∗ crd c (D 39) ∗ crd c (D 41) ∗ crd c (D 42) ∗ crd c (D 43) ∗ crd c (D 44) ∗ crd c (D 45) ∗ crd c (D 46) ∗ crd c (D 47) ∗ crd c (.reg ackS))

/-- The duties of its own sends, -/
def ownToks (c : Dev nD) : sProp 𝕄 :=
  iprop(tok c (D 2) 0 ∗ tok c (D 3) 0 ∗ tok c (D 4) 0 ∗ tok c (D 5) 0 ∗ tok c (D 10) 0 ∗ tok c (D 11) 0 ∗ tok c (D 12) 0 ∗ tok c (D 13) 0 ∗ tok c (D 18) 0 ∗ tok c (D 19) 0 ∗ tok c (D 20) 0 ∗ tok c (D 21) 0 ∗ tok c (D 22) 0 ∗ tok c (D 23) 0 ∗ tok c (D 24) 0 ∗ tok c (D 25) 0 ∗ tok c (D 26) 0 ∗ tok c (D 27) 0 ∗ tok c (D 28) 0 ∗ tok c (D 29) 0 ∗ tok c (D 30) 0 ∗ tok c (D 31) 0)

/-- and those toward the others. -/
def othToks (c : Dev nD) : sProp 𝕄 :=
  iprop(tok (pl c 7) (.reg barS) 1 ∗ tok (pl c 1) (.reg barS) 0 ∗ tok (pl c 1) (D 6) 0 ∗ tok (pl c 7) (D 14) 0 ∗ tok (pl c 1) (D 7) 0 ∗ tok (pl c 7) (D 15) 0 ∗ tok (pl c 1) (D 8) 0 ∗ tok (pl c 7) (D 16) 0 ∗ tok (pl c 1) (D 9) 0 ∗ tok (pl c 7) (D 17) 0 ∗ tok (pl c 1) (D 33) 0 ∗ tok (pl c 2) (D 34) 0 ∗ tok (pl c 3) (D 35) 0 ∗ tok (pl c 4) (D 36) 0 ∗ tok (pl c 5) (D 37) 0 ∗ tok (pl c 6) (D 38) 0 ∗ tok (pl c 7) (D 39) 0 ∗ tok (pl c 1) (D 41) 0 ∗ tok (pl c 2) (D 42) 0 ∗ tok (pl c 3) (D 43) 0 ∗ tok (pl c 4) (D 44) 0 ∗ tok (pl c 5) (D 45) 0 ∗ tok (pl c 6) (D 46) 0 ∗ tok (pl c 7) (D 47) 0 ∗ tok (pl c 1) (.reg ackS) 1 ∗ tok (pl c 2) (.reg ackS) 2 ∗ tok (pl c 3) (.reg ackS) 3 ∗ tok (pl c 4) (.reg ackS) 4 ∗ tok (pl c 5) (.reg ackS) 5 ∗ tok (pl c 6) (.reg ackS) 6 ∗ tok (pl c 7) (.reg ackS) 7)

/-- Its memory at the start, -/
def mem0 (m : (ℓ : Loc nD τ sig) → Buf (Elt F) ℓ) (c : Dev nD) : sProp 𝕄 :=
  iprop(has xM c fullShare (xs m c) ∗ has wM c fullShare (wsv m c) ∗ any oM c fullShare ∗ any cwM c fullShare ∗ any ccM c fullShare ∗ any cwH c fullShare ∗ any ccH c fullShare ∗ any wbM c fullShare ∗ any wsM c fullShare ∗ any amM c fullShare ∗ any gM1 c fullShare ∗ any gM2 c fullShare ∗ semVal ((c : Thread nD τ), D 48) 0)

/-- and at the end. -/
def mem1 (m : (ℓ : Loc nD τ sig) → Buf (Elt F) ℓ) (c : Dev nD) : sProp 𝕄 :=
  iprop(has xM c fullShare (xs m c) ∗ has wM c fullShare (wsv m c) ∗ has oM c fullShare (VE m c 16) ∗ any cwM c fullShare ∗ any ccM c fullShare ∗ any cwH c fullShare ∗ any ccH c fullShare ∗ any wbM c fullShare ∗ any wsM c fullShare ∗ any amM c fullShare ∗ any gM1 c fullShare ∗ any gM2 c fullShare ∗ semVal ((c : Thread nD τ), D 48) 0)

variable (m : (ℓ : Loc nD τ sig) → Buf (Elt F) ℓ) (K : Dev nD × Fin 48 → ℕ) (c : Dev nD)

/-- A part of the program, and what follows it. -/
theorem step_bind {α β : Type} {p : Prog (TpuEff nD τ sig (Elt F) Λ₀ .tc) α} {k : α → Prog (TpuEff nD τ sig (Elt F) Λ₀ .tc) β} {Q : β → sProp 𝕄} :
    run c p (fun x => run c (k x) Q) ⊢ run c (p >>= k) Q := by
  show _ ⊢ wp frame (wpE defs₀ 𝒱₀ c none) Set.univ (p >>= k) Q
  rw [wp_bind]
/-- A full share is what is left before anything was lent, -/
theorem full_rest {sp : Space} {s : Shape} {e : EltTy} (M : Memref sig .tc sp s e) (X : s.Idx → Elt F e) : has M c fullShare X ⊢ has M c (rest 0) X := Entails.rfl
/-- and conversely. -/
theorem rest_full {sp : Space} {s : Shape} {e : EltTy} (M : Memref sig .tc sp s e) (X : s.Idx → Elt F e) : has M c (rest 0) X ⊢ has M c fullShare X := Entails.rfl
/-- The right to write a row of the tables is the two rows. -/
theorem gs_open (t : Dev nD) (d : Fin 8) : gs (F := F) t d ⊢ iprop(any (rowM gM1 d) t fullShare ∗ any (rowM gM2 d) t fullShare) := Entails.rfl
/-- Known contents may be forgotten at any share. -/
theorem rest_any {sp : Space} {s : Shape} {e : EltTy} (M : Memref sig .tc sp s e) (X : s.Idx → Elt F e) (q : PosShare TreeShare) : has M c q X ⊢ any M c q := any_of_has
/-- A buffer back from all loans is held in full. -/
theorem full_any {sp : Space} {s : Shape} {e : EltTy} (M : Memref sig .tc sp s e) : any (F := F) M c (rest 0) ⊢ any (F := F) M c fullShare := Entails.rfl
/-- The wait of the last handshake. -/
theorem semWait_ack {Q : PUnit → sProp 𝕄} {k : PUnit → Prog (TpuEff nD τ sig (Elt F) Λ₀ .tc) PUnit} :
    iprop(records m K ∗ ows c 31 ∗ fresh c (.reg ackS) ∗ crd c (.reg ackS))
      ⊢ iprop(((ows c 31 ∗ over c (.reg ackS)) -∗ run c (k ⟨⟩) Q) -∗ run c (.op (.semWait ackS 7) k) Q) := by
  iintro ⟨#HR, HO, Hf, Hc⟩ Hk
  iapply (step_semWait m K c 31 ackS rfl rfl (by decide)) $$ [HO Hf Hc]
  · isplitr; · iexact HR
    isplitl [HO]; · iexact HO
    isplitl [Hf]; · iexact Hf
    iexact Hc
  iintro ⟨HO, Hf, -⟩
  iapply Hk
  isplitl [HO]; · iexact HO
  iexact Hf

/-- Part 29 for a device's rows of the second table: they make the table, its maximum and the second scale. -/
theorem run_pt29'  {Q : _ → sProp 𝕄} :
    iprop(records m K ∗ has (rowM gM2 0) c fullShare (row (am2 m c)) ∗ has (rowM gM2 1) c fullShare (row (am2 m (pl c (8 - 1)))) ∗ has (rowM gM2 2) c fullShare (row (am2 m (pl c (8 - 2)))) ∗ has (rowM gM2 3) c fullShare (row (am2 m (pl c (8 - 3)))) ∗ has (rowM gM2 4) c fullShare (row (am2 m (pl c (8 - 4)))) ∗ has (rowM gM2 5) c fullShare (row (am2 m (pl c (8 - 5)))) ∗ has (rowM gM2 6) c fullShare (row (am2 m (pl c (8 - 6)))) ∗ has (rowM gM2 7) c fullShare (row (am2 m (pl c (8 - 7)))) ∗ buf oM c fullShare (ST m c 2))
      ⊢ iprop((∀ w, (⌜w = 1#1 ↔ upd m c ∧ far c ≠ 1⌝ ∗ has gM2 c fullShare (T2 m c) ∗ buf oM c fullShare (SE m c 2)) -∗ Q ⟨k0_pay76 (g1 m c) (T2 m c), k0_pay77 (g1 m c) (T2 m c), k0_pay78 (g1 m c) (T2 m c), w⟩) -∗ run c (pt29 (F := F) c (farw c) (k0_pay52 (T1 m c))) Q) := run_pt29 m K c

/-- Part 30: the second pass over the remaining blocks, and the wait for the first send. -/
theorem run_pt30' {d1 : BitVec 1} (hd1 : d1 = 1#1 ↔ upd m c ∧ far c ≠ 1) {Q : _ → sProp 𝕄} :
    iprop(records m K ∗ ows c 24 ∗ fresh c (D 2) ∗ crd c (D 2) ∗ buf oM c fullShare (SE m c 2))
      ⊢ iprop(((ows c 24 ∗ over c (D 2) ∗ any xM c (piece 0) ∗ buf oM c fullShare (SE m c 16)) -∗ Q ⟨⟩) -∗ run c (pt30 (F := F) (farw c) (k0_pay52 (T1 m c)) (k0_pay76 (g1 m c) (T2 m c)) (k0_pay77 (g1 m c) (T2 m c)) (k0_pay78 (g1 m c) (T2 m c)) d1) Q) := run_pt30 m K c hd1

/-- What a device holds near the end of its run. -/
def mid (m : (ℓ : Loc nD τ sig) → Buf (Elt F) ℓ) (c : Dev nD) : sProp 𝕄 :=
  iprop(fresh c (D 32) ∗ fresh c (D 40) ∗ fresh c (.reg ackS) ∗ crd c (.reg ackS) ∗ tok (pl c 7) (.reg ackS) 7 ∗ over c (.reg barS) ∗ semVal ((c : Thread nD τ), D 48) 0 ∗ has wM c fullShare (wsv m c) ∗ any wsM c fullShare ∗ has xM c (rest 2) (xs m c) ∗ over c (D 6) ∗ over c (D 14) ∗ has (slotM ccM 0) c (rest 1) (xs m (pl c 1)) ∗ has (slotM cwM 0) c (rest 1) (xs m (pl c 7)) ∗ over c (D 7) ∗ over c (D 15) ∗ has (slotM cwM 1) c (rest 1) (xs m (pl c 6)) ∗ over c (D 8) ∗ has (slotM ccM 1) c (rest 1) (xs m (pl c 2)) ∗ over c (D 16) ∗ remH c cwM 0 ∗ remH c ccM 1 ∗ has (slotM cwM 2) c (rest 1) (xs m (pl c 5)) ∗ has (slotM ccM 2) c (rest 1) (xs m (pl c 3)) ∗ has (srcM 0) c (rest 7) (row (am1 m c)) ∗ over c (D 33) ∗ over c (D 34) ∗ over c (D 35) ∗ over c (D 36) ∗ over c (D 37) ∗ over c (D 38) ∗ over c (D 39) ∗ has gM1 c fullShare (T1 m c) ∗ over c (D 9) ∗ over c (D 17) ∗ has cwH c fullShare (xh 0 (xs m (pl c 4))) ∗ has wbM c fullShare (wb m c) ∗ has ccH c fullShare (xh 1 (xs m (pl c 4))) ∗ has (srcM 1) c (rest 7) (row (am2 m c)) ∗ over c (D 41) ∗ over c (D 42) ∗ over c (D 43) ∗ over c (D 44) ∗ over c (D 45) ∗ over c (D 46) ∗ over c (D 47) ∗ has gM2 c fullShare (T2 m c) ∗ over c (D 2) ∗ any xM c (piece 0) ∗ buf oM c fullShare (SE m c 16) ∗ over c (D 3) ∗ any (slotM cwM 0) c (piece 0) ∗ over c (D 4) ∗ any (slotM cwM 1) c (piece 0) ∗ over c (D 5) ∗ any (halfM cwM 0) c (piece 0) ∗ over c (D 10) ∗ any xM c (piece 1) ∗ over c (D 11) ∗ any (slotM ccM 0) c (piece 0) ∗ over c (D 12) ∗ any (slotM ccM 1) c (piece 0) ∗ over c (D 13) ∗ any (halfM ccM 1) c (piece 0) ∗ over c (D 18) ∗ any (srcM 0) c (piece 0) ∗ over c (D 19) ∗ any (srcM 0) c (piece 1) ∗ over c (D 20) ∗ any (srcM 0) c (piece 2) ∗ over c (D 21) ∗ any (srcM 0) c (piece 3) ∗ over c (D 22) ∗ any (srcM 0) c (piece 4) ∗ over c (D 23) ∗ any (srcM 0) c (piece 5) ∗ over c (D 24) ∗ any (srcM 0) c (piece 6) ∗ over c (D 25) ∗ any (srcM 1) c (piece 0) ∗ over c (D 26) ∗ any (srcM 1) c (piece 1) ∗ over c (D 27) ∗ any (srcM 1) c (piece 2) ∗ over c (D 28) ∗ any (srcM 1) c (piece 3) ∗ over c (D 29) ∗ any (srcM 1) c (piece 4) ∗ ows c 30 ∗ over c (D 30) ∗ any (srcM 1) c (piece 5) ∗ over c (D 31) ∗ any (srcM 1) c (piece 6))

set_option maxHeartbeats 4000000 in
/-- The run of a device up to its last acknowledgements. -/
theorem run_pt37 {Q : _ → sProp 𝕄} :
    iprop(records m K ∗ ows c 0 ∗ frs (F := F) c ∗ crs (F := F) c ∗ ownToks (F := F) c ∗ othToks (F := F) c ∗ mem0 m c)
      ⊢ iprop((∀ w w', mid m c -∗ Q ⟨c, w, w'⟩) -∗ run c (pt37 (F := F)) Q) := by
  unfold frs crs ownToks othToks mem0
  unfold pt37 k0_part37_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  iintro ⟨#HR, HO, ⟨Hf2, Hf3, Hf4, Hf5, Hf6, Hf7, Hf8, Hf9, Hf10, Hf11, Hf12, Hf13, Hf14, Hf15, Hf16, Hf17, Hf18, Hf19, Hf20, Hf21, Hf22, Hf23, Hf24, Hf25, Hf26, Hf27, Hf28, Hf29, Hf30, Hf31, Hf32, Hf33, Hf34, Hf35, Hf36, Hf37, Hf38, Hf39, Hf40, Hf41, Hf42, Hf43, Hf44, Hf45, Hf46, Hf47, HfB, HfA⟩, ⟨HX51, Hc6, Hc7, Hc8, Hc9, Hc14, Hc15, Hc16, Hc17, Hc33, Hc34, Hc35, Hc36, Hc37, Hc38, Hc39, Hc41, Hc42, Hc43, Hc44, Hc45, Hc46, Hc47, HX74⟩, ⟨Ht2, Ht3, Ht4, Ht5, Ht10, Ht11, Ht12, Ht13, Ht18, Ht19, Ht20, Ht21, Ht22, Ht23, Ht24, Ht25, Ht26, Ht27, Ht28, Ht29, Ht30, Ht31⟩, ⟨HX97, HX98, Ht6, Ht14, Ht7, Ht15, Ht8, Ht16, Ht9, Ht17, Ht33, Ht34, Ht35, Ht36, Ht37, Ht38, Ht39, Ht41, Ht42, Ht43, Ht44, Ht45, Ht46, Ht47, HX121, HX122, HX123, HX124, HX125, HX126, HX127⟩, ⟨HX128, HX129, HX130, HX131, HX132, HX133, HX134, HX135, HX136, HX137, HX138, HX139, HX140⟩⟩ Hk
  ihave Hz := (srcs_split c) $$ HX137
  icases Hz with ⟨HX141, HX142⟩
  ihave Hz := (slots_split c cwM) $$ HX131
  icases Hz with ⟨HX143, HX144, HX145⟩
  ihave Hz := (slots_split c ccM) $$ HX132
  icases Hz with ⟨HX146, HX147, HX148⟩
  ihave Hz := (rows_split c gM1) $$ HX138
  icases Hz with ⟨HX149, HX150, HX151, HX152, HX153, HX154, HX155, HX156⟩
  ihave Hz := (rows_split c gM2) $$ HX139
  icases Hz with ⟨HX157, HX158, HX159, HX160, HX161, HX162, HX163, HX164⟩
  ihave Hz := (full_rest c xM _) $$ HX128
  irename Hz => HX165
  ihave Hz : barR (F := F) c $$ [HX143 HX144 HX145 HX133 HX150 HX158 HX151 HX159 HX152 HX160 HX153 HX161]
  · unfold barR gs
    isplitl [HX143]; · iexact HX143
    isplitl [HX144]; · iexact HX144
    isplitl [HX145]; · iexact HX145
    isplitl [HX133]; · iexact HX133
    isplitl [HX150 HX158]
    · isplitl [HX150]; · iexact HX150
      iexact HX158
    isplitl [HX151 HX159]
    · isplitl [HX151]; · iexact HX151
      iexact HX159
    isplitl [HX152 HX160]
    · isplitl [HX152]; · iexact HX152
      iexact HX160
    isplitl [HX153]; · iexact HX153
    iexact HX161
  irename Hz => HX166
  ihave Hz : barL (F := F) c $$ [HX146 HX147 HX148 HX134 HX154 HX162 HX155 HX163 HX156 HX164]
  · unfold barL gs
    isplitl [HX146]; · iexact HX146
    isplitl [HX147]; · iexact HX147
    isplitl [HX148]; · iexact HX148
    isplitl [HX134]; · iexact HX134
    isplitl [HX154 HX162]
    · isplitl [HX154]; · iexact HX154
      iexact HX162
    isplitl [HX155 HX163]
    · isplitl [HX155]; · iexact HX155
      iexact HX163
    isplitl [HX156]; · iexact HX156
    iexact HX164
  irename Hz => HX167
  iapply (step_bind c)
  iapply (run_pt1 m K c) $$ [HO HX97 HX98 HX166 HX167 HfB HX51 Ht2 Ht6 HX165]
  · isplitr; · iexact HR
    isplitl [HO]; · iexact HO
    isplitl [HX97]; · iexact HX97
    isplitl [HX98]; · iexact HX98
    isplitl [HX166]; · iexact HX166
    isplitl [HX167]; · iexact HX167
    isplitl [HfB]; · iexact HfB
    isplitl [HX51]; · iexact HX51
    isplitl [Ht2]; · iexact Ht2
    isplitl [Ht6]; · iexact Ht6
    iexact HX165
  iintro %w1_0 %w1_1 ⟨HO, HfB, Hc2, HX170, ⟨HX171, HX172, HX173, HX174, HX175⟩, ⟨HX176, HX177, HX178, HX179, HX180, HX181, HX182⟩⟩
  try dsimp only
  iapply (step_bind c)
  iapply (run_pt2 m K c) $$ [HO Ht10 Ht14 HX170 HX171 HX180 HX181 HX182 HX140 HX129 HX136 HX135]
  · isplitr; · iexact HR
    isplitl [HO]; · iexact HO
    isplitl [Ht10]; · iexact Ht10
    isplitl [Ht14]; · iexact Ht14
    isplitl [HX170]; · iexact HX170
    isplitl [HX171]; · iexact HX171
    isplitl [HX180]; · iexact HX180
    isplitl [HX181]; · iexact HX181
    isplitl [HX182]; · iexact HX182
    isplitl [HX140]; · iexact HX140
    isplitl [HX129]; · iexact HX129
    isplitl [HX136]; · iexact HX136
    iexact HX135
  iintro ⟨HO, Hc10, HX185, HX186⟩
  try dsimp only
  iapply (step_bind c)
  iapply (run_pt3 m K c) $$ [HO HX186]
  · isplitr; · iexact HR
    isplitl [HO]; · iexact HO
    iexact HX186
  iintro ⟨HO, HX187⟩
  try dsimp only
  iapply (step_bind c)
  iapply (run_pt4 m K c) $$ [HO HX187]
  · isplitr; · iexact HR
    isplitl [HO]; · iexact HO
    iexact HX187
  iintro ⟨HO, HX188⟩
  try dsimp only
  iapply (step_bind c)
  iapply (run_pt5 m K c) $$ [HO HX188]
  · isplitr; · iexact HR
    isplitl [HO]; · iexact HO
    iexact HX188
  iintro ⟨HO, HX189⟩
  try dsimp only
  iapply (step_bind c)
  iapply (run_pt6 m K c) $$ [HO HX189]
  · isplitr; · iexact HR
    isplitl [HO]; · iexact HO
    iexact HX189
  iintro ⟨HO, HX190⟩
  try dsimp only
  iapply (step_bind c)
  iapply (run_pt7 m K c) $$ [HO HX190]
  · isplitr; · iexact HR
    isplitl [HO]; · iexact HO
    iexact HX190
  iintro ⟨HO, HX191⟩
  try dsimp only
  iapply (step_bind c)
  iapply (run_pt8 m K c) $$ [HO HX191 HX185 HX130]
  · isplitr; · iexact HR
    isplitl [HO]; · iexact HO
    isplitl [HX191]; · iexact HX191
    isplitl [HX185]; · iexact HX185
    iexact HX130
  iintro ⟨HO, ⟨HX140, HX129, HX136⟩, HX192, HX185, HX193⟩
  try dsimp only
  iapply (step_bind c)
  iapply (run_pt9 m K c) $$ [HO Hf6 Hc6 Hf14 Hc14 Ht3 Ht7 HX176]
  · isplitr; · iexact HR
    isplitl [HO]; · iexact HO
    isplitl [Hf6]; · iexact Hf6
    isplitl [Hc6]; · iexact Hc6
    isplitl [Hf14]; · iexact Hf14
    isplitl [Hc14]; · iexact Hc14
    isplitl [Ht3]; · iexact Ht3
    isplitl [Ht7]; · iexact Ht7
    iexact HX176
  iintro ⟨HO, Hf6, Hf14, Hc3, HX198, HX199, HX200, HX201, HX202, HX203⟩
  try dsimp only
  iapply (step_bind c)
  iapply (run_pt10 m K c) $$ [HO Ht11 Ht15 HX200 HX172 HX202 HX203 HX198 HX192 HX193]
  · isplitr; · iexact HR
    isplitl [HO]; · iexact HO
    isplitl [Ht11]; · iexact Ht11
    isplitl [Ht15]; · iexact Ht15
    isplitl [HX200]; · iexact HX200
    isplitl [HX172]; · iexact HX172
    isplitl [HX202]; · iexact HX202
    isplitl [HX203]; · iexact HX203
    isplitl [HX198]; · iexact HX198
    isplitl [HX192]; · iexact HX192
    iexact HX193
  iintro ⟨HO, Hc11, HX206, HX198, HX192, HX207⟩
  try dsimp only
  iapply (step_bind c)
  iapply (run_pt11 m K c) $$ [HO Hf7 Hc7 Ht4 Ht8 HX177]
  · isplitr; · iexact HR
    isplitl [HO]; · iexact HO
    isplitl [Hf7]; · iexact Hf7
    isplitl [Hc7]; · iexact Hc7
    isplitl [Ht4]; · iexact Ht4
    isplitl [Ht8]; · iexact Ht8
    iexact HX177
  iintro ⟨HO, Hf7, Hc4, HX211, HX212⟩
  try dsimp only
  iapply (step_bind c)
  iapply (run_pt12 m K c) $$ [HO Hf15 Hc15 Ht12 Ht16 HX173 HX211 HX192 HX207]
  · isplitr; · iexact HR
    isplitl [HO]; · iexact HO
    isplitl [Hf15]; · iexact Hf15
    isplitl [Hc15]; · iexact Hc15
    isplitl [Ht12]; · iexact Ht12
    isplitl [Ht16]; · iexact Ht16
    isplitl [HX173]; · iexact HX173
    isplitl [HX211]; · iexact HX211
    isplitl [HX192]; · iexact HX192
    iexact HX207
  iintro %w12_0 ⟨HO, Hf15, Hc12, HX216, HX217, HX211, HX192, HX218⟩
  try dsimp only
  iapply (step_bind c)
  iapply (run_pt13 m K c) $$ [HO Hf8 Hc8 HX217 HX192 HX218]
  · isplitr; · iexact HR
    isplitl [HO]; · iexact HO
    isplitl [Hf8]; · iexact Hf8
    isplitl [Hc8]; · iexact Hc8
    isplitl [HX217]; · iexact HX217
    isplitl [HX192]; · iexact HX192
    iexact HX218
  iintro ⟨HO, Hf8, HX220, HX217, HX192, HX221⟩
  try dsimp only
  iapply (step_bind c)
  iapply (run_pt14 m K c) $$ [HO Hf16 Hc16 Ht5 Ht9 Ht13 Ht17 HX178 HX174 HX220 HX192]
  · isplitr; · iexact HR
    isplitl [HO]; · iexact HO
    isplitl [Hf16]; · iexact Hf16
    isplitl [Hc16]; · iexact Hc16
    isplitl [Ht5]; · iexact Ht5
    isplitl [Ht9]; · iexact Ht9
    isplitl [Ht13]; · iexact Ht13
    isplitl [Ht17]; · iexact Ht17
    isplitl [HX178]; · iexact HX178
    isplitl [HX174]; · iexact HX174
    isplitl [HX220]; · iexact HX220
    iexact HX192
  iintro %w14_0 %w14_1 ⟨HO, Hf16, Hc5, Hc13, HX226, HX227, HX228, HX229, HX230, HX192⟩
  try dsimp only
  iapply (step_bind c)
  iapply (run_pt15 m K c rfl) $$ [HX230 HX192 HX221 HX141 HX149]
  · isplitr; · iexact HR
    isplitl [HX230]; · iexact HX230
    isplitl [HX192]; · iexact HX192
    isplitl [HX221]; · iexact HX221
    isplitl [HX141]; · iexact HX141
    iexact HX149
  iintro %w15_0 ⟨HX230, HX192, HX231, HX232, HX149⟩
  try dsimp only
  ihave Hz := (gs_open (pl c 1) 1) $$ HX179
  icases Hz with ⟨HX233, HX234⟩
  ihave Hz := (gs_open (pl c 2) 2) $$ HX201
  icases Hz with ⟨HX235, HX236⟩
  ihave Hz := (gs_open (pl c 3) 3) $$ HX216
  icases Hz with ⟨HX237, HX238⟩
  ihave Hz := (gs_open (pl c 4) 4) $$ HX228
  icases Hz with ⟨HX239, HX240⟩
  ihave Hz := (gs_open (pl c 5) 5) $$ HX212
  icases Hz with ⟨HX241, HX242⟩
  ihave Hz := (gs_open (pl c 6) 6) $$ HX199
  icases Hz with ⟨HX243, HX244⟩
  ihave Hz := (gs_open (pl c 7) 7) $$ HX175
  icases Hz with ⟨HX245, HX246⟩
  ihave Hz := (full_rest c (srcM 0) _) $$ HX232
  irename Hz => HX247
  iapply (step_bind c)
  iapply (run_pt16 m K c) $$ [HO Ht18 Ht33 Ht19 Ht34 HX233 HX235 HX247 HX149]
  · isplitr; · iexact HR
    isplitl [HO]; · iexact HO
    isplitl [Ht18]; · iexact Ht18
    isplitl [Ht33]; · iexact Ht33
    isplitl [Ht19]; · iexact Ht19
    isplitl [Ht34]; · iexact Ht34
    isplitl [HX233]; · iexact HX233
    isplitl [HX235]; · iexact HX235
    isplitl [HX247]; · iexact HX247
    iexact HX149
  iintro %w16_0 %w16_1 %w16_2 ⟨HO, Hc18, Hc19, HX251, HX252⟩
  try dsimp only
  iapply (step_bind c)
  iapply (run_pt17 m K c) $$ [HO Ht20 Ht35 Ht21 Ht36 HX237 HX239 HX251]
  · isplitr; · iexact HR
    isplitl [HO]; · iexact HO
    isplitl [Ht20]; · iexact Ht20
    isplitl [Ht35]; · iexact Ht35
    isplitl [Ht21]; · iexact Ht21
    isplitl [Ht36]; · iexact Ht36
    isplitl [HX237]; · iexact HX237
    isplitl [HX239]; · iexact HX239
    iexact HX251
  iintro %w17_0 %w17_1 ⟨HO, Hc20, Hc21, HX256⟩
  try dsimp only
  iapply (step_bind c)
  iapply (run_pt18 m K c) $$ [HO Ht22 Ht37 Ht23 Ht38 Ht24 Ht39 HX241 HX243 HX245 HX256]
  · isplitr; · iexact HR
    isplitl [HO]; · iexact HO
    isplitl [Ht22]; · iexact Ht22
    isplitl [Ht37]; · iexact Ht37
    isplitl [Ht23]; · iexact Ht23
    isplitl [Ht38]; · iexact Ht38
    isplitl [Ht24]; · iexact Ht24
    isplitl [Ht39]; · iexact Ht39
    isplitl [HX241]; · iexact HX241
    isplitl [HX243]; · iexact HX243
    isplitl [HX245]; · iexact HX245
    iexact HX256
  iintro %w18_0 %w18_1 ⟨HO, Hc22, Hc23, Hc24, HX261⟩
  try dsimp only
  iapply (step_bind c)
  iapply (run_pt19 m K c) $$ [HO Hf33 Hc33 Hf34 Hc34 Hf35 Hc35]
  · isplitr; · iexact HR
    isplitl [HO]; · iexact HO
    isplitl [Hf33]; · iexact Hf33
    isplitl [Hc33]; · iexact Hc33
    isplitl [Hf34]; · iexact Hf34
    isplitl [Hc34]; · iexact Hc34
    isplitl [Hf35]; · iexact Hf35
    iexact Hc35
  iintro %w19_0 ⟨HO, Hf33, Hf34, Hf35, HX265, HX266, HX267⟩
  try dsimp only
  iapply (step_bind c)
  iapply (run_pt20 m K c) $$ [HO Hf36 Hc36 Hf37 Hc37 Hf38 Hc38]
  · isplitr; · iexact HR
    isplitl [HO]; · iexact HO
    isplitl [Hf36]; · iexact Hf36
    isplitl [Hc36]; · iexact Hc36
    isplitl [Hf37]; · iexact Hf37
    isplitl [Hc37]; · iexact Hc37
    isplitl [Hf38]; · iexact Hf38
    iexact Hc38
  iintro ⟨HO, Hf36, Hf37, Hf38, HX271, HX272, HX273⟩
  try dsimp only
  iapply (step_bind c)
  iapply (run_pt21 m K c) $$ [HO Hf39 Hc39 HX265 HX266 HX267 HX271 HX272 HX273 HX252 HX231]
  · isplitr; · iexact HR
    isplitl [HO]; · iexact HO
    isplitl [Hf39]; · iexact Hf39
    isplitl [Hc39]; · iexact Hc39
    isplitl [HX265]; · iexact HX265
    isplitl [HX266]; · iexact HX266
    isplitl [HX267]; · iexact HX267
    isplitl [HX271]; · iexact HX271
    isplitl [HX272]; · iexact HX272
    isplitl [HX273]; · iexact HX273
    isplitl [HX252]; · iexact HX252
    iexact HX231
  iintro ⟨HO, Hf39, HX275, HX276⟩
  try dsimp only
  iapply (step_bind c)
  iapply (run_pt22 m K c) $$ [HO Hf9 Hc9 Hf17 Hc17 HX192 HX276]
  · isplitr; · iexact HR
    isplitl [HO]; · iexact HO
    isplitl [Hf9]; · iexact Hf9
    isplitl [Hc9]; · iexact Hc9
    isplitl [Hf17]; · iexact Hf17
    isplitl [Hc17]; · iexact Hc17
    isplitl [HX192]; · iexact HX192
    iexact HX276
  iintro ⟨HO, Hf9, Hf17, HX192, HX279, HX280, HX281⟩
  try dsimp only
  iapply (step_bind c)
  iapply (run_pt23 m K c) $$ [HX192 HX280 HX281 HX142 HX157]
  · isplitr; · iexact HR
    isplitl [HX192]; · iexact HX192
    isplitl [HX280]; · iexact HX280
    isplitl [HX281]; · iexact HX281
    isplitl [HX142]; · iexact HX142
    iexact HX157
  iintro %w23_0 %w23_1 %w23_2 ⟨HX192, HX280, HX282, HX283, HX284⟩
  try dsimp only
  ihave Hz := (full_rest c (srcM 1) _) $$ HX283
  irename Hz => HX285
  iapply (step_bind c)
  iapply (run_pt24 m K c) $$ [HO Ht25 Ht41 Ht26 Ht42 HX234 HX236 HX285]
  · isplitr; · iexact HR
    isplitl [HO]; · iexact HO
    isplitl [Ht25]; · iexact Ht25
    isplitl [Ht41]; · iexact Ht41
    isplitl [Ht26]; · iexact Ht26
    isplitl [Ht42]; · iexact Ht42
    isplitl [HX234]; · iexact HX234
    isplitl [HX236]; · iexact HX236
    iexact HX285
  iintro %w24_0 %w24_1 ⟨HO, Hc25, Hc26, HX289⟩
  try dsimp only
  iapply (step_bind c)
  iapply (run_pt25 m K c) $$ [HO Ht27 Ht43 Ht28 Ht44 Ht29 Ht45 HX238 HX240 HX242 HX289]
  · isplitr; · iexact HR
    isplitl [HO]; · iexact HO
    isplitl [Ht27]; · iexact Ht27
    isplitl [Ht43]; · iexact Ht43
    isplitl [Ht28]; · iexact Ht28
    isplitl [Ht44]; · iexact Ht44
    isplitl [Ht29]; · iexact Ht29
    isplitl [Ht45]; · iexact Ht45
    isplitl [HX238]; · iexact HX238
    isplitl [HX240]; · iexact HX240
    isplitl [HX242]; · iexact HX242
    iexact HX289
  iintro %w25_0 %w25_1 %w25_2 ⟨HO, Hc27, Hc28, Hc29, HX294⟩
  try dsimp only
  iapply (step_bind c)
  iapply (run_pt26 m K c) $$ [HO Ht30 Ht46 Ht31 Ht47 HX244 HX246 HX294]
  · isplitr; · iexact HR
    isplitl [HO]; · iexact HO
    isplitl [Ht30]; · iexact Ht30
    isplitl [Ht46]; · iexact Ht46
    isplitl [Ht31]; · iexact Ht31
    isplitl [Ht47]; · iexact Ht47
    isplitl [HX244]; · iexact HX244
    isplitl [HX246]; · iexact HX246
    iexact HX294
  iintro %w26_0 ⟨HO, Hc30, Hc31, HX298⟩
  try dsimp only
  iapply (step_bind c)
  iapply (run_pt27 m K c) $$ [HO Hf41 Hc41 Hf42 Hc42 Hf43 Hc43 Hf44 Hc44]
  · isplitr; · iexact HR
    isplitl [HO]; · iexact HO
    isplitl [Hf41]; · iexact Hf41
    isplitl [Hc41]; · iexact Hc41
    isplitl [Hf42]; · iexact Hf42
    isplitl [Hc42]; · iexact Hc42
    isplitl [Hf43]; · iexact Hf43
    isplitl [Hc43]; · iexact Hc43
    isplitl [Hf44]; · iexact Hf44
    iexact Hc44
  iintro ⟨HO, Hf41, Hf42, Hf43, Hf44, HX303, HX304, HX305, HX306⟩
  try dsimp only
  iapply (step_bind c)
  iapply (run_pt28 m K c) $$ [HO Hf45 Hc45 Hf46 Hc46 Hf47 Hc47]
  · isplitr; · iexact HR
    isplitl [HO]; · iexact HO
    isplitl [Hf45]; · iexact Hf45
    isplitl [Hc45]; · iexact Hc45
    isplitl [Hf46]; · iexact Hf46
    isplitl [Hc46]; · iexact Hc46
    isplitl [Hf47]; · iexact Hf47
    iexact Hc47
  iintro ⟨HO, Hf45, Hf46, Hf47, HX310, HX311, HX312⟩
  try dsimp only
  iapply (step_bind c)
  iapply (run_pt29' m K c) $$ [HX284 HX303 HX304 HX305 HX306 HX310 HX311 HX312 HX282]
  · isplitr; · iexact HR
    isplitl [HX284]; · iexact HX284
    isplitl [HX303]; · iexact HX303
    isplitl [HX304]; · iexact HX304
    isplitl [HX305]; · iexact HX305
    isplitl [HX306]; · iexact HX306
    isplitl [HX310]; · iexact HX310
    isplitl [HX311]; · iexact HX311
    isplitl [HX312]; · iexact HX312
    iexact HX282
  iintro %w29_0 ⟨%hd1, HX313, HX314⟩
  try dsimp only
  iapply (step_bind c)
  iapply (run_pt30' m K c hd1) $$ [HO Hf2 Hc2 HX314]
  · isplitr; · iexact HR
    isplitl [HO]; · iexact HO
    isplitl [Hf2]; · iexact Hf2
    isplitl [Hc2]; · iexact Hc2
    iexact HX314
  iintro ⟨HO, Hf2, HX316, HX317⟩
  try dsimp only
  iapply (step_bind c)
  iapply (run_pt31 m K c) $$ [HO Hf3 Hc3 Hf4 Hc4 Hf5 Hc5 Hf10 Hc10]
  · isplitr; · iexact HR
    isplitl [HO]; · iexact HO
    isplitl [Hf3]; · iexact Hf3
    isplitl [Hc3]; · iexact Hc3
    isplitl [Hf4]; · iexact Hf4
    isplitl [Hc4]; · iexact Hc4
    isplitl [Hf5]; · iexact Hf5
    isplitl [Hc5]; · iexact Hc5
    isplitl [Hf10]; · iexact Hf10
    iexact Hc10
  iintro ⟨HO, Hf3, HX319, Hf4, HX321, Hf5, HX323, Hf10, HX325⟩
  try dsimp only
  iapply (step_bind c)
  iapply (run_pt32 m K c) $$ [HO Hf11 Hc11 Hf12 Hc12 Hf13 Hc13 Hf18 Hc18]
  · isplitr; · iexact HR
    isplitl [HO]; · iexact HO
    isplitl [Hf11]; · iexact Hf11
    isplitl [Hc11]; · iexact Hc11
    isplitl [Hf12]; · iexact Hf12
    isplitl [Hc12]; · iexact Hc12
    isplitl [Hf13]; · iexact Hf13
    isplitl [Hc13]; · iexact Hc13
    isplitl [Hf18]; · iexact Hf18
    iexact Hc18
  iintro ⟨HO, Hf11, HX327, Hf12, HX329, Hf13, HX331, Hf18, HX333⟩
  try dsimp only
  iapply (step_bind c)
  iapply (run_pt33 m K c) $$ [HO Hf19 Hc19 Hf20 Hc20 Hf21 Hc21 Hf22 Hc22]
  · isplitr; · iexact HR
    isplitl [HO]; · iexact HO
    isplitl [Hf19]; · iexact Hf19
    isplitl [Hc19]; · iexact Hc19
    isplitl [Hf20]; · iexact Hf20
    isplitl [Hc20]; · iexact Hc20
    isplitl [Hf21]; · iexact Hf21
    isplitl [Hc21]; · iexact Hc21
    isplitl [Hf22]; · iexact Hf22
    iexact Hc22
  iintro ⟨HO, Hf19, HX335, Hf20, HX337, Hf21, HX339, Hf22, HX341⟩
  try dsimp only
  iapply (step_bind c)
  iapply (run_pt34 m K c) $$ [HO Hf23 Hc23 Hf24 Hc24 Hf25 Hc25]
  · isplitr; · iexact HR
    isplitl [HO]; · iexact HO
    isplitl [Hf23]; · iexact Hf23
    isplitl [Hc23]; · iexact Hc23
    isplitl [Hf24]; · iexact Hf24
    isplitl [Hc24]; · iexact Hc24
    isplitl [Hf25]; · iexact Hf25
    iexact Hc25
  iintro ⟨HO, Hf23, HX343, Hf24, HX345, Hf25, HX347⟩
  try dsimp only
  iapply (step_bind c)
  iapply (run_pt35 m K c) $$ [HO Hf26 Hc26 Hf27 Hc27 Hf28 Hc28 Hf29 Hc29]
  · isplitr; · iexact HR
    isplitl [HO]; · iexact HO
    isplitl [Hf26]; · iexact Hf26
    isplitl [Hc26]; · iexact Hc26
    isplitl [Hf27]; · iexact Hf27
    isplitl [Hc27]; · iexact Hc27
    isplitl [Hf28]; · iexact Hf28
    isplitl [Hc28]; · iexact Hc28
    isplitl [Hf29]; · iexact Hf29
    iexact Hc29
  iintro ⟨HO, Hf26, HX349, Hf27, HX351, Hf28, HX353, Hf29, HX355⟩
  try dsimp only
  iapply (step_bind c)
  iapply (run_pt36 m K c) $$ [HO Hf30 Hc30 Hf31 Hc31 HX121 HX122 HX123]
  · isplitr; · iexact HR
    isplitl [HO]; · iexact HO
    isplitl [Hf30]; · iexact Hf30
    isplitl [Hc30]; · iexact Hc30
    isplitl [Hf31]; · iexact Hf31
    isplitl [Hc31]; · iexact Hc31
    isplitl [HX121]; · iexact HX121
    isplitl [HX122]; · iexact HX122
    iexact HX123
  iintro ⟨HO, Hf30, HX358, Hf31, HX360⟩
  try dsimp only
  simp only [semSignalWord, Prog.lift, Prog.bind_op, Prog.bind_ret, Prog.pure_eq_ret]
  iapply (step_signal m K c 27 rfl 4 ackS 4 rfl rfl (by decide) (dev_eq c 4 _ _ (k0_dev28_eq c))) $$ [HO HX124]
  · isplitr; · iexact HR
    isplitl [HO]; · iexact HO
    isplitl [HX124]; · iexact HX124
    iempintro
  iintro HO
  iapply (step_signal m K c 28 rfl 5 ackS 5 rfl rfl (by decide) (dev_eq c 5 _ _ (k0_dev29_eq c))) $$ [HO HX125]
  · isplitr; · iexact HR
    isplitl [HO]; · iexact HO
    isplitl [HX125]; · iexact HX125
    iempintro
  iintro HO
  iapply (step_signal m K c 29 rfl 6 ackS 6 rfl rfl (by decide) (dev_eq c 6 _ _ (k0_dev30_eq c))) $$ [HO HX126]
  · isplitr; · iexact HR
    isplitl [HO]; · iexact HO
    isplitl [HX126]; · iexact HX126
    iempintro
  iintro HO
  iapply (step_ret c)
  iapply Hk
  unfold mid
  isplitl [Hf32]; · iexact Hf32
  isplitl [Hf40]; · iexact Hf40
  isplitl [HfA]; · iexact HfA
  isplitl [HX74]; · iexact HX74
  isplitl [HX127]; · iexact HX127
  isplitl [HfB]; · iexact HfB
  isplitl [HX140]; · iexact HX140
  isplitl [HX129]; · iexact HX129
  isplitl [HX136]; · iexact HX136
  isplitl [HX185]; · iexact HX185
  isplitl [Hf6]; · iexact Hf6
  isplitl [Hf14]; · iexact Hf14
  isplitl [HX206]; · iexact HX206
  isplitl [HX198]; · iexact HX198
  isplitl [Hf7]; · iexact Hf7
  isplitl [Hf15]; · iexact Hf15
  isplitl [HX211]; · iexact HX211
  isplitl [Hf8]; · iexact Hf8
  isplitl [HX217]; · iexact HX217
  isplitl [Hf16]; · iexact Hf16
  isplitl [HX226]; · iexact HX226
  isplitl [HX227]; · iexact HX227
  isplitl [HX229]; · iexact HX229
  isplitl [HX230]; · iexact HX230
  isplitl [HX261]; · iexact HX261
  isplitl [Hf33]; · iexact Hf33
  isplitl [Hf34]; · iexact Hf34
  isplitl [Hf35]; · iexact Hf35
  isplitl [Hf36]; · iexact Hf36
  isplitl [Hf37]; · iexact Hf37
  isplitl [Hf38]; · iexact Hf38
  isplitl [Hf39]; · iexact Hf39
  isplitl [HX275]; · iexact HX275
  isplitl [Hf9]; · iexact Hf9
  isplitl [Hf17]; · iexact Hf17
  isplitl [HX279]; · iexact HX279
  isplitl [HX192]; · iexact HX192
  isplitl [HX280]; · iexact HX280
  isplitl [HX298]; · iexact HX298
  isplitl [Hf41]; · iexact Hf41
  isplitl [Hf42]; · iexact Hf42
  isplitl [Hf43]; · iexact Hf43
  isplitl [Hf44]; · iexact Hf44
  isplitl [Hf45]; · iexact Hf45
  isplitl [Hf46]; · iexact Hf46
  isplitl [Hf47]; · iexact Hf47
  isplitl [HX313]; · iexact HX313
  isplitl [Hf2]; · iexact Hf2
  isplitl [HX316]; · iexact HX316
  isplitl [HX317]; · iexact HX317
  isplitl [Hf3]; · iexact Hf3
  isplitl [HX319]; · iexact HX319
  isplitl [Hf4]; · iexact Hf4
  isplitl [HX321]; · iexact HX321
  isplitl [Hf5]; · iexact Hf5
  isplitl [HX323]; · iexact HX323
  isplitl [Hf10]; · iexact Hf10
  isplitl [HX325]; · iexact HX325
  isplitl [Hf11]; · iexact Hf11
  isplitl [HX327]; · iexact HX327
  isplitl [Hf12]; · iexact Hf12
  isplitl [HX329]; · iexact HX329
  isplitl [Hf13]; · iexact Hf13
  isplitl [HX331]; · iexact HX331
  isplitl [Hf18]; · iexact Hf18
  isplitl [HX333]; · iexact HX333
  isplitl [Hf19]; · iexact Hf19
  isplitl [HX335]; · iexact HX335
  isplitl [Hf20]; · iexact Hf20
  isplitl [HX337]; · iexact HX337
  isplitl [Hf21]; · iexact Hf21
  isplitl [HX339]; · iexact HX339
  isplitl [Hf22]; · iexact Hf22
  isplitl [HX341]; · iexact HX341
  isplitl [Hf23]; · iexact Hf23
  isplitl [HX343]; · iexact HX343
  isplitl [Hf24]; · iexact Hf24
  isplitl [HX345]; · iexact HX345
  isplitl [Hf25]; · iexact Hf25
  isplitl [HX347]; · iexact HX347
  isplitl [Hf26]; · iexact Hf26
  isplitl [HX349]; · iexact HX349
  isplitl [Hf27]; · iexact Hf27
  isplitl [HX351]; · iexact HX351
  isplitl [Hf28]; · iexact Hf28
  isplitl [HX353]; · iexact HX353
  isplitl [Hf29]; · iexact Hf29
  isplitl [HX355]; · iexact HX355
  isplitl [HO]; · iexact HO
  isplitl [Hf30]; · iexact Hf30
  isplitl [HX358]; · iexact HX358
  isplitl [Hf31]; · iexact Hf31
  iexact HX360

end Cert.KernelIdeal.Ring

end
-- ==== Proof.Run6.lean ====
/-

The end of a device's run: its buffers put together again.

-/
module

public import proofs.«01_k».proof.Proof.Run5

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 48 → ℕ) (c : Dev nD)

/-- The run of a device's body. -/
theorem run_body {Q : PUnit → sProp 𝕄} :
    iprop(records m K ∗ ows c 0 ∗ frs (F := F) c ∗ crs (F := F) c ∗ ownToks (F := F) c ∗ othToks (F := F) c ∗ mem0 m c)
      ⊢ iprop(((ows c 31 ∗ ovs (F := F) c ∗ mem1 m c) -∗ Q ⟨⟩) -∗ run c (cc0_body_skel (F := F) xM (Memref.isWhole_whole _) wM (Memref.isWhole_whole _) oM (Memref.isWhole_whole _) cwM (Memref.isWhole_whole _) ccM (Memref.isWhole_whole _) cwH (Memref.isWhole_whole _) ccH (Memref.isWhole_whole _) wbM (Memref.isWhole_whole _) wsM (Memref.isWhole_whole _) amM (Memref.isWhole_whole _) gM1 (Memref.isWhole_whole _) gM2 (Memref.isWhole_whole _) cc0_scratch9 cc0_scratch10 cc0_scratch11 cc0_scratch12 cc0_scratch13 cc0_scratch14 cc0_scratch15 cc0_scratch16 cc0_scoped0) Q) := by
  iintro ⟨#HR, H⟩ Hk
  unfold cc0_body_skel
  simp only [k0_part37_eq_skeleton]
  iapply (step_bind c)
  iapply (run_pt37 m K c) $$ [H]
  · isplitr; · iexact HR
    iexact H
  iintro %w %w' Hm
  dsimp only
  unfold mid
  icases Hm with ⟨Hf32, Hf40, HfA, HX74, HX127, HfB, HX140, HX129, HX136, HX185, Hf6, Hf14, HX206, HX198, Hf7, Hf15, HX211, Hf8, HX217, Hf16, HX226, HX227, HX229, HX230, HX261, Hf33, Hf34, Hf35, Hf36, Hf37, Hf38, Hf39, HX275, Hf9, Hf17, HX279, HX192, HX280, HX298, Hf41, Hf42, Hf43, Hf44, Hf45, Hf46, Hf47, HX313, Hf2, HX316, HX317, Hf3, HX319, Hf4, HX321, Hf5, HX323, Hf10, HX325, Hf11, HX327, Hf12, HX329, Hf13, HX331, Hf18, HX333, Hf19, HX335, Hf20, HX337, Hf21, HX339, Hf22, HX341, Hf23, HX343, Hf24, HX345, Hf25, HX347, Hf26, HX349, Hf27, HX351, Hf28, HX353, Hf29, HX355, HO, Hf30, HX358, Hf31, HX360⟩
  simp only [semSignalWord, semWaitWord, Prog.lift, Prog.bind_op, Prog.bind_ret, Prog.pure_eq_ret]
  iapply (step_signal m K c 30 rfl 7 ackS 7 rfl rfl (by decide) (dev_eq c 7 _ _ (k0_dev31_eq c))) $$ [HO HX127]
  · isplitr; · iexact HR
    isplitl [HO]; · iexact HO
    isplitl [HX127]; · iexact HX127
    iempintro
  iintro HO
  iapply (semWait_ack m K c) $$ [HO HfA HX74]
  · isplitr; · iexact HR
    isplitl [HO]; · iexact HO
    isplitl [HfA]; · iexact HfA
    iexact HX74
  iintro ⟨HO, HfA⟩
  iapply (step_ret c)
  iapply Hk
  ihave Hz := (share_join c 1) $$ [HX325 HX185]
  · isplitl [HX325]; · iexact HX325
    iexact HX185
  irename Hz => HX170
  ihave Hz := (share_join c 0) $$ [HX316 HX170]
  · isplitl [HX316]; · iexact HX316
    iexact HX170
  irename Hz => HX165
  ihave Hz := (rest_full c xM _) $$ HX165
  irename Hz => HX128
  ihave Hz := (any_of_has) $$ HX198
  irename Hz => HX361
  ihave Hz := (share_join_any c 0) $$ [HX319 HX361]
  · isplitl [HX319]; · iexact HX319
    iexact HX361
  irename Hz => HX362
  ihave Hz := (full_any c (slotM cwM 0)) $$ HX362
  irename Hz => HX143
  ihave Hz := (any_of_has) $$ HX211
  irename Hz => HX363
  ihave Hz := (share_join_any c 0) $$ [HX321 HX363]
  · isplitl [HX321]; · iexact HX321
    iexact HX363
  irename Hz => HX364
  ihave Hz := (full_any c (slotM cwM 1)) $$ HX364
  irename Hz => HX144
  ihave Hz := (any_of_has) $$ HX229
  irename Hz => HX365
  ihave Hz := (half_back c cwM 0) $$ [HX323 HX226 HX365]
  · isplitl [HX323]; · iexact HX323
    isplitl [HX226]; · iexact HX226
    iexact HX365
  irename Hz => HX145
  ihave Hz := (slots_join c cwM) $$ [HX143 HX144 HX145]
  · isplitl [HX143]; · iexact HX143
    isplitl [HX144]; · iexact HX144
    iexact HX145
  irename Hz => HX131
  ihave Hz := (any_of_has) $$ HX206
  irename Hz => HX366
  ihave Hz := (share_join_any c 0) $$ [HX327 HX366]
  · isplitl [HX327]; · iexact HX327
    iexact HX366
  irename Hz => HX367
  ihave Hz := (full_any c (slotM ccM 0)) $$ HX367
  irename Hz => HX146
  ihave Hz := (any_of_has) $$ HX217
  irename Hz => HX368
  ihave Hz := (share_join_any c 0) $$ [HX329 HX368]
  · isplitl [HX329]; · iexact HX329
    iexact HX368
  irename Hz => HX369
  ihave Hz := (full_any c (slotM ccM 1)) $$ HX369
  irename Hz => HX147
  ihave Hz := (any_of_has) $$ HX230
  irename Hz => HX370
  ihave Hz := (half_back c ccM 1) $$ [HX331 HX227 HX370]
  · isplitl [HX331]; · iexact HX331
    isplitl [HX227]; · iexact HX227
    iexact HX370
  irename Hz => HX148
  ihave Hz := (slots_join c ccM) $$ [HX146 HX147 HX148]
  · isplitl [HX146]; · iexact HX146
    isplitl [HX147]; · iexact HX147
    iexact HX148
  irename Hz => HX132
  ihave Hz := (any_of_has) $$ HX261
  irename Hz => HX371
  ihave Hz := (share_join_any c 6) $$ [HX345 HX371]
  · isplitl [HX345]; · iexact HX345
    iexact HX371
  irename Hz => HX372
  ihave Hz := (share_join_any c 5) $$ [HX343 HX372]
  · isplitl [HX343]; · iexact HX343
    iexact HX372
  irename Hz => HX373
  ihave Hz := (share_join_any c 4) $$ [HX341 HX373]
  · isplitl [HX341]; · iexact HX341
    iexact HX373
  irename Hz => HX374
  ihave Hz := (share_join_any c 3) $$ [HX339 HX374]
  · isplitl [HX339]; · iexact HX339
    iexact HX374
  irename Hz => HX375
  ihave Hz := (share_join_any c 2) $$ [HX337 HX375]
  · isplitl [HX337]; · iexact HX337
    iexact HX375
  irename Hz => HX376
  ihave Hz := (share_join_any c 1) $$ [HX335 HX376]
  · isplitl [HX335]; · iexact HX335
    iexact HX376
  irename Hz => HX377
  ihave Hz := (share_join_any c 0) $$ [HX333 HX377]
  · isplitl [HX333]; · iexact HX333
    iexact HX377
  irename Hz => HX378
  ihave Hz := (full_any c (srcM 0)) $$ HX378
  irename Hz => HX141
  ihave Hz := (any_of_has) $$ HX298
  irename Hz => HX379
  ihave Hz := (share_join_any c 6) $$ [HX360 HX379]
  · isplitl [HX360]; · iexact HX360
    iexact HX379
  irename Hz => HX380
  ihave Hz := (share_join_any c 5) $$ [HX358 HX380]
  · isplitl [HX358]; · iexact HX358
    iexact HX380
  irename Hz => HX381
  ihave Hz := (share_join_any c 4) $$ [HX355 HX381]
  · isplitl [HX355]; · iexact HX355
    iexact HX381
  irename Hz => HX382
  ihave Hz := (share_join_any c 3) $$ [HX353 HX382]
  · isplitl [HX353]; · iexact HX353
    iexact HX382
  irename Hz => HX383
  ihave Hz := (share_join_any c 2) $$ [HX351 HX383]
  · isplitl [HX351]; · iexact HX351
    iexact HX383
  irename Hz => HX384
  ihave Hz := (share_join_any c 1) $$ [HX349 HX384]
  · isplitl [HX349]; · iexact HX349
    iexact HX384
  irename Hz => HX385
  ihave Hz := (share_join_any c 0) $$ [HX347 HX385]
  · isplitl [HX347]; · iexact HX347
    iexact HX385
  irename Hz => HX386
  ihave Hz := (full_any c (srcM 1)) $$ HX386
  irename Hz => HX142
  ihave Hz := (srcs_join c) $$ [HX141 HX142]
  · isplitl [HX141]; · iexact HX141
    iexact HX142
  irename Hz => HX137
  ihave Hz := (any_of_has) $$ HX275
  irename Hz => HX138
  ihave Hz := (any_of_has) $$ HX313
  irename Hz => HX139
  ihave Hz := (any_of_has) $$ HX279
  irename Hz => HX133
  ihave Hz := (any_of_has) $$ HX280
  irename Hz => HX134
  ihave Hz := (any_of_has) $$ HX192
  irename Hz => HX135
  ihave Hz := (has_of_buf (fun Y hY => funext fun i => hY i trivial)) $$ HX317
  irename Hz => HX387
  isplitl [HO]; · iexact HO
  isplitl [Hf2 Hf3 Hf4 Hf5 Hf6 Hf7 Hf8 Hf9 Hf10 Hf11 Hf12 Hf13 Hf14 Hf15 Hf16 Hf17 Hf18 Hf19 Hf20 Hf21 Hf22 Hf23 Hf24 Hf25 Hf26 Hf27 Hf28 Hf29 Hf30 Hf31 Hf32 Hf33 Hf34 Hf35 Hf36 Hf37 Hf38 Hf39 Hf40 Hf41 Hf42 Hf43 Hf44 Hf45 Hf46 Hf47 HfB HfA]
  · unfold ovs
    isplitl [Hf2]; · iexact Hf2
    isplitl [Hf3]; · iexact Hf3
    isplitl [Hf4]; · iexact Hf4
    isplitl [Hf5]; · iexact Hf5
    isplitl [Hf6]; · iexact Hf6
    isplitl [Hf7]; · iexact Hf7
    isplitl [Hf8]; · iexact Hf8
    isplitl [Hf9]; · iexact Hf9
    isplitl [Hf10]; · iexact Hf10
    isplitl [Hf11]; · iexact Hf11
    isplitl [Hf12]; · iexact Hf12
    isplitl [Hf13]; · iexact Hf13
    isplitl [Hf14]; · iexact Hf14
    isplitl [Hf15]; · iexact Hf15
    isplitl [Hf16]; · iexact Hf16
    isplitl [Hf17]; · iexact Hf17
    isplitl [Hf18]; · iexact Hf18
    isplitl [Hf19]; · iexact Hf19
    isplitl [Hf20]; · iexact Hf20
    isplitl [Hf21]; · iexact Hf21
    isplitl [Hf22]; · iexact Hf22
    isplitl [Hf23]; · iexact Hf23
    isplitl [Hf24]; · iexact Hf24
    isplitl [Hf25]; · iexact Hf25
    isplitl [Hf26]; · iexact Hf26
    isplitl [Hf27]; · iexact Hf27
    isplitl [Hf28]; · iexact Hf28
    isplitl [Hf29]; · iexact Hf29
    isplitl [Hf30]; · iexact Hf30
    isplitl [Hf31]; · iexact Hf31
    isplitl [Hf32]; · iexact Hf32
    isplitl [Hf33]; · iexact Hf33
    isplitl [Hf34]; · iexact Hf34
    isplitl [Hf35]; · iexact Hf35
    isplitl [Hf36]; · iexact Hf36
    isplitl [Hf37]; · iexact Hf37
    isplitl [Hf38]; · iexact Hf38
    isplitl [Hf39]; · iexact Hf39
    isplitl [Hf40]; · iexact Hf40
    isplitl [Hf41]; · iexact Hf41
    isplitl [Hf42]; · iexact Hf42
    isplitl [Hf43]; · iexact Hf43
    isplitl [Hf44]; · iexact Hf44
    isplitl [Hf45]; · iexact Hf45
    isplitl [Hf46]; · iexact Hf46
    isplitl [Hf47]; · iexact Hf47
    isplitl [HfB]; · iexact HfB
    iexact HfA
  unfold mem1
  isplitl [HX128]; · iexact HX128
  isplitl [HX129]; · iexact HX129
  isplitl [HX387]; · iexact HX387
  isplitl [HX131]; · iexact HX131
  isplitl [HX132]; · iexact HX132
  isplitl [HX133]; · iexact HX133
  isplitl [HX134]; · iexact HX134
  isplitl [HX135]; · iexact HX135
  isplitl [HX136]; · iexact HX136
  isplitl [HX137]; · iexact HX137
  isplitl [HX138]; · iexact HX138
  isplitl [HX139]; · iexact HX139
  iexact HX140

end Cert.KernelIdeal.Ring

end
-- ==== Proof.Deal.lean ====
/-

The launch's ghost state: every cell's protocol set up, every duty handed to the device that pays it, every credit to
the device that waits.

-/
module

public import proofs.«01_k».proof.Proof.Run6

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- A cell's number is recovered from its semaphore. -/
theorem idx_csem (k : Fin 48) : idx (csem k) = k := by revert k; decide
/-- Different numbers are different cells. -/
theorem kcell_inj : Function.Injective kcell := by
  rintro ⟨c, k⟩ ⟨c', k'⟩ h
  have h1 : c = c' := congrArg (fun g : GSem nD τ sig => g.1.1) h
  have h2 : csem k = csem k' := congrArg Prod.snd h
  have h3 : k = k' := by rw [← idx_csem k, ← idx_csem k', h2]
  rw [h1, h3]
def allCells : Finset (GSem nD τ sig) := Finset.univ.map ⟨kcell, kcell_inj⟩

omit [FloatOps F] in
/-- A family over the 48 cells of a device, written out. -/
theorem fin48_list (Φ : Fin 48 → sProp 𝕄) : bigSep Finset.univ Φ = bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47] Φ :=
  bigSep_univ_eq_bigSepL _ (by decide) (by decide) Φ

/-! ## The duties -/

/-- Every duty of the run: those toward others, then those of a device's own sends. -/
def deals : List Ob := obs ++ [⟨0, D 2, 0⟩, ⟨0, D 3, 0⟩, ⟨0, D 4, 0⟩, ⟨0, D 5, 0⟩, ⟨0, D 10, 0⟩, ⟨0, D 11, 0⟩, ⟨0, D 12, 0⟩, ⟨0, D 13, 0⟩, ⟨0, D 18, 0⟩, ⟨0, D 19, 0⟩, ⟨0, D 20, 0⟩, ⟨0, D 21, 0⟩, ⟨0, D 22, 0⟩, ⟨0, D 23, 0⟩, ⟨0, D 24, 0⟩, ⟨0, D 25, 0⟩, ⟨0, D 26, 0⟩, ⟨0, D 27, 0⟩, ⟨0, D 28, 0⟩, ⟨0, D 29, 0⟩, ⟨0, D 30, 0⟩, ⟨0, D 31, 0⟩]
def dl (j : Fin 53) : Ob := deals.get (j.cast (by decide))
def tokOf (cj : Dev nD × Fin 53) : GSem nD τ sig × ℕ × ℕ := (((cj.1 : Thread nD τ), (dl cj.2).sm), 0, (dl cj.2).duty)
/-- No two duties share both their semaphore and their number. -/
theorem dl_inj : ∀ j j' : Fin 53, ((dl j).sm, (dl j).duty) = ((dl j').sm, (dl j').duty) → j = j' := by decide +kernel
/-- Different duties are different tokens. -/
theorem tokOf_inj : Function.Injective tokOf := by
  rintro ⟨c, j⟩ ⟨c', j'⟩ h
  have h1 : c = c' := congrArg (fun x : GSem nD τ sig × ℕ × ℕ => x.1.1.1) h
  have h2 : j = j' := dl_inj j j' (congrArg (fun x : GSem nD τ sig × ℕ × ℕ => (x.1.2, x.2.2)) h)
  rw [h1, h2]
def allToks : Finset (GSem nD τ sig × ℕ × ℕ) := Finset.univ.map ⟨tokOf, tokOf_inj⟩

def u₀ : UU := (initOf (Pipeline.cells cfgs cellOf_inj) (Pipeline.launchToks cfgs cellOf_inj), (initOf allCells allToks, 1))

/-- The duties at a device's own cells, -/
def toks (c : Dev nD) : sProp 𝕄 := bigSep Finset.univ fun j : Fin 53 => tok c (dl j).sm (dl j).duty
/-- and those it pays. -/
def pays (c : Dev nD) : sProp 𝕄 := bigSep Finset.univ fun j : Fin 53 => tok (pl c (dl j).off) (dl j).sm (dl j).duty

/-- Going around the ring by `d` places. -/
def turn (d : ℕ) : Dev nD ≃ Dev nD where
  toFun c := pl c d
  invFun c := pl c (8 - d % 8)
  left_inv c := by apply Fin.ext; show ((c.val + d) % 8 + (8 - d % 8)) % 8 = c.val; have : c.val < 8 := c.isLt; omega
  right_inv c := by apply Fin.ext; show ((c.val + (8 - d % 8)) % 8 + d) % 8 = c.val; have : c.val < 8 := c.isLt; omega

/-- Each duty's cell from its payer. -/
def turns : Dev nD × Fin 53 ≃ Dev nD × Fin 53 where
  toFun p := (turn (dl p.2).off p.1, p.2)
  invFun p := ((turn (dl p.2).off).symm p.1, p.2)
  left_inv p := Prod.ext ((turn (dl p.2).off).left_inv p.1) rfl
  right_inv p := Prod.ext ((turn (dl p.2).off).right_inv p.1) rfl

omit [FloatOps F] in
/-- Every duty goes to the device that pays it. -/
theorem toks_turn : (bigSep Finset.univ fun c : Dev nD => (toks c : sProp 𝕄)) = bigSep Finset.univ fun c : Dev nD => pays c := by
  unfold toks pays
  rw [← bigSep_univ_prod (fun p : Dev nD × Fin 53 => (tok p.1 (dl p.2).sm (dl p.2).duty : sProp 𝕄)),
    ← bigSep_univ_prod (fun p : Dev nD × Fin 53 => (tok (pl p.1 (dl p.2).off) (dl p.2).sm (dl p.2).duty : sProp 𝕄))]
  exact bigSep_univ_equiv turns (fun p : Dev nD × Fin 53 => (tok p.1 (dl p.2).sm (dl p.2).duty : sProp 𝕄))

omit [FloatOps F] in
/-- The duties a device pays, written out. -/
theorem pays_list (c : Dev nD) : (pays c : sProp 𝕄) = iprop(tok (pl c 7) (.reg barS) 1 ∗ tok (pl c 1) (.reg barS) 0 ∗ tok (pl c 1) (D 6) 0 ∗ tok (pl c 7) (D 14) 0 ∗ tok (pl c 1) (D 7) 0 ∗ tok (pl c 7) (D 15) 0 ∗ tok (pl c 1) (D 8) 0 ∗ tok (pl c 7) (D 16) 0 ∗ tok (pl c 1) (D 9) 0 ∗ tok (pl c 7) (D 17) 0 ∗ tok (pl c 1) (D 33) 0 ∗ tok (pl c 2) (D 34) 0 ∗ tok (pl c 3) (D 35) 0 ∗ tok (pl c 4) (D 36) 0 ∗ tok (pl c 5) (D 37) 0 ∗ tok (pl c 6) (D 38) 0 ∗ tok (pl c 7) (D 39) 0 ∗ tok (pl c 1) (D 41) 0 ∗ tok (pl c 2) (D 42) 0 ∗ tok (pl c 3) (D 43) 0 ∗ tok (pl c 4) (D 44) 0 ∗ tok (pl c 5) (D 45) 0 ∗ tok (pl c 6) (D 46) 0 ∗ tok (pl c 7) (D 47) 0 ∗ tok (pl c 1) (.reg ackS) 1 ∗ tok (pl c 2) (.reg ackS) 2 ∗ tok (pl c 3) (.reg ackS) 3 ∗ tok (pl c 4) (.reg ackS) 4 ∗ tok (pl c 5) (.reg ackS) 5 ∗ tok (pl c 6) (.reg ackS) 6 ∗ tok (pl c 7) (.reg ackS) 7 ∗ tok (pl c 0) (D 2) 0 ∗ tok (pl c 0) (D 3) 0 ∗ tok (pl c 0) (D 4) 0 ∗ tok (pl c 0) (D 5) 0 ∗ tok (pl c 0) (D 10) 0 ∗ tok (pl c 0) (D 11) 0 ∗ tok (pl c 0) (D 12) 0 ∗ tok (pl c 0) (D 13) 0 ∗ tok (pl c 0) (D 18) 0 ∗ tok (pl c 0) (D 19) 0 ∗ tok (pl c 0) (D 20) 0 ∗ tok (pl c 0) (D 21) 0 ∗ tok (pl c 0) (D 22) 0 ∗ tok (pl c 0) (D 23) 0 ∗ tok (pl c 0) (D 24) 0 ∗ tok (pl c 0) (D 25) 0 ∗ tok (pl c 0) (D 26) 0 ∗ tok (pl c 0) (D 27) 0 ∗ tok (pl c 0) (D 28) 0 ∗ tok (pl c 0) (D 29) 0 ∗ tok (pl c 0) (D 30) 0 ∗ tok (pl c 0) (D 31) 0) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52] (by decide) (by decide) _
/-- They are those of its own sends and those toward the others. -/
theorem pays_eq (c : Dev nD) : (pays c : sProp 𝕄) ⊢ iprop(ownToks (F := F) c ∗ othToks (F := F) c) := by
  rw [pays_list, pl_zero]
  unfold ownToks othToks
  iintro ⟨HX4, HX5, Ht6, Ht14, Ht7, Ht15, Ht8, Ht16, Ht9, Ht17, Ht33, Ht34, Ht35, Ht36, Ht37, Ht38, Ht39, Ht41, Ht42, Ht43, Ht44, Ht45, Ht46, Ht47, HX28, HX29, HX30, HX31, HX32, HX33, HX34, Ht2, Ht3, Ht4, Ht5, Ht10, Ht11, Ht12, Ht13, Ht18, Ht19, Ht20, Ht21, Ht22, Ht23, Ht24, Ht25, Ht26, Ht27, Ht28, Ht29, Ht30, Ht31⟩
  isplitl [Ht2 Ht3 Ht4 Ht5 Ht10 Ht11 Ht12 Ht13 Ht18 Ht19 Ht20 Ht21 Ht22 Ht23 Ht24 Ht25 Ht26 Ht27 Ht28 Ht29 Ht30 Ht31]
  · isplitl [Ht2]; · iexact Ht2
    isplitl [Ht3]; · iexact Ht3
    isplitl [Ht4]; · iexact Ht4
    isplitl [Ht5]; · iexact Ht5
    isplitl [Ht10]; · iexact Ht10
    isplitl [Ht11]; · iexact Ht11
    isplitl [Ht12]; · iexact Ht12
    isplitl [Ht13]; · iexact Ht13
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Ht27]; · iexact Ht27
    isplitl [Ht28]; · iexact Ht28
    isplitl [Ht29]; · iexact Ht29
    isplitl [Ht30]; · iexact Ht30
    iexact Ht31
  isplitl [HX4]; · iexact HX4
  isplitl [HX5]; · iexact HX5
  isplitl [Ht6]; · iexact Ht6
  isplitl [Ht14]; · iexact Ht14
  isplitl [Ht7]; · iexact Ht7
  isplitl [Ht15]; · iexact Ht15
  isplitl [Ht8]; · iexact Ht8
  isplitl [Ht16]; · iexact Ht16
  isplitl [Ht9]; · iexact Ht9
  isplitl [Ht17]; · iexact Ht17
  isplitl [Ht33]; · iexact Ht33
  isplitl [Ht34]; · iexact Ht34
  isplitl [Ht35]; · iexact Ht35
  isplitl [Ht36]; · iexact Ht36
  isplitl [Ht37]; · iexact Ht37
  isplitl [Ht38]; · iexact Ht38
  isplitl [Ht39]; · iexact Ht39
  isplitl [Ht41]; · iexact Ht41
  isplitl [Ht42]; · iexact Ht42
  isplitl [Ht43]; · iexact Ht43
  isplitl [Ht44]; · iexact Ht44
  isplitl [Ht45]; · iexact Ht45
  isplitl [Ht46]; · iexact Ht46
  isplitl [Ht47]; · iexact Ht47
  isplitl [HX28]; · iexact HX28
  isplitl [HX29]; · iexact HX29
  isplitl [HX30]; · iexact HX30
  isplitl [HX31]; · iexact HX31
  isplitl [HX32]; · iexact HX32
  isplitl [HX33]; · iexact HX33
  iexact HX34

/-! ## The credits -/

/-- What all devices together owe a cell is the number of payments to it in the list, times their amount. -/
theorem sum_owed (c : Dev nD) (sm : SemLoc sig) (l : List Ob) :
    ∑ d : Dev nD, owed d l ((c : Thread nD τ), sm) () = l.countP (fun o => decide (o.sm = sm)) * amt sm := by
  induction l with
  | nil => simp [owed]
  | cons o l ih =>
    have h : ∀ d : Dev nD, owed d (o :: l) ((c : Thread nD τ), sm) () = owed d l ((c : Thread nD τ), sm) () + (if pl d o.off = c then (if o.sm = sm then amt sm else 0) else 0) := by
      intro d
      rw [owed, Pi.add_apply, Finsupp.add_apply, tallyAt_apply]
      congr 1
      by_cases h1 : pl d o.off = c
      · by_cases h2 : o.sm = sm
        · rw [if_pos ⟨by rw [h1, h2], rfl⟩, if_pos h1, if_pos h2, h2]
        · rw [if_neg (fun h => h2 (congrArg Prod.snd h.1).symm), if_pos h1, if_neg h2]
      · rw [if_neg (fun h => h1 (congrArg (fun g : GSem nD τ sig => g.1.1) h.1).symm), if_neg h1]
    rw [Finset.sum_congr rfl fun d _ => h d, Finset.sum_add_distrib, ih, List.countP_cons, Nat.add_mul]
    congr 1
    refine (Equiv.sum_comp (turn o.off) (fun d : Dev nD => if d = c then (if o.sm = sm then amt sm else 0) else 0)).trans ?_
    rw [Finset.sum_ite_eq' Finset.univ c, if_pos (Finset.mem_univ _)]
    by_cases h2 : o.sm = sm
    · simp [h2]
    · simp [h2]

omit [FloatOps F] in
/-- The credit that the launch gives a cell is the one its wait asks for, if every duty of the cell is paid. -/
theorem launch_crd (c : Dev nD) (sm : SemLoc sig) (h : obs.countP (fun o => decide (o.sm = sm)) = (dut sm).card) :
    (cred (tallyOn ((c.tc : Thread nD τ), sm) (launchCredit (Pipeline.owing fun d => ow d 0) 0 ((c.tc : Thread nD τ), sm))) : sProp 𝕄) = crd c sm := by
  show _ = cred _
  refine congrArg _ ?_
  unfold tallyAt
  refine congrArg _ (Finsupp.ext fun u => ?_)
  cases u
  rw [Pipeline.launchCredit_owing, Finsupp.single_eq_same]
  exact (sum_owed c sm obs).trans (by rw [h])

/-- The cells waited on for others' payments. -/
def crL : List (SemLoc sig) := [(.reg barS), (D 6), (D 7), (D 8), (D 9), (D 14), (D 15), (D 16), (D 17), (D 33), (D 34), (D 35), (D 36), (D 37), (D 38), (D 39), (D 41), (D 42), (D 43), (D 44), (D 45), (D 46), (D 47), (.reg ackS)]
/-- The launch gives each device the credits it starts with. -/
theorem crs_of (c : Dev nD) : (Pipeline.launchCred (fun d => ow d 0) c : sProp 𝕄) ⊢ crs (F := F) c := by
  unfold Pipeline.launchCred
  refine BIBase.Entails.trans (bigSep_subset (M := 𝕄) (t := crL.toFinset) (Finset.subset_univ _)) ?_
  rw [bigSep_congr (s := crL.toFinset) (fun sm hsm => launch_crd (F := F) c sm ((by decide : ∀ sm ∈ crL, obs.countP (fun o => decide (o.sm = sm)) = (dut sm).card) sm (List.mem_toFinset.mp hsm))),
    bigSep_eq_bigSepL crL (by decide)]
  exact Entails.of_eq rfl

/-! ## The launch's ghost state -/

variable (m : (ℓ : Loc nD τ sig) → Buf (Elt F) ℓ)

def G (c : Dev nD) : sProp 𝕄 :=
  iprop((bigSep Finset.univ fun k : Fin 48 => roundState ER (Rd m) (kcell (c, k)) 0)
    ∗ (bigSep Finset.univ fun k : Fin 48 => iprop(atPos ER (kcell (c, k)) 0 ∅ 0 ∗ reached ER (kcell (c, k)) 0)) ∗ toks (F := F) c)

/-- The initial resource gives every device its cells' states, positions and tokens. -/
theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 48 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: the DMA semaphores and the acknowledgement semaphore. -/
def osem (k : Fin 48) : SemLoc sig :=
  if h : k.val < 46 then .dma (dm ⟨k.val + 2, by omega⟩) else if k.val = 46 then D 48 else .reg ackS
/-- But for one place, the kernel's own semaphores are the protocol's cells. -/
theorem osem_csem : ∀ k : Fin 48, k ≠ 46 → osem k = csem k := by decide

omit [FloatOps F] in
/-- The only semaphore outside the kernel's own is the barrier. -/
theorem unscoped_eq (c : Dev nD) : (unscopedSems0 c : sProp 𝕄) = semVal ((c : Thread nD τ), .reg barS) 0 := by
  unfold unscopedSems0; rw [bigSep_eq_bigSepL_of_eq [SemLoc.reg barS] (by decide) (by decide)]; rfl

omit [FloatOps F] in
/-- Three parts put in another order. -/
theorem turn3 (A B C : sProp 𝕄) : iprop((A ∗ B) ∗ C) ⊢ iprop((C ∗ B) ∗ A) := by
  iintro ⟨⟨H1, H2⟩, H3⟩
  isplitl [H3 H2]
  · isplitl [H3] <;> iassumption
  iexact H1
omit [FloatOps F] in
/-- The own semaphores are the one that is not used and the cells but the barrier. -/
theorem own_list (c : Dev nD) : (Pipeline.ownSems0 (Ix := Unit) (Name := ℕ) (U := UU) (Lvl := ℕ) (Val := Elt F) (τ := τ) osem c : sProp 𝕄)
    = iprop(semVal ((c : Thread nD τ), D 48) 0 ∗ bigSep (Finset.univ.erase (46 : Fin 48)) fun k => semVal (kcell (c, k)) 0) := by
  unfold Pipeline.ownSems0
  rw [bigSep_erase (Finset.mem_univ (46 : Fin 48)),
    bigSep_congr (s := Finset.univ.erase (46 : Fin 48)) (fun k hk => show (semVal ((c.tc : Thread nD τ), osem k) 0 : sProp 𝕄) = semVal (kcell (c, k)) 0 from by
      rw [osem_csem k (Finset.ne_of_mem_erase hk)]; rfl)]
  rfl
omit [FloatOps F] in
/-- The cells are the barrier and the others. -/
theorem cells_list (c : Dev nD) : (bigSep Finset.univ fun k : Fin 48 => (semVal (kcell (c, k)) 0 : sProp 𝕄))
    = iprop(semVal ((c : Thread nD τ), .reg barS) 0 ∗ bigSep (Finset.univ.erase (46 : Fin 48)) fun k => semVal (kcell (c, k)) 0) := by
  rw [bigSep_erase (Finset.mem_univ (46 : Fin 48))]; rfl
omit [FloatOps F] in
/-- The kernel's own semaphores and the barrier's are the cells and the weight semaphore; -/
theorem sems_open (c : Dev nD) :
    (iprop(Pipeline.ownSems0 (Ix := Unit) (Name := ℕ) (U := UU) (Lvl := ℕ) (Val := Elt F) (τ := τ) osem c ∗ unscopedSems0 c) : sProp 𝕄)
      ⊢ iprop((bigSep Finset.univ fun k : Fin 48 => semVal (kcell (c, k)) 0) ∗ semVal ((c : Thread nD τ), D 48) 0) := by
  rw [own_list, cells_list, unscoped_eq]; exact turn3 _ _ _
omit [FloatOps F] in
/-- and back. -/
theorem sems_shut (c : Dev nD) :
    (iprop((bigSep Finset.univ fun k : Fin 48 => semVal (kcell (c, k)) 0) ∗ semVal ((c : Thread nD τ), D 48) 0) : sProp 𝕄)
      ⊢ iprop(Pipeline.ownSems0 (Ix := Unit) (Name := ℕ) (U := UU) (Lvl := ℕ) (Val := Elt F) (τ := τ) osem c ∗ unscopedSems0 c) := by
  rw [own_list, cells_list, unscoped_eq]; exact turn3 _ _ _

/-- A device's counters at zero and its states become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c ∗ semVal ((c : Thread nD τ), D 48) 0) := by
  unfold G
  iintro ⟨Hos, Hus, Hst, Hat, Htok⟩
  ihave Hv := (sems_open (F := F) c) $$ [Hos Hus]
  · isplitl [Hos] <;> iassumption
  icases Hv with ⟨Hv, Hw⟩
  imod (show iprop((bigSep Finset.univ fun k : Fin 48 => semVal (kcell (c, k)) 0) ∗ bigSep Finset.univ fun k : Fin 48 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hw

/-- The facts of the cells that all devices share. -/
def shared (K : Dev nD × Fin 48 → ℕ) : sProp 𝕄 :=
  iprop((bigSep Finset.univ fun ck => cellInv ER (Rd m) (K ck) (kcell ck)) ∗ (bigSep Finset.univ fun ck => reached ER (kcell ck) 0))
instance shared_persistent (K : Dev nD × Fin 48 → ℕ) : Persistent (shared m K) := by unfold shared; infer_instance

/-- The positions at the start, written out. -/
theorem frs_list (c : Dev nD) : (bigSep Finset.univ fun k : Fin 48 => (atPos ER (kcell (c, k)) 0 ∅ 0 : sProp 𝕄)) = frs (F := F) c :=
  (fin48_list _).trans rfl

/-- What a device has of its own at the start. -/
def mine (c : Dev nD) : sProp 𝕄 := iprop(frs (F := F) c ∗ (ownToks (F := F) c ∗ othToks (F := F) c) ∗ semVal ((c : Thread nD τ), D 48) 0)
def G' (c : Dev nD) : sProp 𝕄 := iprop(∃ K, shared m K ∗ mine (F := F) c)

omit [FloatOps F] in
/-- A fact that may be copied goes to each member of a family. -/
theorem with_shared {I : Type} [DecidableEq I] {S : Finset I} {R : sProp 𝕄} [Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all devices are shared, and each duty's token goes to the device that pays it. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c ∗ semVal ((c : Thread nD τ), D 48) 0) : sProp 𝕄)
      ⊢ bigSep Finset.univ (G' m) := by
  rw [bigSep_sep', bigSep_sep', bigSep_sep', ← bigSep_univ_prod (fun ck : Dev nD × Fin 48 => iprop(∃ κ : ℕ, cellInv ER (Rd m) κ (kcell ck))),
    bigSep_congr (s := Finset.univ) (fun (c : Dev nD) _ => bigSep_sep' Finset.univ (fun k : Fin 48 => (atPos ER (kcell (c, k)) 0 ∅ 0 : sProp 𝕄)) (fun k => reached ER (kcell (c, k)) 0)),
    bigSep_sep', ← bigSep_univ_prod (fun ck : Dev nD × Fin 48 => (reached ER (kcell ck) 0 : sProp 𝕄)), toks_turn]
  iintro ⟨HI, ⟨Hat, #HR⟩, Htk, Hw⟩
  ihave HK := (BI.bigSep_exists_pi Finset.univ (fun (ck : Dev nD × Fin 48) (κ : ℕ) => (cellInv ER (Rd m) κ (kcell ck) : sProp 𝕄))) $$ HI
  icases HK with ⟨%K, #HI⟩
  iapply (with_shared (R := shared m K) (Φ := mine (F := F)) fun c _ => show _ ⊢ G' m c from by unfold G'; iintro ⟨H1, H2⟩; iexists K; isplitl [H1] <;> iassumption)
  isplitr
  · unfold shared; isplitl; · iexact HI
    iexact HR
  · iapply (show iprop((bigSep Finset.univ fun c : Dev nD => bigSep Finset.univ fun k : Fin 48 => (atPos ER (kcell (c, k)) 0 ∅ 0 : sProp 𝕄)) ∗ (bigSep Finset.univ fun c : Dev nD => pays (F := F) c)
        ∗ (bigSep Finset.univ fun c : Dev nD => (semVal ((c : Thread nD τ), D 48) 0 : sProp 𝕄))) ⊢ bigSep Finset.univ fun c : Dev nD => mine (F := F) c from by
      rw [← bigSep_sep', ← bigSep_sep']
      exact bigSep_mono fun c _ => show iprop((bigSep Finset.univ fun k : Fin 48 => (atPos ER (kcell (c, k)) 0 ∅ 0 : sProp 𝕄)) ∗ pays (F := F) c ∗ semVal ((c : Thread nD τ), D 48) 0) ⊢ mine (F := F) c from by
        unfold mine
        rw [frs_list]
        iintro ⟨H1, H2, H3⟩
        isplitl [H1]; · iexact H1
        isplitl [H2]; · iapply (pays_eq (F := F) c); iexact H2
        iexact H3)
    isplitl [Hat]; · iexact Hat
    isplitl [Htk]; · iexact Htk
    iexact Hw

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The cells closed again -/

/-- The round at which a cell ends: two cells have none. -/
def endR (k : Fin 48) : ℕ := if k = 30 ∨ k = 38 then 0 else 1
/-- The positions at the end, written out. -/
theorem ovs_list (c : Dev nD) : (bigSep Finset.univ fun k : Fin 48 => (atPos ER (kcell (c, k)) (endR k) ∅ 0 : sProp 𝕄)) = ovs (F := F) c :=
  (fin48_list _).trans rfl
/-- From its last round on, a cell has no duties. -/
theorem endR_duties (c : Dev nD) (k : Fin 48) : ∀ r, endR k ≤ r → (Rd (F := F) m).duties (kcell (c, k)) r = ∅ := by
  intro r hr
  by_cases h : k = 30 ∨ k = 38
  · show (if r = 0 ∧ _ then dut (csem k) else ∅) = ∅
    have : dut (csem k) = ∅ := by rcases h with rfl | rfl <;> decide
    rw [this]; exact ite_self _
  · exact duties_later m _ r (by unfold endR at hr; rw [if_neg h] at hr; exact hr)

/-- A cell at its last round gives back its counter at zero. -/
theorem close_one (K : Dev nD × Fin 48 → ℕ) (c : Dev nD) (k : Fin 48) :
    iprop(records m K ∗ atPos ER (kcell (c, k)) (endR k) ∅ 0) ⊢ (|={Set.univ}=> semVal (kcell (c, k)) 0 : sProp 𝕄) := by
  iintro ⟨#HR, H⟩
  iapply (Rounds.cell_close ER (Rd m) (Set.mem_univ (K (c, k))) (fun h => h) (R := endR k) (endR_duties m c k))
  isplitr
  · ihave HI := (show records m K ⊢ bigSep Finset.univ fun ck => cellInv ER (Rd m) (K ck) (kcell ck) from by unfold records; iintro ⟨H, -, -⟩; iexact H) $$ HR
    iapply (show (bigSep Finset.univ fun ck => (cellInv ER (Rd m) (K ck) (kcell ck) : sProp 𝕄)) ⊢ cellInv ER (Rd m) (K (c, k)) (kcell (c, k)) from
      bigSep_elim (Φ := fun ck => cellInv ER (Rd m) (K ck) (kcell ck)) (Finset.mem_univ (c, k)))
    iexact HI
  iexact H

/-- All cells of a device do. -/
theorem close_all (K : Dev nD × Fin 48 → ℕ) (c : Dev nD) :
    iprop(records m K ∗ ovs (F := F) c) ⊢ (|={Set.univ}=> bigSep Finset.univ fun k : Fin 48 => semVal (kcell (c, k)) 0 : sProp 𝕄) := by
  rw [← ovs_list]
  exact (with_shared (R := records m K) fun k _ => close_one m K c k).trans (bigSep_fupd _ _)

end Cert.KernelIdeal.Ring

end
-- ==== Proof.Whole.lean ====
/-

The whole run: the pipeline around the body, launched on the ring of eight devices.

-/
module

public import proofs.«01_k».proof.Proof.Deal
public import proofs.«01_k».proof.Proof.Gen.KernelIdeal.Frame

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Buffers held whole -/

/-- A whole buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
omit [FloatOps F] in
/-- A memref of a whole buffer at known contents is the buffer at them, -/
theorem has_whole (c : Dev nD) (b : Ref sig .tc) (X : b.ty.Contents (Elt F)) : (has (Memref.whole b) c fullShare X : sProp 𝕄) = stg c b X := by
  unfold has; simp only [Memref.view_whole, View.read_whole, View.set_whole]
omit [FloatOps F] in
/-- which is also how the launch states it. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]
omit [FloatOps F] in
/-- A memref of a whole buffer at any contents is the buffer at some. -/
theorem any_whole (c : Dev nD) (b : Ref sig .tc) :
    (any (F := F) (Memref.whole b) c fullShare : sProp 𝕄) = iprop(∃ f : Buf (Elt F) ((c : Thread nD τ).loc b), (((c : Thread nD τ).loc b) ↦{fullShare} f)) := by
  unfold any; simp only [Memref.view_whole, View.set_whole]

/-! ## The pipeline's data -/

/-- What a device's kernel starts with besides its buffers: its cells, duties and credits, and its columns of `w`. -/
def start (c : Dev nD) : sProp 𝕄 :=
  iprop((∃ K, records m K ∗ mine (F := F) c) ∗ crs (F := F) c ∗ has wM c fullShare (wsv m c))

/-- The scratch buffers. -/
def scratch (c : Dev nD) : sProp 𝕄 := iprop(any cwM c fullShare ∗ any ccM c fullShare ∗ any cwH c fullShare ∗ any ccH c fullShare ∗ any wbM c fullShare ∗ any wsM c fullShare ∗ any amM c fullShare ∗ any gM1 c fullShare ∗ any gM2 c fullShare)

def Φ₀ (c : Dev nD) : sProp 𝕄 := iprop(start m c ∗ scratch (F := F) c)
/-- What it ends with: every counter at zero again and the columns of `w` unchanged. -/
def Φ₁ (c : Dev nD) : sProp 𝕄 :=
  iprop(((bigSep Finset.univ fun k : Fin 48 => semVal (kcell (c, k)) 0) ∗ semVal ((c : Thread nD τ), D 48) 0)
    ∗ has wM c fullShare (wsv m c) ∗ scratch (F := F) c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xs m c
    | ⟨1, _⟩ => VE m c 16
  Φ t := match t with
    | ⟨0, _⟩ => Φ₀ m c
    | ⟨_ + 1, _⟩ => Φ₁ m c
  q _ := fullShare
  owed t := match t with
    | ⟨0, _⟩ => ow c 0
    | ⟨_ + 1, _⟩ => 0

/-- The windows are held in full. -/
theorem share_eq (c : Dev nD) (w : Fin cfg0.W) : (dats m ρ 0 c).share w = fullShare := by unfold Pipeline.Dat.share; split <;> rfl

/-! ## The body -/

abbrev t₀ : Fin cfg0.N := t0_0

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xs m c) ∗ stg c cc0_stg1_0 (VE m c 16))

omit [FloatOps F] in
/-- A family over the two windows, written out. -/
theorem bigSep_W (Φ : Fin cfg0.W → sProp 𝕄) : bigSep Finset.univ Φ = iprop(Φ (0 : Fin 2) ∗ Φ (1 : Fin 2)) := bigSep_W0 Φ

/-- After the run: the cells closed, what is left handed on. -/
theorem body_end (K : Dev nD × Fin 48 → ℕ) (c : Dev nD) :
    iprop(records m K ∗ ows c 31 ∗ ovs (F := F) c ∗ mem1 m c) ⊢ (|={Set.univ}=> bodyPost m ρ c : sProp 𝕄) := by
  iintro ⟨#HR, HO, Hov, Hm⟩
  imod (close_all m K c) $$ [Hov] with Hz
  · isplitr; · iexact HR
    iexact Hov
  imodintro
  unfold mem1 bodyPost Φ₁ scratch
  icases Hm with ⟨Hx, Hw, Ho, Hb0, Hb1, Hb2, Hb3, Hb4, Hb5, Hb6, Hb7, Hb8, Hs⟩
  isplitl [Hz Hs Hw Hb0 Hb1 Hb2 Hb3 Hb4 Hb5 Hb6 Hb7 Hb8]
  · isplitl [Hz Hs]
    · isplitl [Hz]; · iexact Hz
      iexact Hs
    isplitl [Hw]; · iexact Hw
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    iexact Hb8
  isplitl [HO]
  · unfold ows Pipeline.Dat.owesAt Pipeline.owesWithin
    icases HO with ⟨%W, HO⟩
    iexists W
    isplitr; · ipureintro; exact fun _ _ => Or.inl trivial
    iexact HO
  isplitl [Hx]
  · rw [← has_whole]; iexact Hx
  rw [← has_whole]; iexact Ho

/-- The run's end taken into its postcondition. -/
theorem wp_mono_fupd (K : Dev nD × Fin 48 → ℕ) (c : Dev nD) {p : Prog (TpuEff nD τ sig (Elt F) Λ₀ .tc) PUnit} :
    run c p (fun _ => iprop(records m K ∗ ows c 31 ∗ ovs (F := F) c ∗ mem1 m c)) ⊢ wp frame (wpE (defs₀ (F := F)) 𝒱₀ c none) Set.univ p (fun _ => bodyPost m ρ c) := by
  refine BIBase.Entails.trans (wp_mono _ _ _ (fun _ => body_end m ρ K c)) ?_
  exact wp_fupd _ _ _ _ _

set_option maxHeartbeats 1000000 in
/-- The body takes what it starts with to what it ends with. -/
theorem sound_body (c : Dev nD) :
    bodyPre m ρ c ⊢ wp frame (wpE (defs₀ (F := F)) 𝒱₀ c none) Set.univ
      (cc0_body (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scoped0) (fun _ => bodyPost m ρ c) := by
  simp only [cc0_body_eq_skeleton]
  unfold bodyPre Φ₀ start mine scratch
  iintro ⟨⟨⟨⟨%K, #HR, Hf, ⟨Ht1, Ht2⟩, Hs⟩, Hc, Hw⟩, ⟨Hb0, Hb1, Hb2, Hb3, Hb4, Hb5, Hb6, Hb7, Hb8⟩⟩, Ho, ⟨%d0, %g0, %hg0, Hx⟩, ⟨%d1, %g1, %hg1, Hout⟩⟩
  have hx : g0 = xs m c := by rw [hg0]; unfold Pipeline.Dat.before; rw [if_pos (fetch0_0 t₀)]; rfl
  unfold Pipeline.Dat.owesAt Pipeline.owesWithin
  icases Ho with ⟨%W, %hW, HO⟩
  rw [show (dats m ρ 0 c).owed t₀.castSucc = ow c 0 from rfl]
  iapply (wp_mono_fupd m ρ K c)
  iapply (run_body m K c) $$ [HO Hf Hc Ht1 Ht2 Hs Hw Hx Hout Hb0 Hb1 Hb2 Hb3 Hb4 Hb5 Hb6 Hb7 Hb8]
  · isplitr; · iexact HR
    isplitl [HO]; · unfold ows; iexists W; iexact HO
    isplitl [Hf]; · iexact Hf
    isplitl [Hc]; · iexact Hc
    isplitl [Ht1]; · iexact Ht1
    isplitl [Ht2]; · iexact Ht2
    unfold mem0
    isplitl [Hx]; · rw [has_whole]; iexists g0; isplitr; · ipureintro; exact hx
                    iexact Hx
    isplitl [Hw]; · iexact Hw
    isplitl [Hout]; · rw [any_whole]; iexists g1; iexact Hout
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    iexact Hs
  iintro ⟨HO, Hov, Hm⟩
  isplitr; · iexact HR
  isplitl [HO]; · iexact HO
  isplitl [Hov]; · iexact Hov
  iexact Hm

end Cert.KernelIdeal.Ring

end
-- ==== Proof.Launch.lean ====
/-

The whole run: the pipeline around the body, launched on the ring of eight devices.

-/
module

public import proofs.«01_k».proof.Proof.Whole

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

attribute [local irreducible] cc0_body VE xs Φ₀ Φ₁

/-- What the data say at the one point. -/
theorem aft0 (c : Dev nD) : (dats (F := F) m ρ 0 c).after (0 : Fin 2) t₀ = xs m c := rfl
/-- The output window ends at the quantised block. -/
theorem aft1 (c : Dev nD) : (dats (F := F) m ρ 0 c).after (1 : Fin 2) t₀ = VE m c 16 := rfl
/-- What the body starts with, -/
theorem phi0_at (c : Dev nD) : (dats (F := F) m ρ 0 c).Φ t₀.castSucc = Φ₀ m c := rfl
/-- and what it ends with. -/
theorem phi1_at (c : Dev nD) : (dats (F := F) m ρ 0 c).Φ t₀.succ = Φ₁ m c := rfl
/-- The input window is staged in its buffer, -/
theorem stg0_at (c : Dev nD) : (cfg0.win (0 : Fin 2)).stage (cfg0.slots t₀ (0 : Fin 2)) = Memref.whole cc0_stg0_0 := rfl
/-- and the output window in its own. -/
theorem stg1_at (c : Dev nD) : (cfg0.win (1 : Fin 2)).stage (cfg0.slots t₀ (1 : Fin 2)) = Memref.whole cc0_stg1_0 := rfl
/-- Owning the staged input is holding that buffer whole, -/
theorem own0_at (c : Dev nD) (X) : (owns (Ix := Unit) (Name := ℕ) (U := UU) (Lvl := ℕ) (c : Thread nD τ)  ((cfg0.win (0 : Fin 2)).stage (cfg0.slots t₀ (0 : Fin 2))) fullShare X : sProp 𝕄) = stg c cc0_stg0_0 X := owns_whole c cc0_stg0_0 _
/-- and so for the output. -/
theorem own1_at (c : Dev nD) (X) : (owns (Ix := Unit) (Name := ℕ) (U := UU) (Lvl := ℕ) (c : Thread nD τ)  ((cfg0.win (1 : Fin 2)).stage (cfg0.slots t₀ (1 : Fin 2))) fullShare X : sProp 𝕄) = stg c cc0_stg1_0 X := owns_whole c cc0_stg1_0 _

/-- The body called at the one point. -/
theorem bt : (defs₀ (F := F)) .tc cfg0.body (cfg0.bodyArgs t₀ (cfg0.slots t₀)) = cc0_body (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scoped0 := rfl

/-- The body's obligation. -/
theorem body_obligation (c : Dev nD) : Pipeline.BodyObligation (dats (F := F) m ρ 0 c) (defs₀ (F := F)) 𝒱₀ () Set.univ := fun t => by
  rw [fin_N0 t, bigSep_W, bigSep_W]
  have h := sound_body m ρ c
  unfold bodyPre bodyPost at h
  rw [← phi0_at m ρ c, ← phi1_at m ρ c, ← aft0 m ρ c, ← aft1 m ρ c, ← bt (F := F)] at h
  simp only [← own0_at, ← own1_at] at h
  exact h

/-! ## The launch's conditions -/

/-- The scratch buffers are those the launch hands out. -/
theorem scratch_eq (c : Dev nD) : (Pipeline.scopedRest (Ix := Unit) (Name := ℕ) (U := UU) (Lvl := ℕ) (Val := Elt F) cfg0.spec c : sProp 𝕄) = scratch (F := F) c := by
  refine (scopedRest0_eq c).trans ?_
  unfold scratch
  simp only [any_whole]
/-- The only array outside the windows is `w`. -/
theorem rest_list (c : Dev nD) (V : (b : Ref sig .tc) → Buf (Elt F) ((c : Thread nD τ).loc b)) :
    (Pipeline.unscopedRestP (Ix := Unit) (Name := ℕ) (U := UU) (Lvl := ℕ) Pipeline.Prefetch.none cfg0.spec c V : sProp 𝕄) = (((c : Thread nD τ).loc main_arg1) ↦{fullShare} V main_arg1) :=
  (by unfold Pipeline.unscopedRestP; rw [bigSep_eq_bigSepL_of_eq [main_arg1] (by decide) (by decide)]; rfl)

/-- The listed semaphores are the kernel's own. -/
theorem ownSemFacts : Pipeline.OwnSemFacts cfg0.spec osem := by decide +kernel

/-- What the launch hands a device gives what its kernel starts with. -/
theorem start_intro (c : Dev nD) :
    iprop(Pipeline.unscopedRestP Pipeline.Prefetch.none cfg0.spec c (fun b => m ((c : Thread nD τ).loc b)) ∗ levAts L lv
        ∗ Pipeline.launchCred (fun d => ow d 0) c ∗ prngReg c (ρ c) ∗ G' m c)
      ⊢ |={Set.univ}=> iprop(start m c ∗ emp) := by
  iintro ⟨Hw, #Hlev, Hcr, -, HG⟩
  ihave Hc := (crs_of (F := F) c) $$ Hcr
  imodintro
  isplitl
  · unfold start G'
    icases HG with ⟨%K, #Hsh, Hm⟩
    isplitl [Hm]
    · iexists K
      isplitr
      · unfold records shared
        icases Hsh with ⟨#H1, #H2⟩
        isplitr; · iexact H1
        isplitr; · iexact H2
        iexact Hlev
      iexact Hm
    isplitl [Hc]; · iexact Hc
    ihave Hw := (Entails.of_eq (rest_list (F := F) c (fun b => m ((c : Thread nD τ).loc b)))) $$ Hw
    rw [has_whole]
    iexists _; isplitr
    · ipureintro; rfl
    iexact Hw
  · iempintro

/-- With the scratch buffers it is what the body starts with. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  rw [scratch_eq]
  iintro ⟨Hs, -, Hr⟩
  isplitl [Hs]; · iexact Hs
  iexact Hr

/-- What the body ends with gives back the counters, `w` and the scratch buffers. -/
theorem phi1_exit (c : Dev nD) :
    (dats m ρ 0 c).Φ (Fin.last cfg0.N) ⊢ iprop((unscopedSems0 c ∗ has wM c fullShare (wsv m c)) ∗ Pipeline.ownSems0 osem c ∗ Pipeline.scopedRest cfg0.spec c) := by
  rw [show (dats m ρ 0 c).Φ (Fin.last cfg0.N) = Φ₁ m c from rfl]
  unfold Φ₁
  rw [scratch_eq]
  iintro ⟨Hz, Hw, Hr⟩
  ihave Hz := (sems_shut (F := F) c) $$ Hz
  icases Hz with ⟨Ho, Hu⟩
  isplitl [Hu Hw]
  · isplitl [Hu] <;> iassumption
  isplitl [Ho]; · iexact Ho
  iexact Hr

/-- The staging copies may be waited for at their levels. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ 0 (by fin_cases w <;> fin_cases s <;> decide)
    · exact (show (levAts L lv : sProp 𝕄) ⊢ MayWait (c : Thread nD τ) _ () 0 from by rw [MayWait_zero]; iintro -; iempintro)

/-- What a device's columns of `w` read at the end. -/
theorem read_w (c : Dev nD) (s' : Phys nD τ sig (Elt F)) :
    iprop(has wM c fullShare (wsv m c) ∗ SI s') ⊢ (iprop(⌜s'.mem.mem ((c : Thread nD τ).loc main_arg1) = m ((c : Thread nD τ).loc main_arg1)⌝ ∗ SI s') : sProp 𝕄) := by
  rw [has_whole]
  iintro ⟨⟨%f, %hf, H⟩, HS⟩
  ihave Hb := (pointsTo_read_all ({0} : Finset (Fin 1)) (fun _ => (c : Thread nD τ).loc main_arg1) (fun _ => f) s') $$ [H HS]
  · isplitl [H]
    · rw [bigSep_singleton]; iexact H
    iexact HS
  icases Hb with ⟨%hb, HS⟩
  isplitr
  · ipureintro; exact (hb 0 (Finset.mem_singleton_self _)).trans hf
  iexact HS

/-! ## The run -/

def finalA (c : Dev nD) (w : Fin cfg0.W) : Buf (Elt F) ((cfg0.win w).arr.view.loc (c : Thread nD τ)) := (dats m ρ 0 c).arrAt w cfg0.N

/-- What the run leaves: the windows' arrays at their final contents, `w` unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

omit [FloatOps F] in
/-- The protocol's part of the resource is owned by itself. -/
theorem own_right (x : UB) : (BI.own (embR (x, (1 : Counters))) : sProp 𝕄) ⊢ BI.own (ER x) := .rfl
omit [FloatOps F] in
/-- An element of both halves of the ghost state, split. -/
theorem own_both (a : UR sig nD τ) (x : UB) : (ownU (a, (x, (1 : Counters))) : sProp 𝕄) ⊢ iprop(BI.own (EP a) ∗ BI.own (ER x)) := by
  iintro Hu
  ihave H := (ownU_pair _ _) $$ Hu
  icases H with ⟨HP, HX⟩
  isplitl [HP]; · iexact HP
  iapply (own_right x); iexact HX

/-- The launch's ghost state, dealt. -/
theorem deal_u : (ownU u₀ : sProp 𝕄) ⊢ |={Set.univ}=> iprop(BI.own (EP (initOf (Pipeline.cells cfgs cellOf_inj) (Pipeline.launchToks cfgs cellOf_inj))) ∗ bigSep Finset.univ (G m)) := by
  unfold u₀
  refine BIBase.Entails.trans (own_both (F := F) _ _) ?_
  iintro ⟨HP, HX⟩
  imod (fund (F := F) m) $$ HX with HG
  imodintro
  isplitl [HP] <;> iassumption

/-- What a device reads at the end. -/
theorem read_end (c : Dev nD) (s' : Phys nD τ sig (Elt F)) : iprop(iprop(unscopedSems0 c ∗ has wM c fullShare (wsv m c)) ∗ emp ∗ SI s')
    ⊢ (|={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI s') : sProp 𝕄) := by
  iintro ⟨⟨Hu, Hw⟩, -, HSI⟩
  ihave Hb := (read_w m c s') $$ [Hw HSI]
  · isplitl [Hw] <;> iassumption
  icases Hb with ⟨%hw, HSI⟩
  ihave %hs := (tcUnscoped_read c s') $$ [Hu HSI]
  · isplitl [Hu] <;> iassumption
  imodintro
  isplitr; · ipureintro; exact ⟨hs, hw⟩
  iexact HSI

set_option maxRecDepth 8000 in
set_option maxHeartbeats 400000 in
/-- On the ring of eight devices, from any memory with zero counters, every fair run of the kernel ends, each device's
    result holding what the body leaves, the arguments unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := fun d => ow d 0) (howed₀ := fun _ => rfl) (howedN := fun _ => rfl)
    (L := L) (lv := lv) (hL := L_of_ne) (hwaits := waits m ρ)
    (G := G m) (G' := G' m) (u₀ := u₀)
    (hu₀ := deal_u m)
    (hglob := glob m)
    (hA := fun _ _ => rfl) (hpf := fun _ k => k.elim0)
    (X := start m) (Y := fun c => iprop(unscopedSems0 c ∗ has wM c fullShare (wsv m c))) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => read_end m c s')
    (hQ := fun _ h hs => ⟨fun c => ⟨fun w => (h c).1 w, (h c).2.2.2⟩, sem_eq_zero hs fun c => (h c).2.2.1⟩)

/-- The rows of `x` end as they were; -/
theorem finalA_x (c : Dev nD) : finalA m ρ c (0 : Fin 2) = m ((c : Thread nD τ).loc main_arg0) :=
  (dats (F := F) m ρ 0 c).arrAt_in (0 : Fin 2) rfl _

/-- the result's one block is what the body left. -/
theorem finalA_o (c : Dev nD) : finalA m ρ c (1 : Fin 2) = VE m c 16 := by
  have h : (win0_1.blk (0 : Fin 1)).view.read (Elt F) (finalA m ρ c (1 : Fin 2)) = VE m c 16 := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) (finalA m ρ c (1 : Fin 2))).symm.trans h

end Cert.KernelIdeal.Ring

end
-- ==== Proof.Frames.lean ====
/-
The frames of the two kernels, from the one run.
-/
module

public import proofs.«01_k».proof.Defs
public import proofs.«01_k».proof.Proof.Launch
public import proofs.«01_k».proof.Proof.Gen.Kernel

@[expose] public section

noncomputable section

namespace Cert.Proof

open Idealize.ShloMosaic Idealize.SL.Sem
open Cert.KernelIdeal.Ring

/-- The kernel at any float values: it ends, its arguments unchanged, every counter zero. -/
theorem frame_run {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun r h => ⟨fun c => ⟨((h.1 c).1 (0 : Fin 2)).trans (finalA_x m g c), (h.1 c).2⟩, h.2⟩) (run_main m g)

/-- The two kernels' bodies are one text. -/
theorem bodies_same [hKernel : Cert.Kernel.Facts] : Cert.Kernel.defs₀ (F := Bits) = Cert.KernelIdeal.defs₀ (F := Bits) := by
  unfold Cert.Kernel.defs₀ Cert.KernelIdeal.defs₀
  refine congrArg Defs.onTc (funext fun l => funext fun x => ?_)
  rcases l with ⟨_ | n, h⟩
  · rcases x with ⟨t, s⟩
    rfl
  · exact absurd h (Nat.not_lt.2 (Nat.le_add_left _ _))

/-- The kernel and the ideal kernel, over bit values, define the same calls. -/
theorem defs_same [hKernel : Cert.Kernel.Facts] : Cert.Kernel.defs (F := Bits) = Cert.KernelIdeal.defs (F := Bits) := by
  have h : Cert.Kernel.defs (F := Bits) = Pipeline.defs (Cert.KernelIdeal.pcfgs (F := Bits)) (Cert.Kernel.defs₀ (F := Bits)) := rfl
  exact h.trans (congrArg (Pipeline.defs (Cert.KernelIdeal.pcfgs (F := Bits))) (bodies_same))

/-- The kernel's frame at the machine's own float words: its text is the idealized one's. -/
theorem frame_kernel [hKernel : Cert.Kernel.Facts] : Cert.quiescent_Kernel := by
  intro m g _
  rw [defs_same]
  exact frame_run (F := Bits) m g

/-- The idealized kernel's frame. -/
theorem frame_ideal [hKernelIdeal : Cert.KernelIdeal.Facts] : Cert.quiescent_KernelIdeal := fun m g _ => frame_run (F := Ideal) m g

end Cert.Proof

end
-- ==== Proof.Quant.lean ====
/-
The quantiser over the extended reals: without rounding, a value that is at most the scale's maximum comes back as it was,
or as zero where the maximum is infinite; the kernel's form and the reference's do the same.
-/
module

public import Idealize.ShloMosaic.PureOps.Ideal.Laws

@[expose] public section

noncomputable section

namespace Cert.Quant

open Idealize.ShloMosaic

/-- The words of the constants. -/
theorem bits_448 : Ideal.ofBits .f32 0x43E00000#32 = ((448 : ℝ) : EReal) := by
  simp [Ideal.ofBits, Ideal.ieee, -EReal.coe_mul, -EReal.coe_neg]; norm_num
/-- The word of the lower clip bound denotes -448. -/
theorem bits_neg448 : Ideal.ofBits .f32 0xC3E00000#32 = ((-448 : ℝ) : EReal) := by
  simp [Ideal.ofBits, Ideal.ieee, -EReal.coe_mul, -EReal.coe_neg]; norm_num
/-- The word a maximum starts from denotes minus infinity. -/
theorem bits_bot : Ideal.ofBits .f32 0xFF800000#32 = ⊥ := by
  simp [Ideal.ofBits, Ideal.ieee]

/-- What is left of a value `y` when the largest is `g`. -/
def left (g y : EReal) : EReal := if g = ⊤ then 0 else y

/-- The kernel's quantiser: the value times `448 / g`, and back times `g / 448`. -/
theorem times_back (g y : EReal) (h0 : 0 ≤ y) (hy : y ≤ g) :
    y * Ideal.div ((448 : ℝ) : EReal) g * Ideal.div g ((448 : ℝ) : EReal) = left g y := by
  unfold left
  rcases eq_or_ne g ⊤ with hT | hT
  · subst hT
    rw [if_pos rfl, Ideal.div, if_neg (by decide), EReal.inv_top, mul_zero, mul_zero, zero_mul]
  · have hb : y ≠ ⊥ := fun h => by rw [h] at h0; exact absurd h0 (by decide)
    rw [if_neg hT]
    lift y to ℝ using ⟨fun h => hT (top_le_iff.mp (h ▸ hy)), hb⟩
    lift g to ℝ using ⟨hT, fun h => by rw [h] at hy; exact EReal.coe_ne_bot _ (le_bot_iff.mp hy)⟩
    have h0' : 0 ≤ y := by exact_mod_cast h0
    have hy' : y ≤ g := by exact_mod_cast hy
    rcases eq_or_ne g 0 with hg | hg
    · have hz : y = 0 := le_antisymm (hg ▸ hy') h0'
      rw [hz, EReal.coe_zero, zero_mul, zero_mul]
    · rw [Ideal.div_coe hg, Ideal.div_coe (by norm_num)]
      norm_cast
      field_simp

/-- The reference's: the value by the scale `g / 448`, clipped, and back times the scale. -/
theorem clip_back (g y : EReal) (h0 : 0 ≤ y) (hy : y ≤ g) :
    min ((448 : ℝ) : EReal) (max ((-448 : ℝ) : EReal) (Ideal.div y (Ideal.div g ((448 : ℝ) : EReal)))) * Ideal.div g ((448 : ℝ) : EReal) = left g y := by
  unfold left
  rw [Ideal.div_coe (by norm_num) g]
  rcases eq_or_ne g ⊤ with hT | hT
  · subst hT
    rw [if_pos rfl, EReal.top_mul_of_pos (by exact_mod_cast (by norm_num : (0 : ℝ) < 1 / 448)), Ideal.div, if_neg (by decide), EReal.inv_top, mul_zero,
      max_eq_right (by exact_mod_cast (by norm_num : (-448 : ℝ) ≤ 0)), min_eq_right (by exact_mod_cast (by norm_num : (0 : ℝ) ≤ 448)), zero_mul]
  · have hb : y ≠ ⊥ := fun h => by rw [h] at h0; exact absurd h0 (by decide)
    rw [if_neg hT]
    lift y to ℝ using ⟨fun h => hT (top_le_iff.mp (h ▸ hy)), hb⟩
    lift g to ℝ using ⟨hT, fun h => by rw [h] at hy; exact EReal.coe_ne_bot _ (le_bot_iff.mp hy)⟩
    have h0' : 0 ≤ y := by exact_mod_cast h0
    have hy' : y ≤ g := by exact_mod_cast hy
    rcases eq_or_ne g 0 with hg | hg
    · have hz : y = 0 := le_antisymm (hg ▸ hy') h0'
      rw [hz, hg, EReal.coe_zero, zero_mul, mul_zero]
    · have hp : 0 < g := lt_of_le_of_ne (h0'.trans hy') (Ne.symm hg)
      have hs : g * (1 / 448) ≠ 0 := by positivity
      rw [← EReal.coe_mul, Ideal.div_coe hs, ← EReal.coe_mul]
      have h1 : 0 ≤ y * (1 / (g * (1 / 448))) := by positivity
      have h2 : y * (1 / (g * (1 / 448))) ≤ 448 := by
        rw [mul_one_div, div_le_iff₀ (by positivity)]; linarith
      rw [max_eq_right (by exact_mod_cast (by linarith : (-448 : ℝ) ≤ _)), min_eq_right (by exact_mod_cast h2), ← EReal.coe_mul]
      congr 1
      field_simp

/-- What is left is not negative, and at most any larger maximum. -/
theorem left_nonneg (g y : EReal) (h0 : 0 ≤ y) : 0 ≤ left g y := by unfold left; split <;> [exact le_rfl; exact h0]
/-- What a quantiser leaves of a value that is not negative is at most the value. -/
theorem left_le (g y : EReal) (h0 : 0 ≤ y) : left g y ≤ y := by unfold left; split <;> [exact h0; exact le_rfl]

/-- Quantised with a maximum and then with a larger one: as with the larger one alone. -/
theorem left_left {g g' y : EReal} (h : g ≤ g') : left g' (left g y) = left g' y := by
  unfold left
  by_cases h' : g' = ⊤
  · rw [if_pos h', if_pos h']
  · rw [if_neg h', if_neg h', if_neg fun h2 : g = ⊤ => h' (top_le_iff.mp (h2 ▸ h))]

/-- The largest entry of an array, read out of its reduction over every axis, is at most `b` where every entry is. -/
theorem reduce_le {s s' t : Shape} {axes : List (Fin s'.rank)} (v : FVec Ideal s .f32) (hc : s.ShapeCasts s') (hr : s'.Reduces axes t) (ht : ∀ i j : t.Idx, i = j)
    (hf : FKind.Formats .f32) (ha : (0xFF800000#32 : BitVec 32) = FKind.maximumf.neutral .f32 hf) (j : t.Idx) (b : EReal) :
    multiReduction .maximumf axes t (shapeCast s' v hc) 0xFF800000#32 hr hf ha j ≤ b ↔ ∀ i, v i ≤ b := by
  rw [multiReduction_maximumf_eq_fold]
  refine (Finset.fold_max_le (b := Ideal.ofBits .f32 0xFF800000#32) b).trans ?_
  rw [bits_bot]
  refine ⟨fun h i => ?_, fun h => ⟨bot_le, fun i _ => h _⟩⟩
  have h1 := h.2 ((Shape.reshapeEquiv hc).symm i) (Finset.mem_filter.mpr ⟨Finset.mem_univ _, ht _ _⟩)
  simpa only [shapeCast, Equiv.apply_symm_apply] using h1

/-- The same, as the programs write it. -/
theorem top_le {s s' t : Shape} {axes : List (Fin s'.rank)} (v : FVec Ideal s .f32) (hc : s.ShapeCasts s') (hr : s'.Reduces axes t) (ht : ∀ i j : t.Idx, i = j)
    (j : t.Idx) (b : EReal) :
    multiReduction .maximumf axes t (shapeCast s' v hc) 0xFF800000#32 hr (.inl rfl) rfl j ≤ b ↔ ∀ i, v i ≤ b :=
  reduce_le v hc hr ht (.inl rfl) rfl j b

/-- The same, where the one entry is read out of the reduction recast. -/
theorem read_le {s s' t u : Shape} {axes : List (Fin s'.rank)} (v : FVec Ideal s .f32) (hc : s.ShapeCasts s') (hr : s'.Reduces axes t) (ht : ∀ i j : t.Idx, i = j)
    (hu : t.ShapeCasts u) (pos : Fin u.rank → ℕ) (hp : ∀ a, pos a < u.size a) (b : EReal) :
    extractAt pos (shapeCast u (multiReduction .maximumf axes t (shapeCast s' v hc) 0xFF800000#32 hr (.inl rfl) rfl) hu) hp ≤ b ↔ ∀ i, v i ≤ b :=
  top_le v hc hr ht (Shape.reshapeEquiv hu fun a => ⟨pos a, hp a⟩) b

/-- A scalar spread over an array and recast is at most `b` where the scalar is. -/
theorem spread_le {s t : Shape} (x : EReal) (h : s.ShapeCasts t) (j : t.Idx) (b : EReal) : shapeCast t (broadcast s x) h j ≤ b ↔ x ≤ b := Iff.rfl

/-- The reference's last steps at a place: by the scale, clipped, and back. -/
theorem clip_at {s : Shape} (y : FVec Ideal s .f32) (g lo hi : Ideal .f32) (h : FTy.fp8e4m3.bits < FTy.f32.bits) (i : s.Idx) :
    mulf (extf .f32 (truncf .fp8e4m3 (minimumf (broadcast s hi) (maximumf (broadcast s lo) (divf y (broadcast s g)))) h) h) (broadcast s g) i
      = min (hi : EReal) (max (lo : EReal) (Ideal.div (y i) g)) * (g : EReal) := rfl

/-- A magnitude is bounded where the value, not negative, is. -/
theorem abs_le {s : Shape} (y : FVec Ideal s .f32) (i : s.Idx) (h : 0 ≤ (y i : EReal)) (b : EReal) : (absf y i : EReal) ≤ b ↔ (y i : EReal) ≤ b := by
  show max (y i : EReal) (-(y i : EReal)) ≤ b ↔ _
  rw [max_eq_left ((EReal.neg_le_neg_iff.mpr h).trans (by rw [neg_zero]; exact h))]

/-- The scalar operations of the programs. -/
theorem smax_le (x y : Ideal .f32) (b : EReal) : Scalar.maximumf x y ≤ b ↔ x ≤ b ∧ y ≤ b := max_le_iff (a := (x : EReal)) (b := y)
/-- The kernel's scalar division is the division of the extended reals. -/
theorem sdiv (x y : Ideal .f32) : Scalar.divf x y = Ideal.div x y := rfl
/-- The comparison answers one when the second number is below the first. -/
theorem ogt_of_lt {x y : Ideal .f32} (h : (y : EReal) < x) : Scalar.cmpf .ogt x y = 1#1 := by
  show BitVec.ofBool (decide ((y : EReal) < x)) = 1#1
  rw [decide_eq_true h]; rfl
/-- A scalar literal is the number that its word denotes. -/
theorem sbits (w : BitVec 32) : (Scalar.ofBits .f32 w : Ideal .f32) = Ideal.ofBits .f32 w := rfl
/-- The literal zero is at most `b` exactly when zero is. -/
theorem szero_le (b : EReal) : (Scalar.ofBits .f32 0x00000000#32 : Ideal .f32) ≤ b ↔ 0 ≤ b := by rw [sbits, Ideal.ofBits_zero_f32]

end Cert.Quant

end
-- ==== Proof.Amax.lean ====
/-

The maxima the devices exchange, over the extended reals: which products each of them bounds.

-/
module

public import proofs.«01_k».proof.Proof.Out
public import proofs.«01_k».proof.Proof.Run2
public import proofs.«01_k».proof.Proof.Quant
public import Idealize.ShloMosaic.Lib.MatmulPlain

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open Cert.Quant

/-- The one-element shape has a single index. -/
theorem one_eq : ∀ i j : S1.Idx, i = j := fun i j => by
  funext a; apply Fin.ext
  match a with
  | ⟨0, _⟩ => have h1 : (i 0).val < 1 := (i 0).isLt; have h2 : (j 0).val < 1 := (j 0).isLt; show (i 0).val = (j 0).val; omega

section
variable (a : Ideal .f32) (X X' : S512x4096.Idx → Elt Ideal .bf16) (W : S4096x1024.Idx → Elt Ideal .bf16) (b : EReal)

/-- The running maximum after the own block. -/
theorem top36 : k0_pay36 X W ≤ b ↔ 0 ≤ b ∧ ∀ i, k0_pay35 X W i ≤ b :=
  (smax_le _ _ b).trans (and_congr (szero_le b) (read_le (k0_pay35 X W) shapeCasts_S512x1024_S1x512x1024 reduces_S1x512x1024_S1 one_eq shapeCasts_S1_S1x1x1 ![0, 0, 0] inpos_S1x1x1_p0_0_0 b))
/-- After each of the next. -/
theorem top38 : k0_pay38 a (x3 X) W ≤ b ↔ a ≤ b ∧ ∀ i, k0_pay35 X W i ≤ b := by
  rw [← pay37_eq]
  exact (smax_le _ _ b).trans (and_congr Iff.rfl (read_le (k0_pay37 (x3 X) W) shapeCasts_S512x1024_S1x512x1024 reduces_S1x512x1024_S1 one_eq shapeCasts_S1_S1x1x1 ![0, 0, 0] inpos_S1x1x1_p0_0_0 b))
/-- The maximum after one more block is at most `b` exactly when the earlier one and all of the block are. -/
theorem top41 : k0_pay41 a (k0_pay40 (x3 X) W) ≤ b ↔ a ≤ b ∧ ∀ i, k0_pay35 X W i ≤ b := by
  rw [← pay39_eq]
  exact (smax_le _ _ b).trans (and_congr Iff.rfl (read_le (k0_pay39 (x3 X) W) shapeCasts_S512x1024_S1x512x1024 reduces_S1x512x1024_S1 one_eq shapeCasts_S1_S1x1x1 ![0, 0, 0] inpos_S1x1x1_p0_0_0 b))
/-- The same after two more blocks. -/
theorem top45 : k0_pay45 a (k0_pay43 (x3 X) W) (x3 X') W ≤ b ↔ (a ≤ b ∧ ∀ i, k0_pay35 X W i ≤ b) ∧ ∀ i, k0_pay35 X' W i ≤ b := by
  rw [← pay42_eq X W, ← pay44_eq X' W]
  exact (smax_le _ _ b).trans (and_congr
    ((smax_le _ _ b).trans (and_congr Iff.rfl (read_le (k0_pay42 (x3 X) W) shapeCasts_S512x1024_S1x512x1024 reduces_S1x512x1024_S1 one_eq shapeCasts_S1_S1x1x1 ![0, 0, 0] inpos_S1x1x1_p0_0_0 b)))
    (read_le (k0_pay44 (x3 X') W) shapeCasts_S512x1024_S1x512x1024 reduces_S1x512x1024_S1 one_eq shapeCasts_S1_S1x1x1 ![0, 0, 0] inpos_S1x1x1_p0_0_0 b))
/-- The same after the last two blocks, at any place of the row that is sent. -/
theorem top49 (j : S1x1x128.Idx) : k0_pay49 a (k0_pay46 (x3 X)) W (constant S512x1024 .f32 0x00000000#32) (x3 X') W j ≤ b
    ↔ (a ≤ b ∧ ∀ i, k0_pay35 X W i ≤ b) ∧ ∀ i, k0_pay35 X' W i ≤ b := by
  rw [← pay47_eq X W, ← pay48_eq X' W]
  exact (spread_le _ shapeCasts_S1x128_S1x1x128 j b).trans ((smax_le _ _ b).trans (and_congr
    ((smax_le _ _ b).trans (and_congr Iff.rfl (read_le (k0_pay47 (k0_pay46 (x3 X)) W (constant S512x1024 .f32 0x00000000#32)) shapeCasts_S512x1024_S1x512x1024 reduces_S1x512x1024_S1 one_eq shapeCasts_S1_S1x1x1 ![0, 0, 0] inpos_S1x1x1_p0_0_0 b)))
    (read_le (k0_pay48 (x3 X') W) shapeCasts_S512x1024_S1x512x1024 reduces_S1x512x1024_S1 one_eq shapeCasts_S1_S1x1x1 ![0, 0, 0] inpos_S1x1x1_p0_0_0 b)))
/-- The maximum of the two halves of the opposite device's block. -/
theorem top74 (Z Z' : S256x4096.Idx → Elt Ideal .bf16) (j : S1x1x128.Idx) : k0_pay74 (k0_pay72 Z W) Z' W j ≤ b
    ↔ (0 ≤ b ∧ ∀ i, k0_pay71 Z W i ≤ b) ∧ ∀ i, k0_pay73 Z' W i ≤ b :=
  (spread_le _ shapeCasts_S1x128_S1x1x128 j b).trans ((smax_le _ _ b).trans (and_congr
    ((smax_le _ _ b).trans (and_congr (szero_le b) (read_le (k0_pay71 Z W) shapeCasts_S256x1024_S1x256x1024 reduces_S1x256x1024_S1 one_eq shapeCasts_S1_S1x1x1 ![0, 0, 0] inpos_S1x1x1_p0_0_0 b)))
    (read_le (k0_pay73 Z' W) shapeCasts_S256x1024_S1x256x1024 reduces_S1x256x1024_S1 one_eq shapeCasts_S1_S1x1x1 ![0, 0, 0] inpos_S1x1x1_p0_0_0 b)))
/-- The maxima of the tables. -/
theorem top52 (T : S8x1x128.Idx → Elt Ideal .f32) : k0_pay52 T ≤ b ↔ ∀ i, T i ≤ b :=
  read_le T shapeCasts_S8x1x128_S1x8x1x128 reduces_S1x8x1x128_S1 one_eq shapeCasts_S1_S1x1x1x1 ![0, 0, 0, 0] inpos_S1x1x1x1_p0_0_0_0 b
/-- The second maximum is at most `b` exactly when the first one and every entry of the second table are. -/
theorem top76 (T : S8x1x128.Idx → Elt Ideal .f32) : k0_pay76 a T ≤ b ↔ a ≤ b ∧ ∀ i, T i ≤ b :=
  (smax_le _ _ b).trans (and_congr Iff.rfl (read_le T shapeCasts_S8x1x128_S1x8x1x128 reduces_S1x8x1x128_S1 one_eq shapeCasts_S1_S1x1x1x1 ![0, 0, 0, 0] inpos_S1x1x1x1_p0_0_0_0 b))
end

/-- The quantiser's steps, and the scales. -/
theorem qz_at (a b x : EReal) : qz (F := Ideal) a b x = x * a * b := rfl
/-- The first factor is 448 over the first maximum. -/
theorem pay53_at (T : S8x1x128.Idx → Elt Ideal .f32) : k0_pay53 T = Ideal.div ((448 : ℝ) : EReal) (k0_pay52 T) := by
  show Scalar.divf (Scalar.ofBits .f32 0x43E00000#32) (k0_pay52 T) = _
  rw [sdiv, sbits, bits_448]
/-- The first scale is the first maximum over 448. -/
theorem pay54_at (T : S8x1x128.Idx → Elt Ideal .f32) : k0_pay54 T = Ideal.div (k0_pay52 T) ((448 : ℝ) : EReal) := by
  show Scalar.divf (k0_pay52 T) (Scalar.ofBits .f32 0x43E00000#32) = _
  rw [sdiv, sbits, bits_448]
/-- The second factor is 448 over the second maximum. -/
theorem pay77_at (g : Ideal .f32) (T : S8x1x128.Idx → Elt Ideal .f32) : k0_pay77 g T = Ideal.div ((448 : ℝ) : EReal) (k0_pay76 g T) := by
  show Scalar.divf (Scalar.ofBits .f32 0x43E00000#32) (k0_pay76 g T) = _
  rw [sdiv, sbits, bits_448]
/-- The second scale is the second maximum over 448. -/
theorem pay78_at (g : Ideal .f32) (T : S8x1x128.Idx → Elt Ideal .f32) : k0_pay78 g T = Ideal.div (k0_pay76 g T) ((448 : ℝ) : EReal) := by
  show Scalar.divf (k0_pay76 g T) (Scalar.ofBits .f32 0x43E00000#32) = _
  rw [sdiv, sbits, bits_448]

/-! ## The products -/

/-- A product at a place. -/
theorem prod_at (X : S512x4096.Idx → Elt Ideal .bf16) (W : S4096x1024.Idx → Elt Ideal .bf16) (r : Fin 512) (q : Fin 1024) :
    k0_pay35 X W (ix2 r q) = max (∑ k : Fin 4096, X (ix2 r k) * W (ix2 k q)) 0 := by
  have h : shapeCast S512x4096 X shapeCasts_S512x4096_S512x4096 = X := by
    funext i; show X (Shape.reshapeEquiv _ i) = X i; rw [Shape.reshapeEquiv_self]
  show max (FloatOps.matmul (F := Ideal) (DotDims.plain 512 4096 1024) none (shapeCast S512x4096 X shapeCasts_S512x4096_S512x4096) W
    (constant S512x1024 .f32 0x00000000#32) (ix2 r q)) (Ideal.ofBits .f32 0x00000000#32) = _
  rw [h, Ideal.matmul_plain_apply]
  show max (Ideal.ofBits .f32 0x00000000#32 + _) _ = _
  rw [Ideal.ofBits_zero_f32, zero_add]
/-- The same for a half block. -/
theorem prodh_at (X : S256x4096.Idx → Elt Ideal .bf16) (W : S4096x1024.Idx → Elt Ideal .bf16) (r : Fin 256) (q : Fin 1024) :
    k0_pay71 X W (ix2 r q) = max (∑ k : Fin 4096, X (ix2 r k) * W (ix2 k q)) 0 := by
  show max (FloatOps.matmul (F := Ideal) (DotDims.plain 256 4096 1024) none X W
    (constant S256x1024 .f32 0x00000000#32) (ix2 r q)) (Ideal.ofBits .f32 0x00000000#32) = _
  rw [Ideal.matmul_plain_apply]
  show max (Ideal.ofBits .f32 0x00000000#32 + _) _ = _
  rw [Ideal.ofBits_zero_f32, zero_add]

variable (m : (ℓ : Loc nD τ sig) → Buf (Elt Ideal) ℓ)

/-- A half block's products are the block's. -/
theorem half_prod (c : Dev nD) (k : Fin 2) (r : Fin 256) (q : Fin 1024) (h : 256 * k.val + r.val < 512) :
    mh m c k (ix2 r q) = mm m c (pl c 4) (ix2 (⟨256 * k.val + r.val, h⟩ : Fin 512) q) := by
  unfold mh mm
  rw [prodh_at, prod_at]
  refine congrArg (max · 0) (Finset.sum_congr rfl fun k _ => congrArg (· * _) ?_)
  unfold xh
  refine congrArg _ ?_
  funext d; match d with | ⟨0, _⟩ => rfl | ⟨1, _⟩ => rfl

/-- Every entry before the quantiser is its block's product. -/
theorem Y_mm (c : Dev nD) (i : S4096x1024.Idx) : Y m c i = mm m c (bd i) (ir i) := by
  unfold Y
  split
  · rename_i h
    have hb : bd i = pl c 4 := Fin.ext h
    have hr : (i 0).val % 256 < 256 := by omega
    have hk : (hk i).val = if (i 0).val % 512 < 256 then 0 else 1 := by unfold Ring.hk; split <;> rfl
    have hs : 256 * (Ring.hk i).val + (i 0).val % 256 = (i 0).val % 512 := by rw [hk]; split <;> omega
    rw [hb]
    unfold ih ir
    refine (half_prod m c (Ring.hk i) ⟨(i 0).val % 256, hr⟩ (i 1 : Fin 1024) (by show 256 * (Ring.hk i).val + (i 0).val % 256 < 512; omega)).trans ?_
    refine congrArg (mm m c (pl c 4)) ?_
    have := Fin.ext (a := ⟨256 * (Ring.hk i).val + (i 0).val % 256, by omega⟩) (b := (⟨(i 0).val % 512, by omega⟩ : Fin 512)) hs
    exact congrArg (fun x : Fin 512 => (ix2 x (i 1 : Fin 1024) : S512x1024.Idx)) this
  · rfl

/-- No product is negative. -/
theorem mm_nonneg (c e : Dev nD) (i : S512x1024.Idx) : 0 ≤ mm m c e i := by
  obtain ⟨r, q, rfl⟩ : ∃ (r : Fin 512) (q : Fin 1024), i = ix2 r q := ⟨i 0, i 1, eq_ix2 i⟩
  unfold mm; rw [prod_at]; exact le_max_right _ _

/-- All products of one block on one device are at most `b`. -/
def below (b : EReal) (c e : Dev nD) : Prop := ∀ i, mm m c e i ≤ b

/-- A device's first row is at most `b` exactly when zero and its seven blocks other than the opposite one are. -/
theorem am1_le (c : Dev nD) (j : S1x1x128.Idx) (b : EReal) : am1 m c j ≤ b ↔
    (((((((0 ≤ b ∧ below m b c c) ∧ below m b c (pl c 7)) ∧ below m b c (pl c 1)) ∧ below m b c (pl c 6)) ∧ below m b c (pl c 2))
      ∧ below m b c (pl c 5)) ∧ below m b c (pl c 3)) := by
  unfold am1
  rw [top49, top45, top41, top38, top36]
  rfl

/-- A device's second row is at most `b` exactly when zero and the opposite device's block are. -/
theorem am2_le (c : Dev nD) (j : S1x1x128.Idx) (b : EReal) : am2 m c j ≤ b ↔ 0 ≤ b ∧ below m b c (pl c 4) := by
  unfold am2
  rw [top74]
  refine ⟨fun h => ⟨h.1.1, fun i => ?_⟩, fun h => ⟨⟨h.1, fun i => ?_⟩, fun i => ?_⟩⟩
  · obtain ⟨r, q, rfl⟩ : ∃ (r : Fin 512) (q : Fin 1024), i = ix2 r q := ⟨i 0, i 1, eq_ix2 i⟩
    by_cases hr : r.val < 256
    · have h1 := half_prod m c 0 ⟨r.val, hr⟩ q (by show 256 * 0 + r.val < 512; omega)
      have h2 : (⟨256 * (0 : Fin 2).val + r.val, by show 256 * 0 + r.val < 512; omega⟩ : Fin 512) = r := Fin.ext (by show 256 * 0 + r.val = r.val; omega)
      exact (congrArg (fun x : Fin 512 => mm m c (pl c 4) (ix2 x q)) h2).symm.le.trans (h1.symm.le.trans (h.1.2 _))
    · have hr' : r.val - 256 < 256 := by have := r.isLt; omega
      have h1 := half_prod m c 1 ⟨r.val - 256, hr'⟩ q (by show 256 * 1 + (r.val - 256) < 512; omega)
      have h2 : (⟨256 * (1 : Fin 2).val + (r.val - 256), by show 256 * 1 + (r.val - 256) < 512; omega⟩ : Fin 512) = r := Fin.ext (by show 256 * 1 + (r.val - 256) = r.val; omega)
      exact (congrArg (fun x : Fin 512 => mm m c (pl c 4) (ix2 x q)) h2).symm.le.trans (h1.symm.le.trans (h.2 _))
  · obtain ⟨r, q, rfl⟩ : ∃ (r : Fin 256) (q : Fin 1024), i = ix2 r q := ⟨i 0, i 1, eq_ix2 i⟩
    exact (half_prod m c 0 r q (by show 256 * 0 + r.val < 512; have := r.isLt; omega)).le.trans (h.2 _)
  · obtain ⟨r, q, rfl⟩ : ∃ (r : Fin 256) (q : Fin 1024), i = ix2 r q := ⟨i 0, i 1, eq_ix2 i⟩
    exact (half_prod m c 1 r q (by show 256 * 1 + r.val < 512; have := r.isLt; omega)).le.trans (h.2 _)

/-- A table's entries are bounded where its rows are; the rows are the devices', counted from any one. -/
theorem tab_le (A : Dev nD → S1x1x128.Idx → Elt Ideal .f32) (c : Dev nD) (b : EReal) :
    (∀ i, tab (F := Ideal) (fun d => A (pl c (8 - d.val))) i ≤ b) ↔ ∀ e j, A e j ≤ b := by
  refine ⟨fun h e j => ?_, fun h i => h _ _⟩
  have hc : c.val < 8 := c.isLt
  have he : e.val < 8 := e.isLt
  have hj : j = ix3 (0 : Fin 1) (j 1 : Fin 1) (j 2 : Fin 128) := by
    funext a; apply Fin.ext
    match a with
    | ⟨0, _⟩ => have h1 : (j 0).val < 1 := (j 0).isLt; show (j 0).val = 0; omega
    | ⟨1, _⟩ => rfl
    | ⟨2, _⟩ => rfl
  have hd : (c.val + 8 - e.val) % 8 < 8 := by omega
  have h1 := h (ix3 (⟨(c.val + 8 - e.val) % 8, hd⟩ : Fin 8) (j 1 : Fin 1) (j 2 : Fin 128))
  have h2 : pl c (8 - (c.val + 8 - e.val) % 8) = e := Fin.ext (by show (c.val + (8 - (c.val + 8 - e.val) % 8)) % 8 = e.val; omega)
  have h3 : A (pl c (8 - (c.val + 8 - e.val) % 8)) (ix3 (0 : Fin 1) (j 1 : Fin 1) (j 2 : Fin 128)) ≤ b := h1
  rw [h2] at h3
  exact (le_of_eq (congrArg (A e) hj)).trans h3

/-- The first maximum bounds every block but the opposite devices'. -/
theorem g1_le (c : Dev nD) (b : EReal) : g1 m c ≤ b ↔ ∀ e j, am1 m e j ≤ b := (top52 b (T1 m c)).trans (tab_le (am1 m) c b)
/-- The second maximum is at most `b` exactly when the first one and the second rows of all devices are. -/
theorem g2_le (c : Dev nD) (b : EReal) : g2 m c ≤ b ↔ g1 m c ≤ b ∧ ∀ e j, am2 m e j ≤ b :=
  (top76 (g1 m c) b (T2 m c)).trans (and_congr Iff.rfl (tab_le (am2 m) c b))

/-- The first maximum bounds every product on every device, but for those of the block opposite to it. -/
theorem g1_ge (c e f : Dev nD) (hf : f ≠ pl e 4) (i : S512x1024.Idx) : mm m e f i ≤ g1 m c := by
  have h := (am1_le m e (fun a => match a with | ⟨0, _⟩ => (0 : Fin 1) | ⟨1, _⟩ => (0 : Fin 1) | ⟨2, _⟩ => (0 : Fin 128)) _).mp ((g1_le m c _).mp le_rfl e _)
  obtain ⟨⟨⟨⟨⟨⟨⟨_, h0⟩, h7⟩, h1⟩, h6⟩, h2⟩, h5⟩, h3⟩ := h
  have he : e.val < 8 := e.isLt
  have hv : f.val < 8 := f.isLt
  have hx : f.val ≠ (e.val + 4) % 8 := fun h => hf (Fin.ext h)
  have hcase : f = e ∨ f = pl e 7 ∨ f = pl e 1 ∨ f = pl e 6 ∨ f = pl e 2 ∨ f = pl e 5 ∨ f = pl e 3 := by
    have : f.val = e.val ∨ f.val = (e.val + 7) % 8 ∨ f.val = (e.val + 1) % 8 ∨ f.val = (e.val + 6) % 8 ∨ f.val = (e.val + 2) % 8 ∨ f.val = (e.val + 5) % 8 ∨ f.val = (e.val + 3) % 8 := by omega
    rcases this with h | h | h | h | h | h | h
    · exact .inl (Fin.ext h)
    · exact .inr (.inl (Fin.ext h))
    · exact .inr (.inr (.inl (Fin.ext h)))
    · exact .inr (.inr (.inr (.inl (Fin.ext h))))
    · exact .inr (.inr (.inr (.inr (.inl (Fin.ext h)))))
    · exact .inr (.inr (.inr (.inr (.inr (.inl (Fin.ext h))))))
    · exact .inr (.inr (.inr (.inr (.inr (.inr (Fin.ext h))))))
  rcases hcase with rfl | rfl | rfl | rfl | rfl | rfl | rfl
  exacts [h0 i, h7 i, h1 i, h6 i, h2 i, h5 i, h3 i]

/-- The second maximum is the least bound of all products and zero. -/
theorem g2_iff (c : Dev nD) (b : EReal) : g2 m c ≤ b ↔ 0 ≤ b ∧ ∀ e f, below m b e f := by
  have z1 : S1x1x128.Idx := fun a => match a with | ⟨0, _⟩ => (0 : Fin 1) | ⟨1, _⟩ => (0 : Fin 1) | ⟨2, _⟩ => (0 : Fin 128)
  rw [g2_le]
  constructor
  · rintro ⟨h1, h2⟩
    refine ⟨((am2_le m c z1 b).mp (h2 c z1)).1, fun e f i => ?_⟩
    by_cases hf : f = pl e 4
    · subst hf; exact ((am2_le m e z1 b).mp (h2 e z1)).2 i
    · exact (g1_ge m c e f hf i).trans h1
  · rintro ⟨h0, h⟩
    refine ⟨(g1_le m c b).mpr fun e j => (am1_le m e j b).mpr ?_, fun e j => (am2_le m e j b).mpr ⟨h0, h e _⟩⟩
    exact ⟨⟨⟨⟨⟨⟨⟨h0, h e _⟩, h e _⟩, h e _⟩, h e _⟩, h e _⟩, h e _⟩, h e _⟩

/-- The second maximum is at least the first. -/
theorem g1_le_g2 (c : Dev nD) : g1 m c ≤ g2 m c := ((g2_le m c _).mp le_rfl).1

/-! ## The result -/

/-- The result at a place: what the quantiser leaves of the product there, with the maximum of all. -/
theorem VE_at (c : Dev nD) (i : S4096x1024.Idx) : VE m c 16 i = left (g2 m c) (mm m c (bd i) (ir i)) := by
  have h0 := mm_nonneg m c (bd i) (ir i)
  have h2 : mm m c (bd i) (ir i) ≤ g2 m c := ((g2_iff m c _).mp le_rfl).2 c (bd i) (ir i)
  have e1 : ∀ y : EReal, q1 m c y = y * Ideal.div ((448 : ℝ) : EReal) (g1 m c) * Ideal.div (g1 m c) ((448 : ℝ) : EReal) := fun y => by
    unfold q1 g1; rw [qz_at, pay53_at, pay54_at]
  have e2 : ∀ y : EReal, q2 m c y = y * Ideal.div ((448 : ℝ) : EReal) (g2 m c) * Ideal.div (g2 m c) ((448 : ℝ) : EReal) := fun y => by
    unfold q2 g2; rw [qz_at, pay77_at, pay78_at]
  have hi : (i 0).val < 256 * 16 := (i 0).isLt
  unfold VE
  rw [Y_mm]
  by_cases hf : (i 0).val / 512 = far c
  · rw [if_pos hf, e2, times_back _ _ h0 h2]
  · have h1 : mm m c (bd i) (ir i) ≤ g1 m c := g1_ge m c c (bd i) (fun h => hf (congrArg Fin.val h)) _
    rw [if_neg hf, e1, times_back _ _ h0 h1]
    by_cases hu : upd m c
    · rw [if_pos ⟨hu, hi⟩, e2, times_back _ _ (left_nonneg _ _ h0) ((left_le _ _ h0).trans h2), left_left (g1_le_g2 m c)]
    · rw [if_neg fun h => hu h.1]
      have hn : ¬ g1 m c < g2 m c := fun h => hu (ogt_of_lt h)
      rw [le_antisymm (g1_le_g2 m c) (not_lt.mp hn)]

end Cert.KernelIdeal.Ring

end
-- ==== Proof.RefVal.lean ====
/-
What the reference computes, place by place, over the extended reals.
-/
module

public import proofs.«01_k».proof.Proof.Quant
public import proofs.«01_k».proof.Proof.Gen.ReferenceIdeal.Value
public import Idealize.ShloMosaic.Lib.MatmulPlain

@[expose] public section

noncomputable section

namespace Cert.ReferenceIdeal.Places

open Cert.ReferenceIdeal Cert.ReferenceIdeal.Gen
open Idealize.ShloMosaic Idealize.ShloMosaic.ValueIdx
open Cert.Quant

variable (X : FVec Ideal S4096x4096 .bf16) (W : FVec Ideal S4096x8192 .f32)

/-- The one-element shape has a single index. -/
theorem one_eq : ∀ i j : S1.Idx, i = j := fun i j => by
  funext a; apply Fin.ext
  match a with
  | ⟨0, _⟩ => have h1 : (i 0).val < 1 := (i 0).isLt; have h2 : (j 0).val < 1 := (j 0).isLt; show (i 0).val = (j 0).val; omega

/-- The products, none negative. -/
def yR : FVec Ideal S4096x8192 .f32 :=
  maximumf (matmul dot_S4096x4096_S4096x8192_S4096x8192_1_0_0_1_n_n none X (truncf .bf16 W bitsLt_bf16_f32) (constant S4096x8192 .f32 0x00000000#32))
    (broadcast S4096x8192 (Scalar.ofBits .f32 0x00000000#32))
/-- Their largest. -/
def gR : Ideal .f32 := extractAt ![0, 0, 0] (shapeCast S1x1x1 (multiReduction .maximumf [1, 2] S1 (shapeCast S1x4096x8192 (absf (yR X W)) shapeCasts_S4096x8192_S1x4096x8192)
  0xFF800000#32 reduces_S1x4096x8192_S1 (.inl rfl) rfl) shapeCasts_S1_S1x1x1) inpos_S1x1x1_p0_0_0

/-- A product at a place. -/
theorem yR_at (r : Fin 4096) (q : Fin 8192) : yR X W (ix2 r q) = max (∑ k : Fin 4096, (X (ix2 r k) : EReal) * W (ix2 k q)) 0 := by
  show max (FloatOps.matmul (F := Ideal) (DotDims.plain 4096 4096 8192) none X (truncf .bf16 W bitsLt_bf16_f32)
    (constant S4096x8192 .f32 0x00000000#32) (ix2 r q)) (Ideal.ofBits .f32 0x00000000#32) = _
  rw [Ideal.matmul_plain_apply]
  show max (Ideal.ofBits .f32 0x00000000#32 + _) _ = _
  rw [Ideal.ofBits_zero_f32, zero_add]
  rfl

/-- The reference's products after the ReLU are not negative. -/
theorem yR_nonneg (i : S4096x8192.Idx) : 0 ≤ (yR X W i : EReal) := by
  obtain ⟨r, q, rfl⟩ : ∃ (r : Fin 4096) (q : Fin 8192), i = ix2 r q := ⟨i 0, i 1, eq_ix2 i⟩
  rw [yR_at]; exact le_max_right _ _

/-- The largest is the least bound of all. -/
theorem gR_le (b : EReal) : (gR X W : EReal) ≤ b ↔ ∀ i, (yR X W i : EReal) ≤ b :=
  (read_le (absf (yR X W)) shapeCasts_S4096x8192_S1x4096x8192 reduces_S1x4096x8192_S1 one_eq shapeCasts_S1_S1x1x1 ![0, 0, 0] inpos_S1x1x1_p0_0_0 b).trans
    (forall_congr' fun i => abs_le (yR X W) i (yR_nonneg X W i) b)

/-- The result at a place: what the quantiser leaves of the product there. -/
theorem result_at (i : S4096x8192.Idx) : k0_pay1 (F := Ideal) X W i = left (gR X W) (yR X W i) := by
  refine (clip_at (yR X W) (Scalar.divf (gR X W) (Scalar.ofBits .f32 0x43E00000#32)) (Scalar.ofBits .f32 0xC3E00000#32) (Scalar.ofBits .f32 0x43E00000#32)
    bitsLt_fp8e4m3_f32 i).trans ?_
  rw [sdiv, sbits, sbits, bits_448, bits_neg448]
  exact clip_back _ _ (yR_nonneg X W i) ((gR_le X W _).mp le_rfl i)

end Cert.ReferenceIdeal.Places

end
-- ==== Proof.Value.lean ====
/-

The kernel's result is the reference's, block by block.

-/
module

public import proofs.«01_k».proof.Proof.Amax
public import proofs.«01_k».proof.Proof.RefVal
public import proofs.«01_k».proof.Proof.Launch
public import proofs.«01_k».proof.Defs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open Cert.Quant Cert.ReferenceIdeal.Places

variable (m : (ℓ : Loc nD τ sig) → Buf (Elt Ideal) ℓ)

/-- A device's rows of `x` are its array. -/
theorem xs_arr (c : Dev nD) : xs m c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) (m ((c : Thread nD τ).loc main_arg0))
/-- Its columns of `w` are its array. -/
theorem wsv_arr (c : Dev nD) : wsv m c = m ((c : Thread nD τ).loc main_arg1) := rfl

section
variable (X : (⟨2, ![4096, 4096]⟩ : Shape).Idx → EReal) (W : (⟨2, ![4096, 8192]⟩ : Shape).Idx → EReal)
  (hx : ∀ c : Dev nD, xs m c = Layout.block ⟨2, ![512, 4096]⟩ ⟨2, ![4096, 4096]⟩ 0 8 c X)
  (hw : ∀ c : Dev nD, wsv m c = Layout.block ⟨2, ![4096, 1024]⟩ ⟨2, ![4096, 8192]⟩ 1 8 c W)
include hx hw

/-- The products of device `c` with the rows of device `e` are a block of the reference's. -/
theorem mm_ref (c e : Dev nD) (r : Fin 512) (q : Fin 1024) (h1 : 512 * e.val + r.val < 4096) (h2 : 1024 * c.val + q.val < 8192) :
    mm m c e (ix2 r q) = yR X W (ix2 (⟨512 * e.val + r.val, h1⟩ : Fin 4096) (⟨1024 * c.val + q.val, h2⟩ : Fin 8192)) := by
  unfold mm
  rw [prod_at, yR_at]
  refine congrArg (max · 0) (Finset.sum_congr rfl fun k _ => congrArg₂ (· * ·) ?_ ?_)
  · rw [hx e]
    refine congrArg X (funext fun a => Fin.ext ?_)
    match a with
    | ⟨0, _⟩ => show e.val * 512 + r.val = 512 * e.val + r.val; omega
    | ⟨1, _⟩ => rfl
  · show wsv m c (ix2 k q) = _
    rw [hw c]
    refine congrArg W (funext fun a => Fin.ext ?_)
    match a with
    | ⟨0, _⟩ => rfl
    | ⟨1, _⟩ => show c.val * 1024 + q.val = 1024 * c.val + q.val; omega

/-- The second maximum is the reference's, on every device. -/
theorem g2_ref (c : Dev nD) : g2 m c = gR X W := by
  refine le_antisymm ((g2_iff m c _).mpr ⟨?_, fun e f i => ?_⟩) ((gR_le X W _).mpr fun I => ?_)
  · exact (yR_nonneg X W (ix2 (0 : Fin 4096) (0 : Fin 8192))).trans ((gR_le X W _).mp le_rfl _)
  · obtain ⟨r, q, rfl⟩ : ∃ (r : Fin 512) (q : Fin 1024), i = ix2 r q := ⟨i 0, i 1, eq_ix2 i⟩
    have he : e.val < 8 := e.isLt
    have hf : f.val < 8 := f.isLt
    exact (mm_ref m X W hx hw e f r q (by have := r.isLt; omega) (by have := q.isLt; omega)).le.trans ((gR_le X W _).mp le_rfl _)
  · obtain ⟨r, q, rfl⟩ : ∃ (r : Fin 4096) (q : Fin 8192), I = ix2 r q := ⟨I 0, I 1, eq_ix2 I⟩
    have hr : r.val < 4096 := r.isLt
    have hq : q.val < 8192 := q.isLt
    let e : Dev nD := ⟨q.val / 1024, by show q.val / 1024 < 8; omega⟩
    let f : Dev nD := ⟨r.val / 512, by show r.val / 512 < 8; omega⟩
    have h := mm_ref m X W hx hw e f (⟨r.val % 512, by omega⟩ : Fin 512) (⟨q.val % 1024, by omega⟩ : Fin 1024)
      (by show 512 * (r.val / 512) + r.val % 512 < 4096; omega) (by show 1024 * (q.val / 1024) + q.val % 1024 < 8192; omega)
    have e1 : (⟨512 * f.val + r.val % 512, by show 512 * (r.val / 512) + r.val % 512 < 4096; omega⟩ : Fin 4096) = r :=
      Fin.ext (by show 512 * (r.val / 512) + r.val % 512 = r.val; omega)
    have e2 : (⟨1024 * e.val + q.val % 1024, by show 1024 * (q.val / 1024) + q.val % 1024 < 8192; omega⟩ : Fin 8192) = q :=
      Fin.ext (by show 1024 * (q.val / 1024) + q.val % 1024 = q.val; omega)
    have h' := h.trans (congrArg (yR X W) (congrArg₂ ix2 e1 e2))
    exact h'.symm.le.trans (((g2_iff m c _).mp le_rfl).2 e f _)

/-- The kernel's result on device `c` is its block of the reference's. -/
theorem VE_ref (c : Dev nD) : VE m c 16 = Layout.block ⟨2, ![4096, 1024]⟩ ⟨2, ![4096, 8192]⟩ 1 8 c (Cert.ReferenceIdeal.Value.G2 (F := Ideal) X W) := by
  funext i
  obtain ⟨r, q, rfl⟩ : ∃ (r : Fin 4096) (q : Fin 1024), i = ix2 r q := ⟨i 0, i 1, eq_ix2 i⟩
  have hr : r.val < 4096 := r.isLt
  have hq : q.val < 1024 := q.isLt
  have hc : c.val < 8 := c.isLt
  rw [VE_at, g2_ref m X W hx hw]
  refine Eq.trans ?_ (result_at X W _).symm
  refine congrArg (left _) ?_
  refine (mm_ref m X W hx hw c (bd (ix2 r q)) (⟨r.val % 512, by omega⟩ : Fin 512) q (by show 512 * (r.val / 512) + r.val % 512 < 4096; omega) (by omega)).trans
    (congrArg (yR X W) (funext fun a => Fin.ext ?_))
  match a with
  | ⟨0, _⟩ => show 512 * (r.val / 512) + r.val % 512 = r.val; omega
  | ⟨1, _⟩ => show 1024 * c.val + q.val = c.val * 1024 + q.val; omega
end

end Cert.KernelIdeal.Ring

namespace Cert.Proof

open Idealize.ShloMosaic Idealize.SL.Sem Cert.KernelIdeal.Ring

/-- The kernel and the reference, run from the same data, leave the same result, their arguments unchanged. -/
theorem values : algebraic_KernelIdeal_ReferenceIdeal (hKernelIdeal := Cert.KernelIdeal.Gen.facts) (hReferenceIdeal := Cert.ReferenceIdeal.Gen.facts) := by
  intro m g m' g' _ ha
  refine ⟨Cert.ReferenceIdeal.Value.G2 (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)),
    (θ_run _ _ _).mono (fun r h c => ?_) (run_main m g), (θ_run Cert.ReferenceIdeal.defs _ _).mono (fun r h => h 0) (Cert.ReferenceIdeal.Value.run m' g')⟩
  obtain ⟨hw, h1⟩ := h.1 c
  refine ⟨?_, (hw 0).trans (finalA_x m g c), h1⟩
  exact ((hw 1).trans (finalA_o m g c)).trans (VE_ref m _ _ (fun c => (xs_arr m c).trans (ha c).1) (fun c => (wsv_arr m c).trans (ha c).2) c)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel, its ideal form and the reference run to their ends, and the kernel's ideal result is the reference's, block by block. -/
theorem claim : Cert.Claim := ⟨Cert.Kernel.Gen.facts, Cert.KernelIdeal.Gen.facts, Cert.ReferenceIdeal.Gen.facts,
  frame_kernel, frame_ideal, fun m g _ => Cert.ReferenceIdeal.Gen.frame m g, trivial, values⟩

end Cert.Proof

end
